-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 32768]⟩ (Layout.meshBlock [2, 4, 4] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .bf16) (main_arg1 : FVec F S1024x8192 .bf16) : IVec S512x1024 1 × IVec S1024x8192 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_v3 : FVec F S1024x8192 .bf16 := Host.absf main_arg1
  let main_cst_0 : FVec F S_ .bf16 := constant S_ .bf16 0x7F80#16
  let main_v4 : FVec F S1024x8192 .bf16 := broadcastInDim S1024x8192 ![] bcast_S_S1024x8192 main_cst_0
  let main_v5 : IVec S1024x8192 1 := cmpf .olt main_v3 main_v4
  (main_v2, main_v5)
-- ==== Pre_finite_ReferenceIdeal.lean ====
abbrev S512x1024 : Shape := ⟨2, ![512, 1024]⟩
abbrev S1024x32768 : Shape := ⟨2, ![1024, 32768]⟩
abbrev S_ : Shape := ⟨0, ![]⟩

class Facts : Prop where
  bcast_S_S512x1024 : S_.BroadcastsInDim S512x1024 (![] : Fin 0 → Fin S512x1024.rank)
  bcast_S_S1024x32768 : S_.BroadcastsInDim S1024x32768 (![] : Fin 0 → Fin S1024x32768.rank)

variable [Facts]

def fn {F : FTy → Type} [FloatOps F] (main_arg0 : FVec F S512x1024 .bf16) (main_arg1 : FVec F S1024x32768 .bf16) : IVec S512x1024 1 × IVec S1024x32768 1 :=
  let main_v0 : FVec F S512x1024 .bf16 := Host.absf main_arg0
  let main_cst : FVec F S_ .bf16 := constant S_ .bf16 0x7F80#16
  let main_v1 : FVec F S512x1024 .bf16 := broadcastInDim S512x1024 ![] bcast_S_S512x1024 main_cst
  let main_v2 : IVec S512x1024 1 := cmpf .olt main_v0 main_v1
  let main_v3 : FVec F S1024x32768 .bf16 := Host.absf main_arg1
  let main_cst_0 : FVec F S_ .bf16 := constant S_ .bf16 0x7F80#16
  let main_v4 : FVec F S1024x32768 .bf16 := broadcastInDim S1024x32768 ![] bcast_S_S1024x32768 main_cst_0
  let main_v5 : IVec S1024x32768 1 := cmpf .olt main_v3 main_v4
  (main_v2, main_v5)
-- ==== Kernel.lean ====
abbrev S512x1024 : Shape := ⟨2, ![512, 1024]⟩
abbrev S1024x8192 : Shape := ⟨2, ![1024, 8192]⟩
abbrev S512x8192 : Shape := ⟨2, ![512, 8192]⟩
abbrev S512x32768 : Shape := ⟨2, ![512, 32768]⟩
abbrev S3x512x8192 : Shape := ⟨3, ![3, 512, 8192]⟩
abbrev S2x128x8192 : Shape := ⟨3, ![2, 128, 8192]⟩
abbrev S512x1 : Shape := ⟨2, ![512, 1]⟩
abbrev S3 : Shape := ⟨1, ![3]⟩
abbrev S2 : Shape := ⟨1, ![2]⟩
abbrev S_ : Shape := ⟨0, ![]⟩
abbrev S1 : Shape := ⟨1, ![1]⟩
abbrev S1x512x4096 : Shape := ⟨3, ![1, 512, 4096]⟩
abbrev S512x4096 : Shape := ⟨2, ![512, 4096]⟩
abbrev S128x8192 : Shape := ⟨2, ![128, 8192]⟩
abbrev S128 : Shape := ⟨1, ![128]⟩
abbrev S128x1 : Shape := ⟨2, ![128, 1]⟩
abbrev S1x128x4096 : Shape := ⟨3, ![1, 128, 4096]⟩
abbrev S128x4096 : Shape := ⟨2, ![128, 4096]⟩
abbrev S1x128x8192 : Shape := ⟨3, ![1, 128, 8192]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S1024x8192, .bf16⟩
  | .hbm, ⟨2, _⟩ => ⟨S512x8192, .f32⟩
  | .hbm, ⟨3, _⟩ => ⟨S512x8192, .bf16⟩
  | .hbm, ⟨4, _⟩ => ⟨S512x32768, .f32⟩
  | .local _ .vmem, ⟨0, _⟩ => ⟨S512x8192, .bf16⟩
  | .local _ .vmem, ⟨1, _⟩ => ⟨S3x512x8192, .bf16⟩
  | .local _ .vmem, ⟨2, _⟩ => ⟨S2x128x8192, .f32⟩
  | .local _ .vmem, ⟨3, _⟩ => ⟨S512x1, .f32⟩
  | .local _ .vmem, ⟨4, _⟩ => ⟨S512x1, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_19 : BitVec 32 := 16#32
  let v36 : BitVec 32 := Scalar.muli v2 c16_i32_19
  let v37 : BitVec 32 := Scalar.addi c0_i32_20 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v38 : BitVec 32 := Scalar.muli v5 c4_i32_21
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_22 : BitVec 32 := 1#32
  let v40 : BitVec 32 := Scalar.muli v19 c1_i32_22
  let v41 : BitVec 32 := Scalar.addi v39 v40
  v41.toNat
def k0_dev2 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v42 : BitVec 32 := Scalar.muli v2 c16_i32_24
  let v43 : BitVec 32 := Scalar.addi c0_i32_25 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_26 : BitVec 32 := 4#32
  let v44 : BitVec 32 := Scalar.muli v5 c4_i32_26
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_27 : BitVec 32 := 1#32
  let v46 : BitVec 32 := Scalar.muli v30 c1_i32_27
  let v47 : BitVec 32 := Scalar.addi v45 v46
  v47.toNat
def k0_dev3 (d0 : Dev nD) : Nat :=
  let c0_i32_30 : BitVec 32 := 0#32
  let c1_i32_17 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v35 : BitVec 32 := Scalar.subi c1_i32_17 v2
  let c16_i32_29 : BitVec 32 := 16#32
  let v48 : BitVec 32 := Scalar.muli v35 c16_i32_29
  let v49 : BitVec 32 := Scalar.addi c0_i32_30 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v50 : BitVec 32 := Scalar.muli v5 c4_i32_31
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v52 : BitVec 32 := Scalar.muli v8 c1_i32_32
  let v53 : BitVec 32 := Scalar.addi v51 v52
  v53.toNat
def k0_off1 (d0 : Dev nD) : Fin 3 → Nat :=
  let c0_i32_33 : BitVec 32 := 0#32
  let c0_i32_40 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v31 : BitVec 32 := Scalar.muli v2 c4096_i32
  ![0, 0, v31.toNat]
def k0_off2 (d0 : Dev nD) : Fin 2 → Nat :=
  let c0_i32_41 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v31 : BitVec 32 := Scalar.muli v2 c4096_i32
  ![0, v31.toNat]
def k0_dev4 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v54 : BitVec 32 := Scalar.muli v2 c16_i32_36
  let v55 : BitVec 32 := Scalar.addi c0_i32_37 v54
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v56 : BitVec 32 := Scalar.muli v5 c4_i32_38
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_39 : BitVec 32 := 1#32
  let v58 : BitVec 32 := Scalar.muli v30 c1_i32_39
  let v59 : BitVec 32 := Scalar.addi v57 v58
  v59.toNat
@[reducible] def k0_t1_loop : Scf.Loop 32 :=
  let c0_i32_42 : BitVec 32 := 0#32
  let c4_i32_43 : BitVec 32 := 4#32
  let v67 : BitVec 32 := Scalar.addi c0_i32_42 c4_i32_43
  let c1_i32_44 : BitVec 32 := 1#32
  ⟨c0_i32_42, v67, c1_i32_44⟩
def k0_off3 (k0_t1 : Fin k0_t1_loop.trips) : Fin 2 → Nat :=
  let c0_i32_42 : BitVec 32 := 0#32
  let c1_i32_44 : BitVec 32 := 1#32
  let arg11 : BitVec 32 := Scf.iv c0_i32_42 c1_i32_44 k0_t1
  let c128_i32_598 : BitVec 32 := 128#32
  let v754 : BitVec 32 := Scalar.muli arg11 c128_i32_598
  let v755 : Index := Scalar.indexCast v754
  let c0_599 : Index := 0#32
  ![v755.toNat, 0]
def k0_off4 (k0_t1 : Fin k0_t1_loop.trips) : Fin 2 → Nat :=
  let c0_i32_42 : BitVec 32 := 0#32
  let c1_i32_44 : BitVec 32 := 1#32
  let arg11 : BitVec 32 := Scf.iv c0_i32_42 c1_i32_44 k0_t1
  let c128_i32_598 : BitVec 32 := 128#32
  let v754 : BitVec 32 := Scalar.muli arg11 c128_i32_598
  let v761 : Index := Scalar.indexCast v754
  let c0_601 : Index := 0#32
  ![v761.toNat, 0]
def k0_off5 (d0 : Dev nD) : Fin 3 → Nat :=
  let c1_i32_62 : BitVec 32 := 1#32
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v31 : BitVec 32 := Scalar.muli v2 c4096_i32
  ![1, 0, v31.toNat]
def k0_dev5 (d0 : Dev nD) : Nat :=
  let c0_i32_66 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_65 : BitVec 32 := 16#32
  let v84 : BitVec 32 := Scalar.muli v2 c16_i32_65
  let v85 : BitVec 32 := Scalar.addi c0_i32_66 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_67 : BitVec 32 := 4#32
  let v86 : BitVec 32 := Scalar.muli v5 c4_i32_67
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_68 : BitVec 32 := 1#32
  let v88 : BitVec 32 := Scalar.muli v30 c1_i32_68
  let v89 : BitVec 32 := Scalar.addi v87 v88
  v89.toNat
def k0_dev6 (d0 : Dev nD) : Nat :=
  let c0_i32_77 : BitVec 32 := 0#32
  let c1_i32_71 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v98 : BitVec 32 := Scalar.subi c1_i32_71 v2
  let c16_i32_76 : BitVec 32 := 16#32
  let v99 : BitVec 32 := Scalar.muli v98 c16_i32_76
  let v100 : BitVec 32 := Scalar.addi c0_i32_77 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v101 : BitVec 32 := Scalar.muli v5 c4_i32_78
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v103 : BitVec 32 := Scalar.muli v8 c1_i32_79
  let v104 : BitVec 32 := Scalar.addi v102 v103
  v104.toNat
def k0_cond1 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_82 : BitVec 32 := 0#32
  let v113 : BitVec 1 := Scalar.cmpi .eq v2 c0_i32_82
  let v114 : BitVec 32 := Scalar.extui v113
  let c0_i32_83 : BitVec 32 := 0#32
  let v115 : BitVec 1 := Scalar.cmpi .ne v114 c0_i32_83
  v115

@[reducible] def k0_t2_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off6 (k0_t2 : Fin k0_t2_loop.trips) : Fin 3 → Nat :=
  let c0_603 : Index := 0#32
  let c0_i32_598 : BitVec 32 := 0#32
  let c1_i32_600 : BitVec 32 := 1#32
  let arg11 : BitVec 32 := Scf.iv c0_i32_598 c1_i32_600 k0_t2
  let c128_i32_602 : BitVec 32 := 128#32
  let v755 : BitVec 32 := Scalar.muli arg11 c128_i32_602
  let v756 : Index := Scalar.indexCast v755
  let c0_604 : Index := 0#32
  ![0, v756.toNat, 0]
def k0_off7 (k0_t2 : Fin k0_t2_loop.trips) : Fin 2 → Nat :=
  let c0_i32_598 : BitVec 32 := 0#32
  let c1_i32_600 : BitVec 32 := 1#32
  let arg11 : BitVec 32 := Scf.iv c0_i32_598 c1_i32_600 k0_t2
  let c128_i32_602 : BitVec 32 := 128#32
  let v755 : BitVec 32 := Scalar.muli arg11 c128_i32_602
  let v760 : Index := Scalar.indexCast v755
  let c0_605 : Index := 0#32
  ![v760.toNat, 0]
def k0_cond2 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_84 : BitVec 32 := 1#32
  let v116 : BitVec 1 := Scalar.cmpi .eq v2 c1_i32_84
  let v117 : BitVec 32 := Scalar.extui v116
  let c0_i32_85 : BitVec 32 := 0#32
  let v118 : BitVec 1 := Scalar.cmpi .ne v117 c0_i32_85
  v118

@[reducible] def k0_t3_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off8 (k0_t3 : Fin k0_t3_loop.trips) : Fin 3 → Nat :=
  let c0_603 : Index := 0#32
  let c0_i32_598 : BitVec 32 := 0#32
  let c1_i32_600 : BitVec 32 := 1#32
  let arg11 : BitVec 32 := Scf.iv c0_i32_598 c1_i32_600 k0_t3
  let c128_i32_602 : BitVec 32 := 128#32
  let v755 : BitVec 32 := Scalar.muli arg11 c128_i32_602
  let v756 : Index := Scalar.indexCast v755
  let c4096 : Index := 4096#32
  ![0, v756.toNat, 4096]
def k0_off9 (k0_t3 : Fin k0_t3_loop.trips) : Fin 2 → Nat :=
  let c0_i32_598 : BitVec 32 := 0#32
  let c1_i32_600 : BitVec 32 := 1#32
  let arg11 : BitVec 32 := Scf.iv c0_i32_598 c1_i32_600 k0_t3
  let c128_i32_602 : BitVec 32 := 128#32
  let v755 : BitVec 32 := Scalar.muli arg11 c128_i32_602
  let v760 : Index := Scalar.indexCast v755
  let c0_604 : Index := 0#32
  ![v760.toNat, 0]
def k0_off10 (d0 : Dev nD) : Fin 3 → Nat :=
  let c0_i32_88 : BitVec 32 := 0#32
  let c0_i32_95 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_15 v2
  let c4096_i32_16 : BitVec 32 := 4096#32
  let v33 : BitVec 32 := Scalar.muli v32 c4096_i32_16
  ![0, 0, v33.toNat]
def k0_cond3 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_97 : BitVec 32 := 0#32
  let v132 : BitVec 1 := Scalar.cmpi .eq v2 c0_i32_97
  let v133 : BitVec 32 := Scalar.extui v132
  let c0_i32_98 : BitVec 32 := 0#32
  let v134 : BitVec 1 := Scalar.cmpi .ne v133 c0_i32_98
  v134

@[reducible] def k0_t4_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off11 (k0_t4 : Fin k0_t4_loop.trips) : Fin 3 → Nat :=
  let c0_603 : Index := 0#32
  let c0_i32_598 : BitVec 32 := 0#32
  let c1_i32_600 : BitVec 32 := 1#32
  let arg11 : BitVec 32 := Scf.iv c0_i32_598 c1_i32_600 k0_t4
  let c128_i32_602 : BitVec 32 := 128#32
  let v755 : BitVec 32 := Scalar.muli arg11 c128_i32_602
  let v756 : Index := Scalar.indexCast v755
  let c4096 : Index := 4096#32
  ![0, v756.toNat, 4096]
def k0_off12 (k0_t4 : Fin k0_t4_loop.trips) : Fin 2 → Nat :=
  let c0_i32_598 : BitVec 32 := 0#32
  let c1_i32_600 : BitVec 32 := 1#32
  let arg11 : BitVec 32 := Scf.iv c0_i32_598 c1_i32_600 k0_t4
  let c128_i32_602 : BitVec 32 := 128#32
  let v755 : BitVec 32 := Scalar.muli arg11 c128_i32_602
  let v760 : Index := Scalar.indexCast v755
  let c0_604 : Index := 0#32
  ![v760.toNat, 0]
def k0_cond4 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_99 : BitVec 32 := 1#32
  let v135 : BitVec 1 := Scalar.cmpi .eq v2 c1_i32_99
  let v136 : BitVec 32 := Scalar.extui v135
  let c0_i32_100 : BitVec 32 := 0#32
  let v137 : BitVec 1 := Scalar.cmpi .ne v136 c0_i32_100
  v137

@[reducible] def k0_t5_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off13 (k0_t5 : Fin k0_t5_loop.trips) : Fin 3 → Nat :=
  let c0_603 : Index := 0#32
  let c0_i32_598 : BitVec 32 := 0#32
  let c1_i32_600 : BitVec 32 := 1#32
  let arg11 : BitVec 32 := Scf.iv c0_i32_598 c1_i32_600 k0_t5
  let c128_i32_602 : BitVec 32 := 128#32
  let v755 : BitVec 32 := Scalar.muli arg11 c128_i32_602
  let v756 : Index := Scalar.indexCast v755
  let c0_604 : Index := 0#32
  ![0, v756.toNat, 0]
def k0_off14 (k0_t5 : Fin k0_t5_loop.trips) : Fin 2 → Nat :=
  let c0_i32_598 : BitVec 32 := 0#32
  let c1_i32_600 : BitVec 32 := 1#32
  let arg11 : BitVec 32 := Scf.iv c0_i32_598 c1_i32_600 k0_t5
  let c128_i32_602 : BitVec 32 := 128#32
  let v755 : BitVec 32 := Scalar.muli arg11 c128_i32_602
  let v760 : Index := Scalar.indexCast v755
  let c0_605 : Index := 0#32
  ![v760.toNat, 0]
def k0_off15 (d0 : Dev nD) : Fin 3 → Nat :=
  let c2_i32_119 : BitVec 32 := 2#32
  let c0_i32_126 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c4096_i32 : BitVec 32 := 4096#32
  let v31 : BitVec 32 := Scalar.muli v2 c4096_i32
  ![2, 0, v31.toNat]
def k0_dev7 (d0 : Dev nD) : Nat :=
  let c0_i32_123 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_122 : BitVec 32 := 16#32
  let v156 : BitVec 32 := Scalar.muli v2 c16_i32_122
  let v157 : BitVec 32 := Scalar.addi c0_i32_123 v156
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_124 : BitVec 32 := 4#32
  let v158 : BitVec 32 := Scalar.muli v5 c4_i32_124
  let v159 : BitVec 32 := Scalar.addi v157 v158
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_125 : BitVec 32 := 1#32
  let v160 : BitVec 32 := Scalar.muli v30 c1_i32_125
  let v161 : BitVec 32 := Scalar.addi v159 v160
  v161.toNat
def k0_dev8 (d0 : Dev nD) : Nat :=
  let c0_i32_134 : BitVec 32 := 0#32
  let c1_i32_128 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v170 : BitVec 32 := Scalar.subi c1_i32_128 v2
  let c16_i32_133 : BitVec 32 := 16#32
  let v171 : BitVec 32 := Scalar.muli v170 c16_i32_133
  let v172 : BitVec 32 := Scalar.addi c0_i32_134 v171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_135 : BitVec 32 := 4#32
  let v173 : BitVec 32 := Scalar.muli v5 c4_i32_135
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v175 : BitVec 32 := Scalar.muli v8 c1_i32_136
  let v176 : BitVec 32 := Scalar.addi v174 v175
  v176.toNat
def k0_cond5 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_139 : BitVec 32 := 0#32
  let v185 : BitVec 1 := Scalar.cmpi .eq v2 c0_i32_139
  let v186 : BitVec 32 := Scalar.extui v185
  let c0_i32_140 : BitVec 32 := 0#32
  let v187 : BitVec 1 := Scalar.cmpi .ne v186 c0_i32_140
  v187

@[reducible] def k0_t6_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off16 (k0_t6 : Fin k0_t6_loop.trips) : Fin 3 → Nat :=
  let c1_603 : Index := 1#32
  let c0_i32_598 : BitVec 32 := 0#32
  let c1_i32_600 : BitVec 32 := 1#32
  let arg11 : BitVec 32 := Scf.iv c0_i32_598 c1_i32_600 k0_t6
  let c128_i32_602 : BitVec 32 := 128#32
  let v755 : BitVec 32 := Scalar.muli arg11 c128_i32_602
  let v756 : Index := Scalar.indexCast v755
  let c0_604 : Index := 0#32
  ![1, v756.toNat, 0]
def k0_off17 (k0_t6 : Fin k0_t6_loop.trips) : Fin 2 → Nat :=
  let c0_i32_598 : BitVec 32 := 0#32
  let c1_i32_600 : BitVec 32 := 1#32
  let arg11 : BitVec 32 := Scf.iv c0_i32_598 c1_i32_600 k0_t6
  let c128_i32_602 : BitVec 32 := 128#32
  let v755 : BitVec 32 := Scalar.muli arg11 c128_i32_602
  let v760 : Index := Scalar.indexCast v755
  let c0_605 : Index := 0#32
  ![v760.toNat, 0]
def k0_cond6 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_141 : BitVec 32 := 1#32
  let v188 : BitVec 1 := Scalar.cmpi .eq v2 c1_i32_141
  let v189 : BitVec 32 := Scalar.extui v188
  let c0_i32_142 : BitVec 32 := 0#32
  let v190 : BitVec 1 := Scalar.cmpi .ne v189 c0_i32_142
  v190

@[reducible] def k0_t7_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off18 (k0_t7 : Fin k0_t7_loop.trips) : Fin 3 → Nat :=
  let c1_603 : Index := 1#32
  let c0_i32_598 : BitVec 32 := 0#32
  let c1_i32_600 : BitVec 32 := 1#32
  let arg11 : BitVec 32 := Scf.iv c0_i32_598 c1_i32_600 k0_t7
  let c128_i32_602 : BitVec 32 := 128#32
  let v755 : BitVec 32 := Scalar.muli arg11 c128_i32_602
  let v756 : Index := Scalar.indexCast v755
  let c4096 : Index := 4096#32
  ![1, v756.toNat, 4096]
def k0_off19 (k0_t7 : Fin k0_t7_loop.trips) : Fin 2 → Nat :=
  let c0_i32_598 : BitVec 32 := 0#32
  let c1_i32_600 : BitVec 32 := 1#32
  let arg11 : BitVec 32 := Scf.iv c0_i32_598 c1_i32_600 k0_t7
  let c128_i32_602 : BitVec 32 := 128#32
  let v755 : BitVec 32 := Scalar.muli arg11 c128_i32_602
  let v760 : Index := Scalar.indexCast v755
  let c0_604 : Index := 0#32
  ![v760.toNat, 0]
def k0_off20 (d0 : Dev nD) : Fin 3 → Nat :=
  let c1_i32_145 : BitVec 32 := 1#32
  let c0_i32_152 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_15 v2
  let c4096_i32_16 : BitVec 32 := 4096#32
  let v33 : BitVec 32 := Scalar.muli v32 c4096_i32_16
  ![1, 0, v33.toNat]
def k0_cond7 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_154 : BitVec 32 := 0#32
  let v204 : BitVec 1 := Scalar.cmpi .eq v2 c0_i32_154
  let v205 : BitVec 32 := Scalar.extui v204
  let c0_i32_155 : BitVec 32 := 0#32
  let v206 : BitVec 1 := Scalar.cmpi .ne v205 c0_i32_155
  v206

@[reducible] def k0_t8_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off21 (k0_t8 : Fin k0_t8_loop.trips) : Fin 3 → Nat :=
  let c1_603 : Index := 1#32
  let c0_i32_598 : BitVec 32 := 0#32
  let c1_i32_600 : BitVec 32 := 1#32
  let arg11 : BitVec 32 := Scf.iv c0_i32_598 c1_i32_600 k0_t8
  let c128_i32_602 : BitVec 32 := 128#32
  let v755 : BitVec 32 := Scalar.muli arg11 c128_i32_602
  let v756 : Index := Scalar.indexCast v755
  let c4096 : Index := 4096#32
  ![1, v756.toNat, 4096]
def k0_off22 (k0_t8 : Fin k0_t8_loop.trips) : Fin 2 → Nat :=
  let c0_i32_598 : BitVec 32 := 0#32
  let c1_i32_600 : BitVec 32 := 1#32
  let arg11 : BitVec 32 := Scf.iv c0_i32_598 c1_i32_600 k0_t8
  let c128_i32_602 : BitVec 32 := 128#32
  let v755 : BitVec 32 := Scalar.muli arg11 c128_i32_602
  let v760 : Index := Scalar.indexCast v755
  let c0_604 : Index := 0#32
  ![v760.toNat, 0]
def k0_cond8 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_156 : BitVec 32 := 1#32
  let v207 : BitVec 1 := Scalar.cmpi .eq v2 c1_i32_156
  let v208 : BitVec 32 := Scalar.extui v207
  let c0_i32_157 : BitVec 32 := 0#32
  let v209 : BitVec 1 := Scalar.cmpi .ne v208 c0_i32_157
  v209

@[reducible] def k0_t9_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off23 (k0_t9 : Fin k0_t9_loop.trips) : Fin 3 → Nat :=
  let c1_603 : Index := 1#32
  let c0_i32_598 : BitVec 32 := 0#32
  let c1_i32_600 : BitVec 32 := 1#32
  let arg11 : BitVec 32 := Scf.iv c0_i32_598 c1_i32_600 k0_t9
  let c128_i32_602 : BitVec 32 := 128#32
  let v755 : BitVec 32 := Scalar.muli arg11 c128_i32_602
  let v756 : Index := Scalar.indexCast v755
  let c0_604 : Index := 0#32
  ![1, v756.toNat, 0]
def k0_off24 (k0_t9 : Fin k0_t9_loop.trips) : Fin 2 → Nat :=
  let c0_i32_598 : BitVec 32 := 0#32
  let c1_i32_600 : BitVec 32 := 1#32
  let arg11 : BitVec 32 := Scf.iv c0_i32_598 c1_i32_600 k0_t9
  let c128_i32_602 : BitVec 32 := 128#32
  let v755 : BitVec 32 := Scalar.muli arg11 c128_i32_602
  let v760 : Index := Scalar.indexCast v755
  let c0_605 : Index := 0#32
  ![v760.toNat, 0]
def k0_dev9 (d0 : Dev nD) : Nat :=
  let c0_i32_181 : BitVec 32 := 0#32
  let c1_i32_175 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v228 : BitVec 32 := Scalar.subi c1_i32_175 v2
  let c16_i32_180 : BitVec 32 := 16#32
  let v229 : BitVec 32 := Scalar.muli v228 c16_i32_180
  let v230 : BitVec 32 := Scalar.addi c0_i32_181 v229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_182 : BitVec 32 := 4#32
  let v231 : BitVec 32 := Scalar.muli v5 c4_i32_182
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v233 : BitVec 32 := Scalar.muli v8 c1_i32_183
  let v234 : BitVec 32 := Scalar.addi v232 v233
  v234.toNat
def k0_cond9 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_186 : BitVec 32 := 0#32
  let v243 : BitVec 1 := Scalar.cmpi .eq v2 c0_i32_186
  let v244 : BitVec 32 := Scalar.extui v243
  let c0_i32_187 : BitVec 32 := 0#32
  let v245 : BitVec 1 := Scalar.cmpi .ne v244 c0_i32_187
  v245

@[reducible] def k0_t10_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off25 (k0_t10 : Fin k0_t10_loop.trips) : Fin 3 → Nat :=
  let c2_603 : Index := 2#32
  let c0_i32_598 : BitVec 32 := 0#32
  let c1_i32_600 : BitVec 32 := 1#32
  let arg11 : BitVec 32 := Scf.iv c0_i32_598 c1_i32_600 k0_t10
  let c128_i32_602 : BitVec 32 := 128#32
  let v755 : BitVec 32 := Scalar.muli arg11 c128_i32_602
  let v756 : Index := Scalar.indexCast v755
  let c0_604 : Index := 0#32
  ![2, v756.toNat, 0]
def k0_off26 (k0_t10 : Fin k0_t10_loop.trips) : Fin 2 → Nat :=
  let c0_i32_598 : BitVec 32 := 0#32
  let c1_i32_600 : BitVec 32 := 1#32
  let arg11 : BitVec 32 := Scf.iv c0_i32_598 c1_i32_600 k0_t10
  let c128_i32_602 : BitVec 32 := 128#32
  let v755 : BitVec 32 := Scalar.muli arg11 c128_i32_602
  let v760 : Index := Scalar.indexCast v755
  let c0_605 : Index := 0#32
  ![v760.toNat, 0]
def k0_cond10 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_188 : BitVec 32 := 1#32
  let v246 : BitVec 1 := Scalar.cmpi .eq v2 c1_i32_188
  let v247 : BitVec 32 := Scalar.extui v246
  let c0_i32_189 : BitVec 32 := 0#32
  let v248 : BitVec 1 := Scalar.cmpi .ne v247 c0_i32_189
  v248

@[reducible] def k0_t11_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off27 (k0_t11 : Fin k0_t11_loop.trips) : Fin 3 → Nat :=
  let c2_603 : Index := 2#32
  let c0_i32_598 : BitVec 32 := 0#32
  let c1_i32_600 : BitVec 32 := 1#32
  let arg11 : BitVec 32 := Scf.iv c0_i32_598 c1_i32_600 k0_t11
  let c128_i32_602 : BitVec 32 := 128#32
  let v755 : BitVec 32 := Scalar.muli arg11 c128_i32_602
  let v756 : Index := Scalar.indexCast v755
  let c4096 : Index := 4096#32
  ![2, v756.toNat, 4096]
def k0_off28 (k0_t11 : Fin k0_t11_loop.trips) : Fin 2 → Nat :=
  let c0_i32_598 : BitVec 32 := 0#32
  let c1_i32_600 : BitVec 32 := 1#32
  let arg11 : BitVec 32 := Scf.iv c0_i32_598 c1_i32_600 k0_t11
  let c128_i32_602 : BitVec 32 := 128#32
  let v755 : BitVec 32 := Scalar.muli arg11 c128_i32_602
  let v760 : Index := Scalar.indexCast v755
  let c0_604 : Index := 0#32
  ![v760.toNat, 0]
def k0_off29 (d0 : Dev nD) : Fin 3 → Nat :=
  let c2_i32_192 : BitVec 32 := 2#32
  let c0_i32_199 : BitVec 32 := 0#32
  let c1_i32_15 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v32 : BitVec 32 := Scalar.subi c1_i32_15 v2
  let c4096_i32_16 : BitVec 32 := 4096#32
  let v33 : BitVec 32 := Scalar.muli v32 c4096_i32_16
  ![2, 0, v33.toNat]
def k0_cond11 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_201 : BitVec 32 := 0#32
  let v262 : BitVec 1 := Scalar.cmpi .eq v2 c0_i32_201
  let v263 : BitVec 32 := Scalar.extui v262
  let c0_i32_202 : BitVec 32 := 0#32
  let v264 : BitVec 1 := Scalar.cmpi .ne v263 c0_i32_202
  v264

@[reducible] def k0_t12_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off30 (k0_t12 : Fin k0_t12_loop.trips) : Fin 3 → Nat :=
  let c2_603 : Index := 2#32
  let c0_i32_598 : BitVec 32 := 0#32
  let c1_i32_600 : BitVec 32 := 1#32
  let arg11 : BitVec 32 := Scf.iv c0_i32_598 c1_i32_600 k0_t12
  let c128_i32_602 : BitVec 32 := 128#32
  let v755 : BitVec 32 := Scalar.muli arg11 c128_i32_602
  let v756 : Index := Scalar.indexCast v755
  let c4096 : Index := 4096#32
  ![2, v756.toNat, 4096]
def k0_off31 (k0_t12 : Fin k0_t12_loop.trips) : Fin 2 → Nat :=
  let c0_i32_598 : BitVec 32 := 0#32
  let c1_i32_600 : BitVec 32 := 1#32
  let arg11 : BitVec 32 := Scf.iv c0_i32_598 c1_i32_600 k0_t12
  let c128_i32_602 : BitVec 32 := 128#32
  let v755 : BitVec 32 := Scalar.muli arg11 c128_i32_602
  let v760 : Index := Scalar.indexCast v755
  let c0_604 : Index := 0#32
  ![v760.toNat, 0]
def k0_cond12 (d0 : Dev nD) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1_i32_203 : BitVec 32 := 1#32
  let v265 : BitVec 1 := Scalar.cmpi .eq v2 c1_i32_203
  let v266 : BitVec 32 := Scalar.extui v265
  let c0_i32_204 : BitVec 32 := 0#32
  let v267 : BitVec 1 := Scalar.cmpi .ne v266 c0_i32_204
  v267

@[reducible] def k0_t13_loop : Scf.Loop 32 :=
  let c0_i32_598 : BitVec 32 := 0#32
  let c4_i32_599 : BitVec 32 := 4#32
  let v754 : BitVec 32 := Scalar.addi c0_i32_598 c4_i32_599
  let c1_i32_600 : BitVec 32 := 1#32
  ⟨c0_i32_598, v754, c1_i32_600⟩
def k0_off32 (k0_t13 : Fin k0_t13_loop.trips) : Fin 3 → Nat :=
  let c2_603 : Index := 2#32
  let c0_i32_598 : BitVec 32 := 0#32
  let c1_i32_600 : BitVec 32 := 1#32
  let arg11 : BitVec 32 := Scf.iv c0_i32_598 c1_i32_600 k0_t13
  let c128_i32_602 : BitVec 32 := 128#32
  let v755 : BitVec 32 := Scalar.muli arg11 c128_i32_602
  let v756 : Index := Scalar.indexCast v755
  let c0_604 : Index := 0#32
  ![2, v756.toNat, 0]
def k0_off33 (k0_t13 : Fin k0_t13_loop.trips) : Fin 2 → Nat :=
  let c0_i32_598 : BitVec 32 := 0#32
  let c1_i32_600 : BitVec 32 := 1#32
  let arg11 : BitVec 32 := Scf.iv c0_i32_598 c1_i32_600 k0_t13
  let c128_i32_602 : BitVec 32 := 128#32
  let v755 : BitVec 32 := Scalar.muli arg11 c128_i32_602
  let v760 : Index := Scalar.indexCast v755
  let c0_605 : Index := 0#32
  ![v760.toNat, 0]
def k0_off34 (d0 : Dev nD) (true_234 : BitVec 1) (c0_i32_226 : BitVec 32) : Fin 2 → Nat :=
  let c0_i32_246 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v286 : BitVec 32 := Scalar.subi v8 c0_i32_226
  let c1_i32_227 : BitVec 32 := 1#32
  let v287 : BitVec 32 := Scalar.subi v286 c1_i32_227
  let c4_i32_228 : BitVec 32 := 4#32
  let c0_i32_229 : BitVec 32 := 0#32
  let v288 : BitVec 1 := Scalar.cmpi .eq c4_i32_228 c0_i32_229
  let c1_i32_230 : BitVec 32 := 1#32
  let v289 : BitVec 32 := Scalar.select v288 c1_i32_230 c4_i32_228
  let v290 : BitVec 32 := Scalar.remsi v287 v289
  let c0_i32_232 : BitVec 32 := 0#32
  let v292 : BitVec 1 := Scalar.cmpi .slt v290 c0_i32_232
  let c0_i32_233 : BitVec 32 := 0#32
  let v293 : BitVec 1 := Scalar.cmpi .slt v289 c0_i32_233
  let v294 : BitVec 1 := Scalar.xori v292 v293
  let c0_i32_231 : BitVec 32 := 0#32
  let v291 : BitVec 1 := Scalar.cmpi .ne v290 c0_i32_231
  let v295 : BitVec 1 := Scalar.andi v294 v291
  let v296 : BitVec 32 := Scalar.addi v290 v289
  let v297 : BitVec 32 := Scalar.select v295 v296 v290
  let v298 : BitVec 32 := Scalar.select true_234 v297 v8
  let c8192_i32 : BitVec 32 := 8192#32
  let v314 : BitVec 32 := Scalar.muli v298 c8192_i32
  ![0, v314.toNat]
def k0_off34_at (r : Fin 4) : BitVec 1 × BitVec 32 :=
  if r.val < 2 then
    if r.val < 1 then
      (1#1, 0#32)
    else
      (1#1, 1#32)
  else
    if r.val < 3 then
      (1#1, 2#32)
    else
      (0#1, 3#32)
def k0_off35 (d0 : Dev nD) (true_234 : BitVec 1) (c0_i32_226 : BitVec 32) : Fin 2 → Nat :=
  let c128_i32 : BitVec 32 := 128#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v286 : BitVec 32 := Scalar.subi v8 c0_i32_226
  let c1_i32_227 : BitVec 32 := 1#32
  let v287 : BitVec 32 := Scalar.subi v286 c1_i32_227
  let c4_i32_228 : BitVec 32 := 4#32
  let c0_i32_229 : BitVec 32 := 0#32
  let v288 : BitVec 1 := Scalar.cmpi .eq c4_i32_228 c0_i32_229
  let c1_i32_230 : BitVec 32 := 1#32
  let v289 : BitVec 32 := Scalar.select v288 c1_i32_230 c4_i32_228
  let v290 : BitVec 32 := Scalar.remsi v287 v289
  let c0_i32_232 : BitVec 32 := 0#32
  let v292 : BitVec 1 := Scalar.cmpi .slt v290 c0_i32_232
  let c0_i32_233 : BitVec 32 := 0#32
  let v293 : BitVec 1 := Scalar.cmpi .slt v289 c0_i32_233
  let v294 : BitVec 1 := Scalar.xori v292 v293
  let c0_i32_231 : BitVec 32 := 0#32
  let v291 : BitVec 1 := Scalar.cmpi .ne v290 c0_i32_231
  let v295 : BitVec 1 := Scalar.andi v294 v291
  let v296 : BitVec 32 := Scalar.addi v290 v289
  let v297 : BitVec 32 := Scalar.select v295 v296 v290
  let v298 : BitVec 32 := Scalar.select true_234 v297 v8
  let c8192_i32_258 : BitVec 32 := 8192#32
  let v335 : BitVec 32 := Scalar.muli v298 c8192_i32_258
  ![128, v335.toNat]
def k0_off35_at (r : Fin 4) : BitVec 1 × BitVec 32 :=
  if r.val < 2 then
    if r.val < 1 then
      (1#1, 0#32)
    else
      (1#1, 1#32)
  else
    if r.val < 3 then
      (1#1, 2#32)
    else
      (0#1, 3#32)
def k0_off36 (d0 : Dev nD) (true_234 : BitVec 1) (c0_i32_226 : BitVec 32) : Fin 2 → Nat :=
  let c256_i32 : BitVec 32 := 256#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v286 : BitVec 32 := Scalar.subi v8 c0_i32_226
  let c1_i32_227 : BitVec 32 := 1#32
  let v287 : BitVec 32 := Scalar.subi v286 c1_i32_227
  let c4_i32_228 : BitVec 32 := 4#32
  let c0_i32_229 : BitVec 32 := 0#32
  let v288 : BitVec 1 := Scalar.cmpi .eq c4_i32_228 c0_i32_229
  let c1_i32_230 : BitVec 32 := 1#32
  let v289 : BitVec 32 := Scalar.select v288 c1_i32_230 c4_i32_228
  let v290 : BitVec 32 := Scalar.remsi v287 v289
  let c0_i32_232 : BitVec 32 := 0#32
  let v292 : BitVec 1 := Scalar.cmpi .slt v290 c0_i32_232
  let c0_i32_233 : BitVec 32 := 0#32
  let v293 : BitVec 1 := Scalar.cmpi .slt v289 c0_i32_233
  let v294 : BitVec 1 := Scalar.xori v292 v293
  let c0_i32_231 : BitVec 32 := 0#32
  let v291 : BitVec 1 := Scalar.cmpi .ne v290 c0_i32_231
  let v295 : BitVec 1 := Scalar.andi v294 v291
  let v296 : BitVec 32 := Scalar.addi v290 v289
  let v297 : BitVec 32 := Scalar.select v295 v296 v290
  let v298 : BitVec 32 := Scalar.select true_234 v297 v8
  let c8192_i32_278 : BitVec 32 := 8192#32
  let v361 : BitVec 32 := Scalar.muli v298 c8192_i32_278
  ![256, v361.toNat]
def k0_off36_at (r : Fin 4) : BitVec 1 × BitVec 32 :=
  if r.val < 2 then
    if r.val < 1 then
      (1#1, 0#32)
    else
      (1#1, 1#32)
  else
    if r.val < 3 then
      (1#1, 2#32)
    else
      (0#1, 3#32)
def k0_off37 (d0 : Dev nD) (true_234 : BitVec 1) (c0_i32_226 : BitVec 32) : Fin 2 → Nat :=
  let c384_i32 : BitVec 32 := 384#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v286 : BitVec 32 := Scalar.subi v8 c0_i32_226
  let c1_i32_227 : BitVec 32 := 1#32
  let v287 : BitVec 32 := Scalar.subi v286 c1_i32_227
  let c4_i32_228 : BitVec 32 := 4#32
  let c0_i32_229 : BitVec 32 := 0#32
  let v288 : BitVec 1 := Scalar.cmpi .eq c4_i32_228 c0_i32_229
  let c1_i32_230 : BitVec 32 := 1#32
  let v289 : BitVec 32 := Scalar.select v288 c1_i32_230 c4_i32_228
  let v290 : BitVec 32 := Scalar.remsi v287 v289
  let c0_i32_232 : BitVec 32 := 0#32
  let v292 : BitVec 1 := Scalar.cmpi .slt v290 c0_i32_232
  let c0_i32_233 : BitVec 32 := 0#32
  let v293 : BitVec 1 := Scalar.cmpi .slt v289 c0_i32_233
  let v294 : BitVec 1 := Scalar.xori v292 v293
  let c0_i32_231 : BitVec 32 := 0#32
  let v291 : BitVec 1 := Scalar.cmpi .ne v290 c0_i32_231
  let v295 : BitVec 1 := Scalar.andi v294 v291
  let v296 : BitVec 32 := Scalar.addi v290 v289
  let v297 : BitVec 32 := Scalar.select v295 v296 v290
  let v298 : BitVec 32 := Scalar.select true_234 v297 v8
  let c8192_i32_298 : BitVec 32 := 8192#32
  let v387 : BitVec 32 := Scalar.muli v298 c8192_i32_298
  ![384, v387.toNat]
def k0_off37_at (r : Fin 4) : BitVec 1 × BitVec 32 :=
  if r.val < 2 then
    if r.val < 1 then
      (1#1, 0#32)
    else
      (1#1, 1#32)
  else
    if r.val < 3 then
      (1#1, 2#32)
    else
      (0#1, 3#32)
abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x1024 : Shape := ⟨2, ![512, 1024]⟩
abbrev S1024x32768 : Shape := ⟨2, ![1024, 32768]⟩
abbrev S512x32768 : Shape := ⟨2, ![512, 32768]⟩
abbrev S_ : Shape := ⟨0, ![]⟩
abbrev S512 : Shape := ⟨1, ![512]⟩
abbrev S512x1 : Shape := ⟨2, ![512, 1]⟩

abbrev nBuf : Space → Nat
  | .hbm => 16
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x32768, .bf16⟩
  | .hbm, ⟨2, _⟩ => ⟨S512x1024, .f32⟩
  | .hbm, ⟨3, _⟩ => ⟨S1024x32768, .f32⟩
  | .hbm, ⟨4, _⟩ => ⟨S512x32768, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x32768, .f32⟩
  | .hbm, ⟨9, _⟩ => ⟨S512x32768, .f32⟩
  | .hbm, ⟨10, _⟩ => ⟨S512x32768, .f32⟩
  | .hbm, ⟨11, _⟩ => ⟨S_, .f32⟩
  | .hbm, ⟨12, _⟩ => ⟨S512, .f32⟩
  | .hbm, ⟨13, _⟩ => ⟨S512x1, .f32⟩
  | .hbm, ⟨14, _⟩ => ⟨S512x32768, .f32⟩
  | .hbm, ⟨15, _⟩ => ⟨S512x32768, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.Mesh.lean ====
/- The devices of the mesh and the views of the kernel: each device's neighbours along z and its partner along x, the
   buffer elements under each transferred block, and the contents a landing leaves. -/
module

public import proofs.«01_k».proof.Proof.Gen.KernelIdeal.Skeleton
public import proofs.«01_k».proof.Proof.Gen.KernelIdeal.Launch
public import Idealize.ShloMosaic.Lib.Rounds
public import Idealize.ShloMosaic.Lib.Tactic
public import Idealize.ShloMosaic.Lib.ValueLayout
public import Idealize.ShloMosaic.Lib.ValueIdxCoords
public import Idealize.ShloMosaic.Lib.Pipeline.RegionTalk

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

/-! ## The devices -/

/-- The neighbour one step down the z ring. -/
def lf (c : Dev nD) : Dev nD := ⟨4 * (c.val / 4) + (c.val % 4 + 3) % 4, by have : c.val < 32 := c.isLt; show _ < 32; omega⟩
/-- The neighbour one step up the z ring. -/
def rt (c : Dev nD) : Dev nD := ⟨4 * (c.val / 4) + (c.val % 4 + 1) % 4, by have : c.val < 32 := c.isLt; show _ < 32; omega⟩
/-- The partner across x. -/
def xp (c : Dev nD) : Dev nD := ⟨(c.val + 16) % 32, Nat.mod_lt _ (by decide)⟩
/-- The device's own half of the columns: its x coordinate. -/
def xo (c : Dev nD) : Fin 2 := ⟨c.val / 16, by have : c.val < 32 := c.isLt; omega⟩
/-- The other half. -/
def xn (c : Dev nD) : Fin 2 := ⟨1 - c.val / 16, by omega⟩
/-- The device whose logits the columns of half `p` of chunk `h` of device `c` hold: `h + 1` steps down the ring, at x `p`. -/
def src (c : Dev nD) (h : Fin 3) (p : Fin 2) : Dev nD :=
  ⟨16 * p.val + 4 * (c.val / 4 % 4) + (c.val % 4 + 3 - h.val) % 4, by have : c.val < 32 := c.isLt; have := p.isLt; show _ < 32; omega⟩

/-- The left neighbour of the right neighbour is the device. -/
theorem lf_rt : ∀ c : Dev nD, lf (rt c) = c := by decide +kernel
/-- The right neighbour of the left neighbour is the device. -/
theorem rt_lf : ∀ c : Dev nD, rt (lf c) = c := by decide +kernel
/-- The partner's partner is the device. -/
theorem xp_xp : ∀ c : Dev nD, xp (xp c) = c := by decide +kernel
/-- The right neighbour has the same own half. -/
theorem xo_rt : ∀ c : Dev nD, xo (rt c) = xo c := by decide +kernel
/-- The left neighbour has the same own half. -/
theorem xo_lf : ∀ c : Dev nD, xo (lf c) = xo c := by decide +kernel
/-- The partner's own half is the device's other one. -/
theorem xo_xp : ∀ c : Dev nD, xo (xp c) = xn c := by decide +kernel
/-- The partner's other half is the device's own. -/
theorem xn_xp : ∀ c : Dev nD, xn (xp c) = xo c := by decide +kernel
/-- The two halves differ. -/
theorem xn_ne : ∀ c : Dev nD, xo c ≠ xn c := by decide +kernel
/-- The right neighbour's chunk 0 holds the device's logits, in the half that comes along z. -/
theorem src_rt_zero : ∀ c : Dev nD, src (rt c) 0 (xo c) = c := by decide +kernel
/-- The right neighbour's chunk 1 holds what the device's chunk 0 holds. -/
theorem src_rt_one : ∀ (c : Dev nD) (p : Fin 2), src (rt c) 1 p = src c 0 p := by decide +kernel
/-- The right neighbour's chunk 2 holds what the device's chunk 1 holds. -/
theorem src_rt_two : ∀ (c : Dev nD) (p : Fin 2), src (rt c) 2 p = src c 1 p := by decide +kernel
/-- The partner's chunks hold what the device's hold. -/
theorem src_xp : ∀ (c : Dev nD) (h : Fin 3) (p : Fin 2), src (xp c) h p = src c h p := by decide +kernel

/-- The signals and the transfers address the neighbours. -/
theorem dev1_eq (c : Dev nD) : (⟨k0_dev1 c, k0_dev1_lt c⟩ : Dev nD) = lf c :=
  Fin.ext ((by decide +kernel : ∀ c : Dev nD, k0_dev1 c = 4 * (c.val / 4) + (c.val % 4 + 3) % 4) c)
/-- Address 2 is the right neighbour. -/
theorem dev2_eq (c : Dev nD) : (⟨k0_dev2 c, k0_dev2_lt c⟩ : Dev nD) = rt c :=
  Fin.ext ((by decide +kernel : ∀ c : Dev nD, k0_dev2 c = 4 * (c.val / 4) + (c.val % 4 + 1) % 4) c)
/-- Address 3 is the partner across x. -/
theorem dev3_eq (c : Dev nD) : (⟨k0_dev3 c, k0_dev3_lt c⟩ : Dev nD) = xp c :=
  Fin.ext ((by decide +kernel : ∀ c : Dev nD, k0_dev3 c = (c.val + 16) % 32) c)
/-- Address 4 is the right neighbour. -/
theorem dev4_eq (c : Dev nD) : (⟨k0_dev4 c, k0_dev4_lt c⟩ : Dev nD) = rt c :=
  Fin.ext ((by decide +kernel : ∀ c : Dev nD, k0_dev4 c = 4 * (c.val / 4) + (c.val % 4 + 1) % 4) c)
/-- Address 5 is the right neighbour. -/
theorem dev5_eq (c : Dev nD) : (⟨k0_dev5 c, k0_dev5_lt c⟩ : Dev nD) = rt c :=
  Fin.ext ((by decide +kernel : ∀ c : Dev nD, k0_dev5 c = 4 * (c.val / 4) + (c.val % 4 + 1) % 4) c)
/-- Address 6 is the partner across x. -/
theorem dev6_eq (c : Dev nD) : (⟨k0_dev6 c, k0_dev6_lt c⟩ : Dev nD) = xp c :=
  Fin.ext ((by decide +kernel : ∀ c : Dev nD, k0_dev6 c = (c.val + 16) % 32) c)
/-- Address 7 is the right neighbour. -/
theorem dev7_eq (c : Dev nD) : (⟨k0_dev7 c, k0_dev7_lt c⟩ : Dev nD) = rt c :=
  Fin.ext ((by decide +kernel : ∀ c : Dev nD, k0_dev7 c = 4 * (c.val / 4) + (c.val % 4 + 1) % 4) c)
/-- Address 8 is the partner across x. -/
theorem dev8_eq (c : Dev nD) : (⟨k0_dev8 c, k0_dev8_lt c⟩ : Dev nD) = xp c :=
  Fin.ext ((by decide +kernel : ∀ c : Dev nD, k0_dev8 c = (c.val + 16) % 32) c)
/-- Address 9 is the partner across x. -/
theorem dev9_eq (c : Dev nD) : (⟨k0_dev9 c, k0_dev9_lt c⟩ : Dev nD) = xp c :=
  Fin.ext ((by decide +kernel : ∀ c : Dev nD, k0_dev9 c = (c.val + 16) % 32) c)

/-! ## The memrefs -/

abbrev lgM : Memref sig .tc .vmem S512x8192 .bf16 := Memref.whole cc0_stg0_0
abbrev chM : Memref sig .tc .vmem S3x512x8192 .bf16 := Memref.whole cc0_scratch0
abbrev stM : Memref sig .tc .vmem S2x128x8192 .f32 := Memref.whole cc0_scratch1
abbrev mxM : Memref sig .tc .vmem S512x1 .f32 := Memref.whole cc0_scratch2
abbrev smM : Memref sig .tc .vmem S512x1 .f32 := Memref.whole cc0_scratch3
abbrev outM : Memref sig .tc .hbm S512x32768 .f32 := Memref.whole main_v3

/-- A half of a chunk, as a transfer's end names it. -/
abbrev chHalf (off : Fin 3 → ℕ) (inb : ∀ a, off a + S1x512x4096.size a ≤ S3x512x8192.size a) : Memref sig .tc .vmem S512x4096 .bf16 :=
  (chM.slice (Rect.unit (s := S3x512x8192) off S1x512x4096.size inb) (fun _ => rfl)).squeeze S512x4096 squeezes_S1x512x4096_S512x4096
/-- A half of the device's own logits, as a transfer's end names it. -/
abbrev lgHalf (off : Fin 2 → ℕ) (inb : ∀ a, off a + S512x4096.size a ≤ S512x8192.size a) : Memref sig .tc .vmem S512x4096 .bf16 :=
  lgM.slice (Rect.unit (s := S512x8192) off S512x4096.size inb) (fun _ => rfl)
/-- A staging slot, as a transfer's end names it. -/
abbrev stSlot (off : Fin 3 → ℕ) (inb : ∀ a, off a + S1x128x8192.size a ≤ S2x128x8192.size a) : Memref sig .tc .vmem S128x8192 .f32 :=
  (stM.slice (Rect.unit (s := S2x128x8192) off S1x128x8192.size inb) (fun _ => rfl)).squeeze S128x8192 squeezes_S1x128x8192_S128x8192
/-- A block of the result. -/
abbrev outBlk (off : Fin 2 → ℕ) (inb : ∀ a, off a + S128x8192.size a ≤ S512x32768.size a) : Memref sig .tc .hbm S128x8192 .f32 :=
  outM.slice (Rect.unit (s := S512x32768) off S128x8192.size inb) (fun _ => rfl)

/-- The elements of half `p` of chunk `h`. -/
def chSet (h : Fin 3) (p : Fin 2) : Finset S3x512x8192.Idx :=
  Finset.univ.filter fun i => (i 0).val = h.val ∧ 4096 * p.val ≤ (i 2).val ∧ (i 2).val < 4096 * p.val + 4096
/-- The elements of half `p` of the logits. -/
def lgSet (p : Fin 2) : Finset S512x8192.Idx :=
  Finset.univ.filter fun i => 4096 * p.val ≤ (i 1).val ∧ (i 1).val < 4096 * p.val + 4096
/-- The elements of staging slot `k`. -/
def stSet (k : Fin 2) : Finset S2x128x8192.Idx := Finset.univ.filter fun i => (i 0).val = k.val
/-- The elements of the result's block of rows `128 b …` and columns `8192 o …`. -/
def outSet (b o : Fin 4) : Finset S512x32768.Idx :=
  Finset.univ.filter fun i => (128 * b.val ≤ (i 0).val ∧ (i 0).val < 128 * b.val + 128)
    ∧ 8192 * o.val ≤ (i 1).val ∧ (i 1).val < 8192 * o.val + 8192

/-- Which elements half `p` of chunk `h` has. -/
theorem mem_chSet {h : Fin 3} {p : Fin 2} {i : S3x512x8192.Idx} :
    i ∈ chSet h p ↔ (i 0).val = h.val ∧ 4096 * p.val ≤ (i 2).val ∧ (i 2).val < 4096 * p.val + 4096 := by
  simp [chSet]
/-- Which elements half `p` of the logits has. -/
theorem mem_lgSet {p : Fin 2} {i : S512x8192.Idx} :
    i ∈ lgSet p ↔ 4096 * p.val ≤ (i 1).val ∧ (i 1).val < 4096 * p.val + 4096 := by
  simp [lgSet]
/-- Which elements a staging slot has. -/
theorem mem_stSet {k : Fin 2} {i : S2x128x8192.Idx} : i ∈ stSet k ↔ (i 0).val = k.val := by simp [stSet]
/-- Which elements a block of the result has. -/
theorem mem_outSet {b o : Fin 4} {i : S512x32768.Idx} :
    i ∈ outSet b o ↔ (128 * b.val ≤ (i 0).val ∧ (i 0).val < 128 * b.val + 128)
      ∧ 8192 * o.val ≤ (i 1).val ∧ (i 1).val < 8192 * o.val + 8192 := by
  simp [outSet]

/-- The elements under a transfer's end in the chunks. -/
theorem chHalf_set {off : Fin 3 → ℕ} {inb} {h : Fin 3} {p : Fin 2} (ho : off = ![h.val, 0, 4096 * p.val]) :
    (chHalf off inb).view.set = chSet h p := by
  subst ho
  show (((View.whole cc0_scratch0).slice _).reshape S512x4096 _).set = _
  rw [View.set_reshape, View.set_slice_whole]
  ext i
  rw [Rect.mem_set_unit, mem_chSet]
  have h1 : (i 1).val < 512 := (i 1).isLt
  constructor
  · intro H
    have H0 := H 0
    have H2 := H 2
    simp at H0 H2
    omega
  · rintro ⟨H0, H2, H3⟩ a
    match a with
    | ⟨0, _⟩ => simp; omega
    | ⟨1, _⟩ => simp; exact h1
    | ⟨2, _⟩ =>
      show 4096 * p.val ≤ (i 2).val ∧ (i 2).val < 4096 * p.val + 4096
      exact ⟨H2, H3⟩

/-- The elements under a transfer's end in the logits. -/
theorem lgHalf_set {off : Fin 2 → ℕ} {inb} {p : Fin 2} (ho : off = ![0, 4096 * p.val]) :
    (lgHalf off inb).view.set = lgSet p := by
  subst ho
  show ((View.whole cc0_stg0_0).slice _).set = _
  rw [View.set_slice_whole]
  ext i
  rw [Rect.mem_set_unit, mem_lgSet]
  have h1 : (i 0).val < 512 := (i 0).isLt
  constructor
  · intro H
    have H1 := H 1
    simp at H1
    omega
  · rintro ⟨H2, H3⟩ a
    match a with
    | ⟨0, _⟩ => simp; exact h1
    | ⟨1, _⟩ => simp; omega

/-- The elements under a copy's source. -/
theorem stSlot_set {off : Fin 3 → ℕ} {inb} {k : Fin 2} (ho : off = ![k.val, 0, 0]) :
    (stSlot off inb).view.set = stSet k := by
  subst ho
  show (((View.whole cc0_scratch1).slice _).reshape S128x8192 _).set = _
  rw [View.set_reshape, View.set_slice_whole]
  ext i
  rw [Rect.mem_set_unit, mem_stSet]
  have h1 : (i 1).val < 128 := (i 1).isLt
  have h2 : (i 2).val < 8192 := (i 2).isLt
  constructor
  · intro H
    have H0 := H 0
    simp at H0
    omega
  · rintro H0 a
    match a with
    | ⟨0, _⟩ => simp; omega
    | ⟨1, _⟩ => simp; exact h1
    | ⟨2, _⟩ => simp; exact h2

/-- The elements under a copy's destination. -/
theorem outBlk_set {off : Fin 2 → ℕ} {inb} {b o : Fin 4} (ho : off = ![128 * b.val, 8192 * o.val]) :
    (outBlk off inb).view.set = outSet b o := by
  subst ho
  show ((View.whole main_v3).slice _).set = _
  rw [View.set_slice_whole]
  ext i
  rw [Rect.mem_set_unit, mem_outSet]
  constructor
  · intro H
    have H0 := H 0
    have H1 := H 1
    simp at H0 H1
    omega
  · rintro ⟨⟨H0, H0'⟩, H1, H1'⟩ a
    match a with
    | ⟨0, _⟩ => simp; omega
    | ⟨1, _⟩ => simp; omega

/-! ## Where a half's elements lie in its buffer -/

/-- Where an element of a half of a chunk lies in the chunks. -/
theorem chHalf_emb {off : Fin 3 → ℕ} {inb} {h : Fin 3} {p : Fin 2} (ho : off = ![h.val, 0, 4096 * p.val])
    (a : Fin 512) (b : Fin 4096) :
    (chHalf off inb).view.emb (ix2 a b) = ix3 h a (⟨4096 * p.val + b.val, by have := p.isLt; have := b.isLt; omega⟩ : Fin 8192) := by
  subst ho
  show (Rect.unit (s := S3x512x8192) _ S1x512x4096.size inb).emb (Shape.reshapeEquiv _ (ix2 a b)) = _
  refine (congrArg (Rect.unit (s := S3x512x8192) _ S1x512x4096.size inb).emb (reshapeEquiv_ix2_1ab (a := 512) (b := 4096) _ a b)).trans ?_
  funext d
  match d with
  | ⟨0, _⟩ => refine Fin.ext ?_; show h.val + 1 * 0 = h.val; omega
  | ⟨1, _⟩ => refine Fin.ext ?_; show 0 + 1 * a.val = a.val; omega
  | ⟨2, _⟩ => refine Fin.ext ?_; show 4096 * p.val + 1 * b.val = 4096 * p.val + b.val; omega

/-- Where an element of a half of the logits lies in the logits. -/
theorem lgHalf_emb {off : Fin 2 → ℕ} {inb} {p : Fin 2} (ho : off = ![0, 4096 * p.val]) (a : Fin 512) (b : Fin 4096) :
    (lgHalf off inb).view.emb (ix2 a b) = ix2 a (⟨4096 * p.val + b.val, by have := p.isLt; have := b.isLt; omega⟩ : Fin 8192) := by
  subst ho
  show (Rect.unit (s := S512x8192) _ S512x4096.size inb).emb (ix2 a b) = _
  funext d
  match d with
  | ⟨0, _⟩ => refine Fin.ext ?_; show 0 + 1 * a.val = a.val; omega
  | ⟨1, _⟩ => refine Fin.ext ?_; show 4096 * p.val + 1 * b.val = 4096 * p.val + b.val; omega

/-! ## The contents -/

variable (A : Dev nD → Vec F S512x8192 .bf16)

/-- What device `c`'s chunk buffer holds in the end: in half `p` of chunk `h`, the logits of device `src c h p`. -/
def chC (c : Dev nD) : Vec F S3x512x8192 .bf16 :=
  fun i => A (src c (i 0) ⟨(i 2).val / 4096, by have : (i 2).val < 8192 := (i 2).isLt; omega⟩) (ix2 (i 1) (i 2))

/-- An element of a half of a chunk, as an element of the logits of the device that it came from. -/
theorem chC_at (c : Dev nD) (h : Fin 3) (a : Fin 512) (p : Fin 2) (b : ℕ) (hb : b < 4096) (hb' : 4096 * p.val + b < 8192) :
    chC A c (ix3 h a (⟨4096 * p.val + b, hb'⟩ : Fin 8192)) = A (src c h p) (ix2 a (⟨4096 * p.val + b, hb'⟩ : Fin 8192)) := by
  show A (src c h ⟨(4096 * p.val + b) / 4096, _⟩) _ = _
  congr 2
  refine Fin.ext ?_
  show (4096 * p.val + b) / 4096 = p.val
  omega

/-- A buffer written at half `p` of chunk `h` holds `g` there if the payload is `g` at that half's elements. -/
theorem ch_write_eq {off : Fin 3 → ℕ} {inb} {h : Fin 3} {p : Fin 2} (ho : off = ![h.val, 0, 4096 * p.val])
    (fd g : Vec F S3x512x8192 .bf16) (w : Vec F S512x4096 .bf16)
    (hw : ∀ (a : Fin 512) (b : Fin 4096), w (ix2 a b) = g (ix3 h a (⟨4096 * p.val + b.val, by have := p.isLt; have := b.isLt; omega⟩ : Fin 8192))) :
    ∀ i ∈ chSet h p, (chHalf off inb).view.write (Elt F) fd w Finset.univ i = g i := by
  intro i hi
  rw [← chHalf_set (inb := inb) ho] at hi
  obtain ⟨y, -, rfl⟩ := Finset.mem_map.mp hi
  rw [View.write_emb_of_mem _ _ (Finset.mem_univ y)]
  obtain ⟨a, b, rfl⟩ : ∃ (a : Fin 512) (b : Fin 4096), y = ix2 a b := ⟨_, _, eq_ix2 y⟩
  rw [chHalf_emb ho]
  exact hw _ _

/-- A first hop lands the sender's own half of its logits as its neighbour's chunk 0. -/
theorem land_first {off : Fin 3 → ℕ} {inb} {off' : Fin 2 → ℕ} {inb'} (c : Dev nD)
    (ho : off = ![0, 0, 4096 * (xo c).val]) (ho' : off' = ![0, 4096 * (xo c).val]) (fd : Vec F S3x512x8192 .bf16) :
    ∀ i ∈ chSet 0 (xo c), (chHalf off inb).view.write (Elt F) fd ((lgHalf off' inb').view.read (Elt F) (A c)) Finset.univ i = chC A (rt c) i :=
  ch_write_eq (h := 0) ho fd _ _ fun a b => by
    rw [chC_at A (rt c) 0 a (xo c) b.val b.isLt, src_rt_zero]
    show A c ((lgHalf off' inb').view.emb (ix2 a b)) = _
    rw [lgHalf_emb ho']

/-- A transfer between halves `p` of chunks `h` and `h'` of devices `c` and `c'` lands what `c'` is to hold, if both name one source. -/
theorem land_chunk {off : Fin 3 → ℕ} {inb} {off' : Fin 3 → ℕ} {inb'} (c c' : Dev nD) (h h' : Fin 3) (p : Fin 2)
    (ho : off = ![h'.val, 0, 4096 * p.val]) (ho' : off' = ![h.val, 0, 4096 * p.val]) (hs : src c' h' p = src c h p) (fd : Vec F S3x512x8192 .bf16) :
    ∀ i ∈ chSet h' p, (chHalf off inb).view.write (Elt F) fd ((chHalf off' inb').view.read (Elt F) (chC A c)) Finset.univ i = chC A c' i :=
  ch_write_eq (h := h') ho fd _ _ fun a b => by
    rw [chC_at A c' h' a p b.val b.isLt, hs]
    show chC A c ((chHalf off' inb').view.emb (ix2 a b)) = _
    rw [chHalf_emb ho', chC_at A c h a p b.val b.isLt]

end Cert.KernelIdeal.Talk

end
-- ==== Proof.Blocks.lean ====
/- The blocks a device reads and writes: what its loads yield, the running maximum and sum it folds, and the array it
   produces. Every device's result is a function `outC A c` of all the devices' logits `A`. -/
module

public import proofs.«01_k».proof.Proof.Mesh

@[expose] public section

noncomputable section

namespace Cert.KernelIdeal.Talk

open Idealize.ShloMosaic Idealize.ShloMosaic.TcCoe
open Cert.KernelIdeal.Gen Idealize.ShloMosaic.ValueIdx

variable {F : FTy → Type} [FloatOps F]

/-! ## What the loads yield -/

/-- Row block `b` of the logits. -/
def lgRow (v : Vec F S512x8192 .bf16) (b : Fin 4) : Vec F S128x8192 .bf16 :=
  fun i => v (ix2 (⟨128 * b.val + (i 0).val, by have : (i 0).val < 128 := (i 0).isLt; omega⟩ : Fin 512) (i 1 : Fin 8192))
/-- Row block `b` of chunk `h`. -/
def chRow (v : Vec F S3x512x8192 .bf16) (h : Fin 3) (b : Fin 4) : Vec F S1x128x8192 .bf16 :=
  fun i => v (ix3 h (⟨128 * b.val + (i 1).val, by have : (i 1).val < 128 := (i 1).isLt; omega⟩ : Fin 512) (i 2 : Fin 8192))
/-- Row block `b` of half `p` of chunk `h`. -/
def chPiece (v : Vec F S3x512x8192 .bf16) (h : Fin 3) (p : Fin 2) (b : Fin 4) : Vec F S1x128x4096 .bf16 :=
  fun i => v (ix3 h (⟨128 * b.val + (i 1).val, by have : (i 1).val < 128 := (i 1).isLt; omega⟩ : Fin 512)
    (⟨4096 * p.val + (i 2).val, by have : (i 2).val < 4096 := (i 2).isLt; have := p.isLt; omega⟩ : Fin 8192))
/-- A column of 512 entries from its four blocks. -/
def upd (g : Fin 4 → Vec F S128x1 .f32) : Vec F S512x1 .f32 :=
  fun i => g ⟨(i 0).val / 128, by have : (i 0).val < 512 := (i 0).isLt; omega⟩ (ix2 (⟨(i 0).val % 128, Nat.mod_lt _ (by decide)⟩ : Fin 128) (0 : Fin 1))
/-- The four blocks of a column. -/
def blocks (f : Vec F S512x1 .f32) (b : Fin 4) : Vec F S128x1 .f32 :=
  fun i => f (ix2 (⟨128 * b.val + (i 0).val, by have : (i 0).val < 128 := (i 0).isLt; omega⟩ : Fin 512) (0 : Fin 1))

/-- A column is put together again from its blocks. -/
theorem upd_blocks (f : Vec F S512x1 .f32) : upd (blocks f) = f := by
  funext i
  show f _ = f i
  congr 1
  obtain ⟨a, b, rfl⟩ : ∃ (a : Fin 512) (b : Fin 1), i = ix2 a b := ⟨_, _, eq_ix2 i⟩
  obtain rfl : b = 0 := Subsingleton.elim _ _
  refine congrArg (fun x : Fin 512 => ix2 x (0 : Fin 1)) (Fin.ext ?_)
  show 128 * (a.val / 128) + a.val % 128 = a.val
  omega

/-- A load of rows `128 b …` of the logits yields row block `b`. -/
theorem read_lg {off : Fin 2 → ℕ} {inb} {b : Fin 4} (ho : off = ![128 * b.val, 0]) (f : Vec F S512x8192 .bf16) :
    lgM.view.readAt (Elt F) (Rect.unit (s := S512x8192) off S128x8192.size inb).toLoadRect f = lgRow f b := by
  subst ho
  funext i
  refine congrArg f ?_
  funext d
  match d with
  | ⟨0, _⟩ => refine Fin.ext ?_; show 128 * b.val + 1 * (i 0).val = 128 * b.val + (i 0).val; omega
  | ⟨1, _⟩ => refine Fin.ext ?_; show 0 + 1 * (i 1).val = (i 1).val; omega

/-- A load of rows `128 b …` of chunk `h` yields that row block of it. -/
theorem read_chRow {off : Fin 3 → ℕ} {inb} {h : Fin 3} {b : Fin 4} (ho : off = ![h.val, 128 * b.val, 0]) (f : Vec F S3x512x8192 .bf16) :
    chM.view.readAt (Elt F) (Rect.unit (s := S3x512x8192) off S1x128x8192.size inb).toLoadRect f = chRow f h b := by
  subst ho
  funext i
  refine congrArg f ?_
  have h0 : (i 0).val = 0 := by have : (i 0).val < 1 := (i 0).isLt; omega
  funext d
  match d with
  | ⟨0, _⟩ => refine Fin.ext ?_; show h.val + 1 * (i 0).val = h.val; omega
  | ⟨1, _⟩ => refine Fin.ext ?_; show 128 * b.val + 1 * (i 1).val = 128 * b.val + (i 1).val; omega
  | ⟨2, _⟩ => refine Fin.ext ?_; show 0 + 1 * (i 2).val = (i 2).val; omega

/-- A load of rows `128 b …` and of one half of the columns of chunk `h` yields that piece of it. -/
theorem read_chPiece {off : Fin 3 → ℕ} {inb} {h : Fin 3} {p : Fin 2} {b : Fin 4} (ho : off = ![h.val, 128 * b.val, 4096 * p.val])
    (f : Vec F S3x512x8192 .bf16) :
    chM.view.readAt (Elt F) (Rect.unit (s := S3x512x8192) off S1x128x4096.size inb).toLoadRect f = chPiece f h p b := by
  subst ho
  funext i
  refine congrArg f ?_
  have h0 : (i 0).val = 0 := by have : (i 0).val < 1 := (i 0).isLt; omega
  funext d
  match d with
  | ⟨0, _⟩ => refine Fin.ext ?_; show h.val + 1 * (i 0).val = h.val; omega
  | ⟨1, _⟩ => refine Fin.ext ?_; show 128 * b.val + 1 * (i 1).val = 128 * b.val + (i 1).val; omega
  | ⟨2, _⟩ => refine Fin.ext ?_; show 4096 * p.val + 1 * (i 2).val = 4096 * p.val + (i 2).val; omega

/-- A piece's load touches its half of its chunk only. -/
theorem chPiece_sub {off : Fin 3 → ℕ} {inb} {h : Fin 3} {p : Fin 2} {b : Fin 4} (ho : off = ![h.val, 128 * b.val, 4096 * p.val]) :
    chM.view.setOn (Rect.unit (s := S3x512x8192) off S1x128x4096.size inb).toLoadRect.set ⊆ chSet h p := by
  subst ho
  intro i hi
  obtain ⟨j, hj, rfl⟩ := Finset.mem_map.mp hi
  have H := Rect.mem_set_unit.mp hj
  have H0 := H 0
  have H2 := H 2
  simp at H0 H2
  show j ∈ chSet h p
  rw [mem_chSet]
  omega

/-- A block of a column, loaded. -/
theorem read_mx {off : Fin 2 → ℕ} {inb} {b : Fin 4} (ho : off = ![128 * b.val, 0]) (g : Fin 4 → Vec F S128x1 .f32) :
    mxM.view.readAt (Elt F) (Rect.unit (s := S512x1) off S128x1.size inb).toLoadRect (upd g) = g b := by
  subst ho
  funext i
  obtain ⟨a, z, rfl⟩ : ∃ (a : Fin 128) (z : Fin 1), i = ix2 a z := ⟨_, _, eq_ix2 i⟩
  obtain rfl : z = 0 := Subsingleton.elim _ _
  show g ⟨(128 * b.val + 1 * a.val) / 128, _⟩ (ix2 (⟨(128 * b.val + 1 * a.val) % 128, _⟩ : Fin 128) (0 : Fin 1)) = g b (ix2 a 0)
  have h1 : (128 * b.val + 1 * a.val) / 128 = b.val := by omega
  have h2 : (128 * b.val + 1 * a.val) % 128 = a.val := by omega
  have key : ∀ (q : Fin 4) (r : Fin 128), q = b → r = a → g q (ix2 r (0 : Fin 1)) = g b (ix2 a (0 : Fin 1)) := by
    rintro _ _ rfl rfl; rfl
  exact key _ _ (Fin.ext h1) (Fin.ext h2)
/-- The same for the column of sums. -/
theorem read_sm {off : Fin 2 → ℕ} {inb} {b : Fin 4} (ho : off = ![128 * b.val, 0]) (g : Fin 4 → Vec F S128x1 .f32) :
    smM.view.readAt (Elt F) (Rect.unit (s := S512x1) off S128x1.size inb).toLoadRect (upd g) = g b := read_mx (inb := inb) ho g

/-- A block of a column, stored. -/
theorem write_mx {off : Fin 2 → ℕ} {inb} {b : Fin 4} (ho : off = ![128 * b.val, 0]) (g : Fin 4 → Vec F S128x1 .f32) (w : Vec F S128x1 .f32) :
    (mxM.access (Rect.unit (s := S512x1) off S128x1.size inb)).write (Elt F) (upd g) w Finset.univ = upd (Function.update g b w) := by
  subst ho
  funext i
  obtain ⟨a, z, rfl⟩ : ∃ (a : Fin 512) (z : Fin 1), i = ix2 a z := ⟨_, _, eq_ix2 i⟩
  obtain rfl : z = 0 := Subsingleton.elim _ _
  by_cases hb : a.val / 128 = b.val
  · have he : (ix2 a (0 : Fin 1) : S512x1.Idx) = (mxM.access (Rect.unit (s := S512x1) ![128 * b.val, 0] S128x1.size inb)).emb
        (ix2 (⟨a.val % 128, Nat.mod_lt _ (by decide)⟩ : Fin 128) (0 : Fin 1)) := by
      funext d
      match d with
      | ⟨0, _⟩ => refine Fin.ext ?_; show a.val = 128 * b.val + 1 * (a.val % 128); omega
      | ⟨1, _⟩ => refine Fin.ext ?_; show 0 = 0 + 1 * 0; omega
    refine (congrArg _ he).trans ((View.write_emb_of_mem _ _ (Finset.mem_univ _)).trans ?_)
    show w _ = Function.update g b w ⟨a.val / 128, _⟩ _
    rw [show (⟨a.val / 128, by have := a.isLt; omega⟩ : Fin 4) = b from Fin.ext hb, Function.update_self]
  · rw [View.write_of_not_mem]
    · show g ⟨a.val / 128, _⟩ _ = Function.update g b w ⟨a.val / 128, _⟩ _
      rw [Function.update_of_ne (fun h => hb (congrArg Fin.val h))]
    · intro h
      rw [View.setOn_univ] at h
      have H := Rect.mem_set_unit.mp ((View.set_slice_whole (b := cc0_scratch2) _) ▸ h)
      have H0 := H 0
      simp at H0
      omega
/-- The same for the column of sums. -/
theorem write_sm {off : Fin 2 → ℕ} {inb} {b : Fin 4} (ho : off = ![128 * b.val, 0]) (g : Fin 4 → Vec F S128x1 .f32) (w : Vec F S128x1 .f32) :
    (smM.access (Rect.unit (s := S512x1) off S128x1.size inb)).write (Elt F) (upd g) w Finset.univ = upd (Function.update g b w) := by
  exact write_mx (inb := inb) ho g w

/-! ## The staging slots and the result's blocks -/

/-- A slot's store touches the slot only. -/
theorem stSlot_sub {off : Fin 3 → ℕ} {inb} {k : Fin 2} (ho : off = ![k.val, 0, 0]) :
    (stM.access (Rect.unit (s := S2x128x8192) off S1x128x8192.size inb)).setOn Finset.univ ⊆ stSet k := by
  subst ho
  intro i h
  rw [View.setOn_univ] at h
  have H := Rect.mem_set_unit.mp ((View.set_slice_whole (b := cc0_scratch1) _) ▸ h)
  have H0 := H 0
  simp at H0
  rw [mem_stSet]
  omega

/-- What a store into a slot reads first lies in the slot. -/
theorem stSlot_load_sub {off : Fin 3 → ℕ} {inb} {k : Fin 2} (ho : off = ![k.val, 0, 0]) :
    stM.view.setOn (Rect.unit (s := S2x128x8192) off S1x128x8192.size inb).toLoadRect.set ⊆ stSet k := by
  subst ho
  intro i hi
  obtain ⟨j, hj, rfl⟩ := Finset.mem_map.mp hi
  have H := Rect.mem_set_unit.mp hj
  have H0 := H 0
  simp at H0
  rw [mem_stSet]
  show (j 0).val = k.val
  omega

/-- A slot read as a transfer reads it, after a store of `w`. -/
theorem stSlot_read {off : Fin 3 → ℕ} {inb inb'} (f : Vec F S2x128x8192 .f32) (w : Vec F S1x128x8192 .f32) (a : Fin 128) (b : Fin 8192) :
    (stSlot off inb').view.read (Elt F) ((stM.access (Rect.unit (s := S2x128x8192) off S1x128x8192.size inb)).write (Elt F) f w Finset.univ) (ix2 a b)
      = w (ix3 (0 : Fin 1) a b) := by
  have he : (stSlot off inb').view.emb (ix2 a b) = (stM.access (Rect.unit (s := S2x128x8192) off S1x128x8192.size inb)).emb (ix3 (0 : Fin 1) a b) :=
    congrArg (Rect.unit (s := S2x128x8192) off S1x128x8192.size inb).emb (reshapeEquiv_ix2_1ab (a := 128) (b := 8192) _ a b)
  rw [View.read_apply, he]
  exact congrArg _ <| View.write_emb_of_mem (v := stM.access (Rect.unit (s := S2x128x8192) off S1x128x8192.size inb)) f w (Finset.mem_univ _)

/-- Where an element of a result block lies in the result. -/
theorem outBlk_emb {off : Fin 2 → ℕ} {inb} {b o : Fin 4} (ho : off = ![128 * b.val, 8192 * o.val]) (x : Fin 128) (y : Fin 8192) :
    (outBlk off inb).view.emb (ix2 x y) = ix2 (⟨128 * b.val + x.val, by have := b.isLt; have := x.isLt; omega⟩ : Fin 512)
      (⟨8192 * o.val + y.val, by have := o.isLt; have := y.isLt; omega⟩ : Fin 32768) := by
  subst ho
  show (Rect.unit (s := S512x32768) _ S128x8192.size inb).emb (ix2 x y) = _
  funext d
  match d with
  | ⟨0, _⟩ => refine Fin.ext ?_; show 128 * b.val + 1 * x.val = 128 * b.val + x.val; omega
  | ⟨1, _⟩ => refine Fin.ext ?_; show 8192 * o.val + 1 * y.val = 8192 * o.val + y.val; omega

/-! ## The running maximum and sum, and the result -/

variable (A : Dev nD → Vec F S512x8192 .bf16)

/-- The half folded at step `n`: the device's own half at even steps, the other half at odd ones. -/
def foldHalf (c : Dev nD) (n : ℕ) : Fin 2 := if n % 2 = 0 then xo c else xn c
/-- The running maximum and sum of row block `b` of device `c` after its own logits and `n` halves of chunks. -/
def mxSt (c : Dev nD) (b : Fin 4) : ℕ → Vec F S128x1 .f32 × Vec F S128x1 .f32
  | 0 => (k0_pay3 (lgRow (A c) b), k0_pay4 (lgRow (A c) b))
  | n + 1 => let v := chPiece (chC A c) ⟨n / 2 % 3, Nat.mod_lt _ (by decide)⟩ (foldHalf c n) b
             (k0_pay8 v (mxSt c b n).1, k0_pay7 v (mxSt c b n).1 (mxSt c b n).2)

/-- What device `c` writes for its chunk `j` (its own logits at `j = 3`) and row block `b`. -/
def blkC (c : Dev nD) (j b : Fin 4) : Vec F S1x128x8192 .f32 :=
  if h : j.val < 3 then k0_pay56 (chRow (chC A c) ⟨j.val, h⟩ b) (mxSt A c b 6).1 (mxSt A c b 6).2
  else k0_pay74 (lgRow (A c) b) (mxSt A c b 6).1 (mxSt A c b 6).2

/-- The result's column block that chunk `j` of device `c` is, and back. -/
def outCol (c : Dev nD) (j : Fin 4) : Fin 4 := ⟨(c.val % 4 + 3 - j.val) % 4, Nat.mod_lt _ (by decide)⟩

/-- The column block of a chunk and the chunk of a column block are the same map. -/
theorem outCol_outCol (c : Dev nD) (j : Fin 4) : outCol c (outCol c j) = j :=
  Fin.ext (by show (c.val % 4 + 3 - (c.val % 4 + 3 - j.val) % 4) % 4 = j.val; have := j.isLt; omega)

/-- The result of device `c`. -/
def outC (c : Dev nD) : Vec F S512x32768 .f32 := fun i =>
  blkC A c (outCol c ⟨(i 1).val / 8192, by have : (i 1).val < 32768 := (i 1).isLt; omega⟩)
    ⟨(i 0).val / 128, by have : (i 0).val < 512 := (i 0).isLt; omega⟩
    (ix3 (0 : Fin 1) (⟨(i 0).val % 128, Nat.mod_lt _ (by decide)⟩ : Fin 128) (⟨(i 1).val % 8192, Nat.mod_lt _ (by decide)⟩ : Fin 8192))

/-- A result written at block `b`, column block `o` holds `g` there if the payload is `g` at that block's elements. -/
theorem out_write_eq {off : Fin 2 → ℕ} {inb} {b o : Fin 4} (ho : off = ![128 * b.val, 8192 * o.val]) (fd g : Vec F S512x32768 .f32)
    (w : Vec F S128x8192 .f32)
    (hw : ∀ (x : Fin 128) (y : Fin 8192), w (ix2 x y) = g (ix2 (⟨128 * b.val + x.val, by have := b.isLt; have := x.isLt; omega⟩ : Fin 512)
      (⟨8192 * o.val + y.val, by have := o.isLt; have := y.isLt; omega⟩ : Fin 32768))) :
    ∀ i ∈ outSet b o, (outBlk off inb).view.write (Elt F) fd w Finset.univ i = g i := by
  intro i hi
  rw [← outBlk_set (inb := inb) ho] at hi
  obtain ⟨y, -, rfl⟩ := Finset.mem_map.mp hi
  rw [View.write_emb_of_mem _ _ (Finset.mem_univ y)]
  obtain ⟨x, y, rfl⟩ : ∃ (x : Fin 128) (z : Fin 8192), y = ix2 x z := ⟨_, _, eq_ix2 y⟩
  rw [outBlk_emb ho]
  exact hw _ _

/-- A transfer of a slot that holds chunk `j`, block `b` lands that part of the result. -/
theorem land_out {off : Fin 2 → ℕ} {inb} (c : Dev nD) (j b : Fin 4) (ho : off = ![128 * b.val, 8192 * (outCol c j).val])
    (w : Vec F S128x8192 .f32) (hw : ∀ (x : Fin 128) (y : Fin 8192), w (ix2 x y) = blkC A c j b (ix3 (0 : Fin 1) x y)) (fd : Vec F S512x32768 .f32) :
    ∀ i ∈ outSet b (outCol c j), (outBlk off inb).view.write (Elt F) fd w Finset.univ i = outC A c i := by
  refine out_write_eq ho _ _ _ fun x y => ?_
  rw [hw]
  have hx := x.isLt
  have hy := y.isLt
  have key : ∀ (j' b' : Fin 4) (x' : Fin 128) (y' : Fin 8192), j' = j → b' = b → x' = x → y' = y →
      blkC A c j b (ix3 (0 : Fin 1) x y) = blkC A c j' b' (ix3 (0 : Fin 1) x' y') := by
    rintro _ _ _ _ rfl rfl rfl rfl; rfl
  unfold outC
  refine key _ _ _ _ ?_ (Fin.ext ?_) (Fin.ext ?_) (Fin.ext ?_)
  · refine (congrArg (outCol c) (Fin.ext ?_)).trans (outCol_outCol c j)
    show (8192 * (outCol c j).val + y.val) / 8192 = (outCol c j).val
    omega
  · show (128 * b.val + x.val) / 128 = b.val; omega
  · show (128 * b.val + x.val) % 128 = x.val; omega
  · show (8192 * (outCol c j).val + y.val) % 8192 = y.val; omega

end Cert.KernelIdeal.Talk

end
-- ==== Proof.Protocol.lean ====
/- The protocol between the devices. Each device owns fifteen cells: its barrier semaphore, three send and three receive
   semaphores of the z ring, three send and three receive semaphores of the exchange along x, and two semaphores for the copies
   of its result. Every cell carries one payment a round, the barrier three; what each payment delivers is fixed here. -/
module

public import proofs.«01_k».proof.Proof.Blocks

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

/-! ## The resource algebra and the cells -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR
abbrev 𝒱₀ : Variants := Variants.none

abbrev barS : Sem sig := 0
/-- The semaphores: of the ring's sends and receives, of the exchange's sends and receives, of the result's copies. -/
abbrev zs (h : Fin 3) : DmaSem sig := ⟨1 + h.val, by have := h.isLt; show _ < 15; omega⟩
abbrev zr (h : Fin 3) : DmaSem sig := ⟨4 + h.val, by have := h.isLt; show _ < 15; omega⟩
abbrev xs (h : Fin 3) : DmaSem sig := ⟨7 + h.val, by have := h.isLt; show _ < 15; omega⟩
abbrev xr (h : Fin 3) : DmaSem sig := ⟨10 + h.val, by have := h.isLt; show _ < 15; omega⟩
abbrev cp (k : Fin 2) : DmaSem sig := ⟨13 + k.val, by have := k.isLt; show _ < 15; omega⟩

abbrev barC (c : Dev nD) : GSem nD τ sig := ((c : Thread nD τ), .reg barS)
abbrev dmaC (c : Dev nD) (s : DmaSem sig) : GSem nD τ sig := ((c : Thread nD τ), .dma s)

/-- The unit counts of a half's transfer and of a result block's. -/
def NH : ℕ := (lgHalf ![0, 0] (by decide)).view.dmaCredit
def NB : ℕ := (outBlk ![0, 0] (by decide)).view.dmaCredit
/-- A half's transfer pays something. -/
theorem NH_pos : 0 < NH := View.dmaCredit_pos _ (by decide)
/-- A block's copy pays something. -/
theorem NB_pos : 0 < NB := View.dmaCredit_pos _ (by decide)
/-- Every half of a chunk pays the same. -/
theorem chHalf_credit (off inb) : (chHalf off inb).view.dmaCredit = NH := rfl
/-- A half of the logits pays the same. -/
theorem lgHalf_credit (off inb) : (lgHalf off inb).view.dmaCredit = NH := rfl
/-- Every block of the result pays the same. -/
theorem outBlk_credit (off inb) : (outBlk off inb).view.dmaCredit = NB := rfl

/-! ## The pieces of the buffers -/

/-- Half `p` of chunk `h` of device `c`. -/
abbrev chP (c : Dev nD) (h : Fin 3) (p : Fin 2) (q : PosShare TreeShare) (f : Vec F S3x512x8192 .bf16) : sProp 𝕄 :=
  ((c : Thread nD τ).loc cc0_scratch0) ↦[chSet h p]{q} f
/-- Half `p` of the logits of device `c`. -/
abbrev lgP (c : Dev nD) (p : Fin 2) (q : PosShare TreeShare) (f : Vec F S512x8192 .bf16) : sProp 𝕄 :=
  ((c : Thread nD τ).loc cc0_stg0_0) ↦[lgSet p]{q} f
/-- A staging slot of device `c`. -/
abbrev stP (c : Dev nD) (k : Fin 2) (f : Vec F S2x128x8192 .f32) : sProp 𝕄 :=
  ((c : Thread nD τ).loc cc0_scratch1) ↦[stSet k]{fullShare} f
/-- A block of the result of device `c`. -/
abbrev outP (c : Dev nD) (b o : Fin 4) (f : Vec F S512x32768 .f32) : sProp 𝕄 :=
  ((c : Thread nD τ).loc main_v3) ↦[outSet b o]{fullShare} f

/-- The share lent to a transfer along z, the one lent to a transfer along x, the one kept for reading. -/
abbrev hopQ : PosShare TreeShare := fullShare.left
abbrev pushQ : PosShare TreeShare := fullShare.right.left
abbrev keepQ : PosShare TreeShare := fullShare.right.right

variable (A : Dev nD → Vec F S512x8192 .bf16)

/-! ## What each payment delivers -/

/-- The result block that the copy number `n` of a device carries, and whether a slot's round is that copy. -/
def cpJ (n : ℕ) : Fin 4 := ⟨n / 4 % 4, Nat.mod_lt _ (by decide)⟩
def cpB (n : ℕ) : Fin 4 := ⟨n % 4, Nat.mod_lt _ (by decide)⟩
/-- A copy's landing: the result's block, and the slot back. -/
def cpPay (c : Dev nD) (k : Fin 2) (r : ℕ) : sProp 𝕄 :=
  iprop(outP c (cpB (2 * r + k.val)) (outCol c (cpJ (2 * r + k.val))) (outC A c) ∗ ∃ f, stP c k f)

/-- What is paid to cell `s` of device `c` in round `r`. -/
def dmaPay (c : Dev nD) (s : DmaSem sig) (r : ℕ) : sProp 𝕄 :=
  match s.val with
  | 1 => lgP c (xo c) hopQ (A c)
  | 2 => chP c 0 (xo c) hopQ (chC A c)
  | 3 => chP c 1 (xo c) hopQ (chC A c)
  | 4 => chP c 0 (xo c) fullShare (chC A c)
  | 5 => chP c 1 (xo c) fullShare (chC A c)
  | 6 => chP c 2 (xo c) fullShare (chC A c)
  | 7 => chP c 0 (xo c) pushQ (chC A c)
  | 8 => chP c 1 (xo c) pushQ (chC A c)
  | 9 => chP c 2 (xo c) pushQ (chC A c)
  | 10 => chP c 0 (xn c) fullShare (chC A c)
  | 11 => chP c 1 (xn c) fullShare (chC A c)
  | 12 => chP c 2 (xn c) fullShare (chC A c)
  | 13 => cpPay A c 0 r
  | 14 => cpPay A c 1 r
  | _ => iprop(emp)

/-- A device's three destination halves and its three open receive cells, given to the device that will send there. -/
def gift (c : Dev nD) (p : Fin 2) (s : Fin 3 → DmaSem sig) : sProp 𝕄 :=
  iprop(((∃ f, chP c 0 p fullShare f) ∗ (∃ f, chP c 1 p fullShare f) ∗ (∃ f, chP c 2 p fullShare f))
    ∗ (reached ER (dmaC c (s 0)) 0 ∗ reached ER (dmaC c (s 1)) 0 ∗ reached ER (dmaC c (s 2)) 0))

/-- The three barrier payments of device `c`: from its right neighbour (its halves along z), from its left one (nothing), from
    its partner (its halves along x). -/
def barPay (c : Dev nD) (d : Fin 3) : sProp 𝕄 :=
  match d with
  | 0 => gift (rt c) (xo c) zr
  | 1 => iprop(emp)
  | 2 => gift (xp c) (xo c) xr

/-- The rounds of each cell. -/
def lastRound (s : DmaSem sig) : ℕ := if s.val = 0 then 0 else if s.val ≤ 12 then 1 else 8

/-- Round 0 of each barrier cell has three payments; each round of a transfer's cell has one. -/
def Rd : Rounds.Schedule (GSem nD τ sig) (Fin 3) 𝕄 where
  duties g r := match g.2 with
    | .reg _ => if r = 0 ∧ g.1.2 = .tc then Finset.univ else ∅
    | .dma s => if r < lastRound s ∧ g.1.2 = .tc then {0} else ∅
  unitless _ := False
  amount g _ _ := match g.2 with
    | .reg _ => 1
    | .dma s => if s.val ≤ 12 then NH else NB
  payload g r d := match g.2 with
    | .reg _ => barPay g.1.1 d
    | .dma s => dmaPay A g.1.1 s r
  amount_pos g _ _ _ := by
    rcases g with ⟨t, _ | s⟩
    · exact Nat.one_pos
    · show 0 < if s.val ≤ 12 then NH else NB
      split
      · exact NH_pos
      · exact NB_pos

instance Rd_payload_storable (g : GSem nD τ sig) (r : ℕ) (d : Fin 3) :
    BI.Storable (upEmb : UEmb _ 𝕄) ((Rd (F := F) A).payload g r d) := by
  rcases g with ⟨t, _ | s⟩
  · show BI.Storable upEmb (barPay t.1 d)
    unfold barPay gift
    split <;> infer_instance
  · show BI.Storable upEmb (dmaPay A t.1 s r)
    unfold dmaPay cpPay
    split <;> infer_instance

section Sched

variable (c : Dev nD)

/-- The barrier has three payments. -/
theorem duties_bar : (Rd (F := F) A).duties (barC c) 0 = Finset.univ := rfl
/-- A transfer's semaphore has one payment in each of its rounds. -/
theorem duties_dma (s : DmaSem sig) {r : ℕ} (h : r < lastRound s) : (Rd (F := F) A).duties (dmaC c s) r = {0} := if_pos ⟨h, rfl⟩
/-- The barrier has no later round. -/
theorem duties_bar_later : ∀ r, 1 ≤ r → (Rd (F := F) A).duties (barC c) r = ∅ := fun r hr => if_neg fun h => by omega
/-- A transfer's semaphore has no round after its last. -/
theorem duties_dma_later (s : DmaSem sig) : ∀ r, lastRound s ≤ r → (Rd (F := F) A).duties (dmaC c s) r = ∅ :=
  fun r hr => if_neg fun h => by omega

/-- Each of the three is a payment of the barrier's. -/
theorem mem_bar (d : Fin 3) : d ∈ (Rd (F := F) A).duties (barC c) 0 := by rw [duties_bar]; exact Finset.mem_univ d
/-- The one payment of a transfer's semaphore. -/
theorem mem_dma (s : DmaSem sig) {r : ℕ} (h : r < lastRound s) : (0 : Fin 3) ∈ (Rd (F := F) A).duties (dmaC c s) r := by
  rw [duties_dma A c s h]; exact Finset.mem_singleton_self _

/-- What a half's transfer pays. -/
theorem amount_half (s : DmaSem sig) (r : ℕ) (d : Fin 3) (h : s.val ≤ 12) : (Rd (F := F) A).amount (dmaC c s) r d = NH := if_pos h
/-- What a block's copy pays. -/
theorem amount_cp (k : Fin 2) (r : ℕ) (d : Fin 3) : (Rd (F := F) A).amount (dmaC c (cp k)) r d = NB :=
  if_neg (by show ¬ 13 + k.val ≤ 12; omega)

/-- The barrier's round is worth three. -/
theorem expect_bar : (Rd (F := F) A).expect (barC c) 0 = 3 := by
  unfold Schedule.expect Schedule.amountOf
  rw [duties_bar]
  show ∑ d : Fin 3, 1 = 3
  rfl
/-- The round of a half's transfer is worth one half. -/
theorem expect_half (s : DmaSem sig) (h : s.val ≤ 12) (h0 : 0 < s.val) : (Rd (F := F) A).expect (dmaC c s) 0 = NH := by
  unfold Schedule.expect Schedule.amountOf
  have hl : 0 < lastRound s := by unfold lastRound; rw [if_neg (by omega), if_pos h]; exact Nat.one_pos
  rw [duties_dma A c s hl, Finset.sum_singleton, amount_half A c s 0 0 h]
/-- A slot's semaphore has eight rounds. -/
theorem last_cp (k : Fin 2) : lastRound (cp k) = 8 := by
  unfold lastRound; rw [if_neg (by show ¬ 13 + k.val = 0; omega), if_neg (by show ¬ 13 + k.val ≤ 12; omega)]
/-- Each of them is worth one block. -/
theorem expect_cp (k : Fin 2) {r : ℕ} (h : r < 8) : (Rd (F := F) A).expect (dmaC c (cp k)) r = NB := by
  unfold Schedule.expect Schedule.amountOf
  rw [duties_dma A c (cp k) (by rw [last_cp]; exact h), Finset.sum_singleton, amount_cp]

/-- What a wait on the barrier yields. -/
theorem rest_bar : bigSep ((Rd (F := F) A).duties (barC c) 0 \ ∅) (fun d => (Rd (F := F) A).payload (barC c) 0 d)
    = iprop(barPay c 0 ∗ barPay c 1 ∗ barPay c 2) := by
  rw [Finset.sdiff_empty, duties_bar, bigSep_eq_bigSepL_of_eq [0, 1, 2] (by decide) (by decide)]
  rfl
/-- What a wait on a transfer's semaphore yields. -/
theorem rest_dma (s : DmaSem sig) {r : ℕ} (h : r < lastRound s) :
    bigSep ((Rd (F := F) A).duties (dmaC c s) r \ ∅) (fun d => (Rd (F := F) A).payload (dmaC c s) r d) = dmaPay A c s r := by
  rw [Finset.sdiff_empty, duties_dma A c s h, bigSep_singleton]
  rfl

end Sched

/-! ## What each device owes at launch; the levels -/

/-- What a device owes to its neighbours' receive cells: after `n` of its six transfers. -/
def O6 (_ : Dev nD) : CellTallies nD τ sig Unit := 0
def O5 (c : Dev nD) : CellTallies nD τ sig Unit := O6 c + tallyAt (dmaC (xp c) (xr 2)) () NH
def O4 (c : Dev nD) : CellTallies nD τ sig Unit := O5 c + tallyAt (dmaC (xp c) (xr 1)) () NH
def O3 (c : Dev nD) : CellTallies nD τ sig Unit := O4 c + tallyAt (dmaC (rt c) (zr 2)) () NH
def O2 (c : Dev nD) : CellTallies nD τ sig Unit := O3 c + tallyAt (dmaC (xp c) (xr 0)) () NH
def O1 (c : Dev nD) : CellTallies nD τ sig Unit := O2 c + tallyAt (dmaC (rt c) (zr 1)) () NH
/-- All six transfers. -/
def OT (c : Dev nD) : CellTallies nD τ sig Unit := O1 c + tallyAt (dmaC (rt c) (zr 0)) () NH
/-- The transfers and the three barrier signals. -/
def OB2 (c : Dev nD) : CellTallies nD τ sig Unit := OT c + tallyAt (barC (xp c)) () 1
def OB1 (c : Dev nD) : CellTallies nD τ sig Unit := OB2 c + tallyAt (barC (rt c)) () 1
def O₀ (c : Dev nD) : CellTallies nD τ sig Unit := OB1 c + tallyAt (barC (lf c)) () 1

def L (g : GSem nD τ sig) : Finset Unit := if g.1.2 = .tc then {()} else ∅
/-- The order in which the receive cells are waited on. -/
def lv (g : GSem nD τ sig) (_ : Unit) : ℕ := match g.2 with
  | .reg _ => 1
  | .dma s => match s.val with
    | 4 => 2
    | 10 => 3
    | 5 => 4
    | 11 => 5
    | 6 => 6
    | 12 => 7
    | _ => 0

/-- Only the TensorCores' cells carry a level. -/
theorem L_of_ne (g : GSem nD τ sig) (h : g.1.2 ≠ .tc) : L g = ∅ := if_neg h
/-- Each of their cells carries one. -/
theorem L_tc (c : Dev nD) (sm : SemLoc sig) : L ((c : Thread nD τ), sm) = {()} := if_pos rfl

/-- Everything owed lies on cores' cells above a level. -/
def Above (n : ℕ) (O : CellTallies nD τ sig Unit) : Prop := ∀ g u, 0 < O g u → g.1.2 = .tc ∧ n < lv g u

/-- Where nothing is owed, all that is owed lies above any level. -/
theorem above_zero (n : ℕ) : Above n (0 : CellTallies nD τ sig Unit) := fun g u h => absurd h (Nat.lt_irrefl 0)
/-- One more debt on a cell above the level keeps all that is owed above it. -/
theorem above_add {n : ℕ} {O : CellTallies nD τ sig Unit} (hO : Above n O) (d : Dev nD) (sm : SemLoc sig) (k : ℕ)
    (h : n < lv ((d : Thread nD τ), sm) ()) : Above n (O + tallyAt ((d : Thread nD τ), sm) () k) := by
  intro g u hg
  by_cases hO' : 0 < O g u
  · exact hO g u hO'
  · have h1 : 0 < (tallyAt ((d : Thread nD τ), sm) () k : CellTallies nD τ sig Unit) g u := by
      have : (O + tallyAt ((d : Thread nD τ), sm) () k : CellTallies nD τ sig Unit) g u = O g u + (tallyAt ((d : Thread nD τ), sm) () k : CellTallies nD τ sig Unit) g u := rfl
      omega
    rw [tallyAt_apply] at h1
    by_cases h2 : g = ((d : Thread nD τ), sm) ∧ u = ()
    · rw [h2.1]; exact ⟨rfl, h⟩
    · rw [if_neg h2] at h1; exact absurd h1 (Nat.lt_irrefl 0)

/-- A device may wait on a cell of its own whose level is below everything it owes. -/
theorem mayWait {O : CellTallies nD τ sig Unit} (c : Dev nD) (sm : SemLoc sig) (n : ℕ) (hn : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      have h := (hO g u hg).1
      unfold L; rw [if_pos h]; exact Finset.mem_singleton_self _)
    (fun p hp => by rw [Finset.mem_singleton.mp hp]; exact hn)
    (fun g u hg => (hO g u hg).2)

/-- After five transfers, what is owed lies above every level below 7. -/
theorem above_O5 (n : ℕ) (c : Dev nD) (h : n < 7) : Above n (O5 c) := above_add (above_zero n) _ _ _ h
/-- After three transfers, it lies above every level below 5. -/
theorem above_O3 (n : ℕ) (c : Dev nD) (h : n < 5) : Above n (O3 c) :=
  above_add (above_add (above_O5 n c (by omega)) (xp c) (.dma (xr 1)) NH h) (rt c) (.dma (zr 2)) NH (show n < 6 by omega)
/-- After one transfer, it lies above every level below 3. -/
theorem above_O1 (n : ℕ) (c : Dev nD) (h : n < 3) : Above n (O1 c) :=
  above_add (above_add (above_O3 n c (by omega)) (xp c) (.dma (xr 0)) NH h) (rt c) (.dma (zr 1)) NH (show n < 4 by omega)
/-- Before the transfers, it lies above every level below 2. -/
theorem above_OT (n : ℕ) (c : Dev nD) (h : n < 2) : Above n (OT c) := above_add (above_O1 n c (by omega)) _ _ _ h

/-! ## The records -/

/-- The cells: each device's barrier cell, and its fourteen transfer cells. -/
abbrev osem : Fin 14 → SemLoc sig := fun i => .dma ⟨1 + i.val, by have := i.isLt; show _ < 15; omega⟩
/-- The kernel's fourteen transfer semaphores are different. -/
theorem osem_inj : Function.Injective osem := by decide
/-- None of them is the barrier's. -/
theorem osem_ne_bar : ∀ k : Fin 14, osem k ≠ .reg barS := by decide
def barEmb : Dev nD ↪ GSem nD τ sig := ⟨fun c => barC c, fun _ _ h => congrArg (fun g : GSem nD τ sig => g.1.1) h⟩
def scEmb : Dev nD × Fin 14 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

/-- The barriers' cells and the transfers' cells are different. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)
/-- A barrier is one of the protocol's cells. -/
theorem bar_mem (c : Dev nD) : barC c ∈ (barCells ∪ scCells : Finset (GSem nD τ sig)) :=
  Finset.mem_union_left _ (Finset.mem_map_of_mem barEmb (Finset.mem_univ c))
/-- A transfer's semaphore is one of the protocol's cells. -/
theorem dma_mem (c : Dev nD) (s : DmaSem sig) (h : 0 < s.val) : dmaC c s ∈ (barCells ∪ scCells : Finset (GSem nD τ sig)) := by
  refine Finset.mem_union_right _ (Finset.mem_map.mpr ⟨(c, ⟨s.val - 1, ?_⟩), Finset.mem_univ _, ?_⟩)
  · have : s.val < 15 := s.isLt; omega
  · exact Prod.ext rfl (congrArg SemLoc.dma (Fin.ext (by show 1 + (s.val - 1) = s.val; omega)))

/-- What every device may consult: all the invariants, and that round 0 of every barrier cell is reached. -/
def records (κ : GSem nD τ sig → ℕ) : sProp 𝕄 :=
  iprop((bigSep (barCells ∪ scCells) fun g => cellInv ER (Rd A) (κ g) g) ∗ bigSep barCells fun g => reached ER g 0)
instance records_persistent (κ : GSem nD τ sig → ℕ) : BI.Persistent (records A κ) := by unfold records; infer_instance

/-- The invariant of one cell, from those of all. -/
theorem inv_at (κ : GSem nD τ sig → ℕ) {g : GSem nD τ sig} (hg : g ∈ (barCells ∪ scCells : Finset (GSem nD τ sig))) :
    (bigSep (barCells ∪ scCells) fun g => (cellInv ER (Rd A) (κ g) g : sProp 𝕄)) ⊢ cellInv ER (Rd A) (κ g) g :=
  bigSep_elim hg
/-- That a barrier has reached its first round, from the same of all. -/
theorem reached_at (c : Dev nD) : (bigSep barCells fun g => (reached ER g 0 : sProp 𝕄)) ⊢ reached ER (barC c) 0 :=
  bigSep_elim (Finset.mem_map_of_mem barEmb (Finset.mem_univ c))

/-- The invariant of a device's barrier, from the records. -/
theorem inv_bar (κ : GSem nD τ sig → ℕ) (c : Dev nD) : records A κ ⊢ (cellInv ER (Rd A) (κ (barC c)) (barC c) : sProp 𝕄) := by
  unfold records
  iintro ⟨HI, -⟩
  iapply (inv_at A κ (bar_mem c))
  iexact HI
/-- The invariant of a transfer's semaphore, from the records. -/
theorem inv_dma (κ : GSem nD τ sig → ℕ) (c : Dev nD) (s : DmaSem sig) (h : 0 < s.val) :
    records A κ ⊢ (cellInv ER (Rd A) (κ (dmaC c s)) (dmaC c s) : sProp 𝕄) := by
  unfold records
  iintro ⟨HI, -⟩
  iapply (inv_at A κ (dma_mem c s h))
  iexact HI
/-- That a device's barrier has reached its first round, from the records. -/
theorem reached_bar (κ : GSem nD τ sig → ℕ) (c : Dev nD) : records A κ ⊢ (reached ER (barC c) 0 : sProp 𝕄) := by
  unfold records
  iintro ⟨-, HR⟩
  iapply (reached_at (F := F) c)
  iexact HR

end Cert.KernelIdeal.Talk

end
-- ==== Proof.Steps.lean ====
/- One step of the program at a time: a signal, a wait, a transfer between halves, each with the cell and the pieces it touches. -/
module

public import proofs.«01_k».proof.Proof.Protocol

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

local notation "𝕄" => MT nD τ sig Unit (Elt F) ℕ UU ℕ

variable (A : Dev nD → Vec F S512x8192 .bf16) (κ : GSem nD τ sig → ℕ)

/-- What a device owes, whatever waits it has recorded. -/
def owesE (c : Dev nD) (O : CellTallies nD τ sig Unit) : sProp 𝕄 := iprop(∃ W, owes (c : Thread nD τ) O W)

/-- A program of device `c`, run to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A signal of a neighbour's barrier cell, paying its duty `d`. -/
theorem step_signal {α : Type} {Q : α → sProp 𝕄} (c e : Dev nD) {n : Dev nD} (hn : n = e) (d : Fin 3)
    {O₀ O : CellTallies nD τ sig Unit} (hO : O₀ = O + tallyAt (barC e) () 1) {k : PUnit → Prog (TpuEff nD τ sig (Elt F) Λ₀ .tc) α} :
    iprop(records A κ ∗ owesE c O₀ ∗ dutyTok ER (barC e) 0 d ∗ barPay e d)
      ⊢ iprop((owesE c O -∗ run c (k ⟨⟩) Q) -∗ run c (.op (.semSignal (Dev.tc n) barS 1) k) Q) := by
  subst hn
  unfold owesE
  iintro ⟨#HR, ⟨%W, HO⟩, Ht, Hp⟩ Hk
  iapply (Rounds.wp_signal 𝒱₀ ER (Rd A) (c : Thread nD τ) none (dst := (n : Thread nD τ)) (sem := barS) (r := 0) (d := d) (κ := κ (barC n))
      (mem_bar A n d) rfl () O hO) $$ [HO Ht Hp]
  · isplitr; · iapply (inv_bar A κ n); iexact HR
    isplitl [HO]; · iexact HO
    isplitl [Ht]; · iexact Ht
    isplitl [Hp]; · iapply (Entails.of_eq (show barPay n d = (Rd A).payload (barC n) 0 d from rfl)); iexact Hp
    iapply (reached_bar A κ n); iexact HR
  iintro HO
  iapply Hk
  iexists W
  iexact HO

/-- The wait on the own barrier cell, for all three payments. -/
theorem step_barrier {α : Type} {Q : α → sProp 𝕄} (c : Dev nD) {k : PUnit → Prog (TpuEff nD τ sig (Elt F) Λ₀ .tc) α} :
    iprop(records A κ ∗ levAts L lv ∗ cred (tallyAt (barC c) () 3) ∗ owesE c (OT c) ∗ atPos ER (barC c) 0 ∅ 0)
      ⊢ iprop(((owesE c (OT c) ∗ atPos ER (barC c) 1 ∅ 0 ∗ barPay c 0 ∗ barPay c 1 ∗ barPay c 2) -∗ run c (k ⟨⟩) Q)
          -∗ run c (.op (.semWait barS 3) k) Q) := by
  unfold owesE
  iintro ⟨#HR, #Hlev, Hc, ⟨%W, HO⟩, Hat⟩ Hk
  iapply (Rounds.wp_wait_rest_token 𝒱₀ ER (Rd A) (c : Thread nD τ) none (κ := κ (barC c))
      (wpE_semWait_eq 𝒱₀ (c : Thread nD τ) none Set.univ) (Set.mem_univ _) () (O := OT c) (W := W) (R := 0) (m := 0) (T := ∅)
      ((Nat.zero_add 3).trans (expect_bar A c).symm)) $$ [Hc HO Hat]
  · isplitr; · iapply (inv_bar A κ c); iexact HR
    isplitl [Hc]; · iexact Hc
    isplitl [HO]; · iexact HO
    isplitr; · iapply (mayWait c (.reg barS) 1 le_rfl (above_OT 1 c (by decide))); iexact Hlev
    iexact Hat
  iintro ⟨HO, Hat, -, Hpay⟩
  ihave Hp := (Entails.of_eq (rest_bar A c)) $$ Hpay
  iapply Hk
  isplitl [HO]; · iexists _; iexact HO
  isplitl [Hat]; · iexact Hat
  iexact Hp

/-- A wait on a transfer's own cell, owing `O`. -/
theorem step_wait {α : Type} {Q : α → sProp 𝕄} (c : Dev nD) (s : DmaSem sig) {r N : ℕ} (h0 : 0 < s.val) (hr : r < lastRound s)
    (hN : (Rd A).expect (dmaC c s) r = N) {O : CellTallies nD τ sig Unit}
    (hO : (levAts L lv : sProp 𝕄) ⊢ MayWait (c : Thread nD τ) (.dma s) () O)
    {s' : DmaSem sig} (hs : s' = s) {sp sp' : Space} {sh sh' : Shape} {e e' : EltTy}
    {src : Memref sig .tc sp sh e} {dst : Memref sig .tc sp' sh' e'} {hsrc : src.view.WordExact} {hdst : dst.view.WordExact}
    (hd : dst.view.dmaCredit = N) {k : PUnit → Prog (TpuEff nD τ sig (Elt F) Λ₀ .tc) α} :
    iprop(records A κ ∗ levAts L lv ∗ cred (tallyAt (dmaC c s) () N) ∗ owesE c O ∗ atPos ER (dmaC c s) r ∅ 0)
      ⊢ iprop(((owesE c O ∗ atPos ER (dmaC c s) (r + 1) ∅ 0 ∗ reached ER (dmaC c s) (r + 1) ∗ dmaPay A c s r) -∗ run c (k ⟨⟩) Q)
          -∗ run c (.op (.waitDma2 s' src dst hsrc hdst) k) Q) := by
  subst hs
  subst hd
  unfold owesE
  iintro ⟨#HR, #Hlev, Hc, ⟨%W, HO⟩, Hat⟩ Hk
  iapply (Rounds.wp_wait_rest_token 𝒱₀ ER (Rd A) (c : Thread nD τ) none (κ := κ (dmaC c s'))
      (wpE_waitDma2_eq (src := src) (dst := dst) 𝒱₀ (c : Thread nD τ) none Set.univ) (Set.mem_univ _) () (O := O) (W := W) (R := r) (m := 0) (T := ∅)
      ((Nat.zero_add _).trans hN.symm)) $$ [Hc HO Hat]
  · isplitr; · iapply (inv_dma A κ c s' h0); iexact HR
    isplitl [Hc]; · iexact Hc
    isplitl [HO]; · iexact HO
    isplitr; · iapply hO; iexact Hlev
    iexact Hat
  iintro ⟨HO, Hat, Hr, Hpay⟩
  ihave Hp := (Entails.of_eq (rest_dma A c s' hr)) $$ Hpay
  iapply Hk
  isplitl [HO]; · iexists _; iexact HO
  isplitl [Hat]; · iexact Hat
  isplitl [Hr]; · iexact Hr
  iexact Hp

/-- A transfer of a half to device `d`, from contents `fs` of any buffer. -/
theorem step_send {α : Type} {Q : α → sProp 𝕄} (c d : Dev nD) {n : Dev nD} (hn : n = d) (sS sR : DmaSem sig) {s1 s2 : DmaSem sig}
    (h1 : s1 = sS) (h2 : s2 = sR) (hS : 0 < sS.val ∧ sS.val ≤ 12) (hR : 0 < sR.val ∧ sR.val ≤ 12)
    {src : Memref sig .tc .vmem S512x4096 .bf16} (q : PosShare TreeShare) (fs : Buf (Elt F) (src.view.loc (c : Thread nD τ)))
    {off : Fin 3 → ℕ} {inb} (h : Fin 3) (p : Fin 2) (ho : off = ![h.val, 0, 4096 * p.val])
    (hw : ∀ fd, ∀ i ∈ chSet h p, (chHalf off inb).view.write (Elt F) fd (src.view.read (Elt F) fs) Finset.univ i = chC A d i)
    (hp₁ : (src.view.loc (c : Thread nD τ) ↦[src.view.set]{q} fs) ⊢ dmaPay A c sS 0)
    (hp₂ : dmaPay A d sR 0 = chP d h p fullShare (chC A d))
    {O₀ O : CellTallies nD τ sig Unit} (hO : O₀ = O + tallyAt (dmaC d sR) () NH)
    {hsc : (chHalf off inb).view.ref.isScScratch = false} {hsrc : src.view.WordExact} {hdst : (chHalf off inb).view.WordExact}
    {hsem : DmaTarget.Typed .vmem (.dma s2) (.remote (Dev.tc n) (chHalf off inb) (.dma s1) hsc)}
    {k : PUnit → Prog (TpuEff nD τ sig (Elt F) Λ₀ .tc) α} :
    iprop(records A κ ∗ (src.view.loc (c : Thread nD τ) ↦[src.view.set]{q} fs) ∗ (∃ fd, chP d h p fullShare fd) ∗ owesE c O₀
        ∗ dutyTok ER (dmaC c sS) 0 0 ∗ reached ER (dmaC c sS) 0 ∗ dutyTok ER (dmaC d sR) 0 0 ∗ reached ER (dmaC d sR) 0)
      ⊢ iprop(((cred (tallyAt (dmaC c sS) () NH) ∗ owesE c O) -∗ run c (k ⟨⟩) Q)
          -∗ run c (.op (.enqueueDma src (.remote (Dev.tc n) (chHalf off inb) (.dma s1) hsc) (.dma s2) hsrc hdst hsem) k) Q) := by
  subst hn h1 h2
  have hl : ∀ s : DmaSem sig, 0 < s.val → s.val ≤ 12 → 0 < lastRound s := fun s h0 h1 => by
    unfold lastRound; rw [if_neg (by omega), if_pos h1]; exact Nat.one_pos
  unfold owesE
  iintro ⟨#HR, Hs, ⟨%fd, Hd⟩, ⟨%W, HO⟩, Ht1, Hr1, Ht2, Hr2⟩ Hk
  iapply (Rounds.wp_send_pointsTo 𝒱₀ ER (Rd A) (c : Thread nD τ) none (c' := (n : Thread nD τ)) (src := src) (dst := chHalf off inb)
      (sS := .dma s1) (sem := .dma s2) (q := q) (fs := fs) (κ₁ := κ (dmaC c s1)) (κ₂ := κ (dmaC n s2))
      (r₁ := 0) (r₂ := 0) (d₁ := 0) (d₂ := 0) (fd := fd)
      (mem_dma A c s1 (hl _ hS.1 hS.2)) (mem_dma A n s2 (hl _ hR.1 hR.2))
      () () NH rfl (amount_half A c s1 0 0 hS.2) (amount_half A n s2 0 0 hR.2) O hO (W := W)
      hp₁
      (by
        rw [chHalf_set ho, pointsTo_congr (hw fd)]
        exact Entails.of_eq hp₂.symm)) $$ [Hs Hd HO Ht1 Hr1 Ht2 Hr2]
  · isplitr; · iapply (inv_dma A κ c s1 hS.1); iexact HR
    isplitr; · iapply (inv_dma A κ n s2 hR.1); iexact HR
    isplitl [Hs]; · iexact Hs
    isplitl [Hd]; · rw [chHalf_set ho]; iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W
  iexact HO

/-- The first transfer along z: the own half of the logits, into chunk 0 of the right neighbour. -/
theorem step_send_first {α : Type} {Q : α → sProp 𝕄} (c : Dev nD) {n : Dev nD} (hn : n = rt c) {s1 s2 : DmaSem sig}
    (h1 : s1 = zs 0) (h2 : s2 = zr 0) {offs : Fin 2 → ℕ} {inbs} (hos : offs = ![0, 4096 * (xo c).val])
    {off : Fin 3 → ℕ} {inb} (ho : off = ![0, 0, 4096 * (xo c).val])
    {hsc : (chHalf off inb).view.ref.isScScratch = false} {hsrc : (lgHalf offs inbs).view.WordExact} {hdst : (chHalf off inb).view.WordExact}
    {hsem : DmaTarget.Typed .vmem (.dma s2) (.remote (Dev.tc n) (chHalf off inb) (.dma s1) hsc)}
    {k : PUnit → Prog (TpuEff nD τ sig (Elt F) Λ₀ .tc) α} :
    iprop(records A κ ∗ lgP c (xo c) hopQ (A c) ∗ (∃ fd, chP (rt c) 0 (xo c) fullShare fd) ∗ owesE c (OT c)
        ∗ dutyTok ER (dmaC c (zs 0)) 0 0 ∗ reached ER (dmaC c (zs 0)) 0 ∗ dutyTok ER (dmaC (rt c) (zr 0)) 0 0 ∗ reached ER (dmaC (rt c) (zr 0)) 0)
      ⊢ iprop(((cred (tallyAt (dmaC c (zs 0)) () NH) ∗ owesE c (O1 c)) -∗ run c (k ⟨⟩) Q)
          -∗ run c (.op (.enqueueDma (lgHalf offs inbs) (.remote (Dev.tc n) (chHalf off inb) (.dma s1) hsc) (.dma s2) hsrc hdst hsem) k) Q) := by
  have H := step_send (Q := Q) A κ c (rt c) hn (zs 0) (zr 0) h1 h2 (by decide) (by decide) (src := lgHalf offs inbs) hopQ (A c) (inb := inb) 0 (xo c) ho
    (land_first A c ho hos) (by rw [lgHalf_set hos]; exact Entails.refl _) (by show chP (rt c) 0 (xo (rt c)) fullShare (chC A (rt c)) = _; rw [xo_rt])
    (O₀ := OT c) (O := O1 c) rfl (hsc := hsc) (hsrc := hsrc) (hdst := hdst) (hsem := hsem) (k := k)
  rw [lgHalf_set hos] at H
  exact H

/-- A transfer of half `p` of chunk `h`, into the same half of chunk `h'` of device `d`. -/
theorem step_send_chunk {α : Type} {Q : α → sProp 𝕄} (c d : Dev nD) {n : Dev nD} (hn : n = d) (sS sR : DmaSem sig) {s1 s2 : DmaSem sig}
    (h1 : s1 = sS) (h2 : s2 = sR) (hS : 0 < sS.val ∧ sS.val ≤ 12) (hR : 0 < sR.val ∧ sR.val ≤ 12)
    (h h' : Fin 3) (p : Fin 2) (q : PosShare TreeShare) {offs : Fin 3 → ℕ} {inbs} (hos : offs = ![h.val, 0, 4096 * p.val])
    {off : Fin 3 → ℕ} {inb} (ho : off = ![h'.val, 0, 4096 * p.val]) (hsame : src d h' p = src c h p)
    (hp₁ : dmaPay A c sS 0 = chP c h p q (chC A c)) (hp₂ : dmaPay A d sR 0 = chP d h' p fullShare (chC A d))
    {O₀ O : CellTallies nD τ sig Unit} (hO : O₀ = O + tallyAt (dmaC d sR) () NH)
    {hsc : (chHalf off inb).view.ref.isScScratch = false} {hsrc : (chHalf offs inbs).view.WordExact} {hdst : (chHalf off inb).view.WordExact}
    {hsem : DmaTarget.Typed .vmem (.dma s2) (.remote (Dev.tc n) (chHalf off inb) (.dma s1) hsc)}
    {k : PUnit → Prog (TpuEff nD τ sig (Elt F) Λ₀ .tc) α} :
    iprop(records A κ ∗ chP c h p q (chC A c) ∗ (∃ fd, chP d h' p fullShare fd) ∗ owesE c O₀
        ∗ dutyTok ER (dmaC c sS) 0 0 ∗ reached ER (dmaC c sS) 0 ∗ dutyTok ER (dmaC d sR) 0 0 ∗ reached ER (dmaC d sR) 0)
      ⊢ iprop(((cred (tallyAt (dmaC c sS) () NH) ∗ owesE c O) -∗ run c (k ⟨⟩) Q)
          -∗ run c (.op (.enqueueDma (chHalf offs inbs) (.remote (Dev.tc n) (chHalf off inb) (.dma s1) hsc) (.dma s2) hsrc hdst hsem) k) Q) := by
  have H := step_send (Q := Q) A κ c d hn sS sR h1 h2 hS hR (src := chHalf offs inbs) q (chC A c) (inb := inb) h' p ho
    (land_chunk A c d h h' p ho hos hsame) (by rw [chHalf_set hos]; exact Entails.of_eq hp₁.symm) hp₂
    (O₀ := O₀) (O := O) hO (hsc := hsc) (hsrc := hsrc) (hdst := hdst) (hsem := hsem) (k := k)
  rw [chHalf_set hos] at H
  exact H

end Cert.KernelIdeal.Talk

end
-- ==== Proof.Loops.lean ====
/- The counted loops: the first one takes the maximum and the sum of the device's own logits, row block by row block; the others
   each fold one half of one chunk into them. -/
module

public import proofs.«01_k».proof.Proof.Steps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ UU ℕ

variable (A : Dev nD → Vec F S512x8192 .bf16)

/-- The buffer of the running maximum, and that of the running sum. -/
abbrev mxP (c : Dev nD) (f : Vec F S512x1 .f32) : sProp 𝕄 := ((c : Thread nD τ).loc cc0_scratch2) ↦{fullShare} f
abbrev smP (c : Dev nD) (f : Vec F S512x1 .f32) : sProp 𝕄 := ((c : Thread nD τ).loc cc0_scratch3) ↦{fullShare} f
/-- Both, after `n` folds. -/
def msP (c : Dev nD) (n : ℕ) : sProp 𝕄 := iprop(mxP c (upd fun b => (mxSt A c b n).1) ∗ smP c (upd fun b => (mxSt A c b n).2))

/-- One row block's load of a half of a chunk. -/
theorem step_load_piece {α : Type} {Q : α → sProp 𝕄} (c : Dev nD) {off : Fin 3 → ℕ} {inb} (h : Fin 3) (p : Fin 2) (b : Fin 4)
    (ho : off = ![h.val, 128 * b.val, 4096 * p.val]) (q : PosShare TreeShare) (f : Vec F S3x512x8192 .bf16)
    {hl} {k : Vec F S1x128x4096 .bf16 → Prog (TpuEff nD τ sig (Elt F) Λ₀ .tc) α} :
    chP c h p q f ⊢ iprop((chP c h p q f -∗ run c (k (chPiece f h p b)) Q)
      -∗ run c (.op (.load chM (Rect.unit (s := S3x512x8192) off S1x128x4096.size inb).toLoadRect hl) k) Q) := by
  have H := wp_load (Q := Q) (Γ := []) (defs := defs₀ (F := F)) 𝒱₀ (c : Thread nD τ) none Set.univ (m := chM) (r := (Rect.unit (s := S3x512x8192) off S1x128x4096.size inb).toLoadRect)
    (hl := hl) (k := k) (q := q) (f := f) (S := chSet h p) (chPiece_sub ho)
  rw [read_chPiece ho] at H
  exact H

/-- A load of a block of the running maximum. -/
theorem step_load_mx {α : Type} {Q : α → sProp 𝕄} (c : Dev nD) {off : Fin 2 → ℕ} {inb} (b : Fin 4)
    (ho : off = ![128 * b.val, 0]) (g : Fin 4 → Vec F S128x1 .f32) {hl} {k : Vec F S128x1 .f32 → Prog (TpuEff nD τ sig (Elt F) Λ₀ .tc) α} :
    mxP c (upd g) ⊢ iprop((mxP c (upd g) -∗ run c (k (g b)) Q)
      -∗ run c (.op (.load mxM (Rect.unit (s := S512x1) off S128x1.size inb).toLoadRect hl) k) Q) := by
  have H := wp_load (Q := Q) (Γ := []) (defs := defs₀ (F := F)) 𝒱₀ (c : Thread nD τ) none Set.univ (m := mxM) (r := (Rect.unit (s := S512x1) off S128x1.size inb).toLoadRect)
    (hl := hl) (k := k) (q := fullShare) (f := upd g) (S := Finset.univ) (Finset.subset_univ _)
  rw [read_mx ho] at H
  exact H
/-- A load of a block of the running sum. -/
theorem step_load_sm {α : Type} {Q : α → sProp 𝕄} (c : Dev nD) {off : Fin 2 → ℕ} {inb} (b : Fin 4)
    (ho : off = ![128 * b.val, 0]) (g : Fin 4 → Vec F S128x1 .f32) {hl} {k : Vec F S128x1 .f32 → Prog (TpuEff nD τ sig (Elt F) Λ₀ .tc) α} :
    smP c (upd g) ⊢ iprop((smP c (upd g) -∗ run c (k (g b)) Q)
      -∗ run c (.op (.load smM (Rect.unit (s := S512x1) off S128x1.size inb).toLoadRect hl) k) Q) := by
  have H := wp_load (Q := Q) (Γ := []) (defs := defs₀ (F := F)) 𝒱₀ (c : Thread nD τ) none Set.univ (m := smM) (r := (Rect.unit (s := S512x1) off S128x1.size inb).toLoadRect)
    (hl := hl) (k := k) (q := fullShare) (f := upd g) (S := Finset.univ) (Finset.subset_univ _)
  rw [read_sm ho] at H
  exact H

/-- A store of a block of the running maximum. -/
theorem step_store_mx {α : Type} {Q : α → sProp 𝕄} (c : Dev nD) {off : Fin 2 → ℕ} {inb} (b : Fin 4)
    (ho : off = ![128 * b.val, 0]) (g : Fin 4 → Vec F S128x1 .f32) (w : Vec F S128x1 .f32) {hx hm}
    {k : PUnit → Prog (TpuEff nD τ sig (Elt F) Λ₀ .tc) α} :
    mxP c (upd g) ⊢ iprop((mxP c (upd (Function.update g b w)) -∗ run c (k ⟨⟩) Q)
      -∗ run c (.op (.store mxM (Rect.unit (s := S512x1) off S128x1.size inb) w Finset.univ hx hm) k) Q) := by
  have H := wp_store (Q := Q) (Γ := []) (defs := defs₀ (F := F)) 𝒱₀ (c : Thread nD τ) none Set.univ (m := mxM) (r := Rect.unit (s := S512x1) off S128x1.size inb)
    (hx := hx) (hm := hm) (w := w) (k := k) (f := upd g) (S := Finset.univ) (Finset.subset_univ _)
  rw [write_mx ho] at H
  exact H
/-- A store of a block of the running sum. -/
theorem step_store_sm {α : Type} {Q : α → sProp 𝕄} (c : Dev nD) {off : Fin 2 → ℕ} {inb} (b : Fin 4)
    (ho : off = ![128 * b.val, 0]) (g : Fin 4 → Vec F S128x1 .f32) (w : Vec F S128x1 .f32) {hx hm}
    {k : PUnit → Prog (TpuEff nD τ sig (Elt F) Λ₀ .tc) α} :
    smP c (upd g) ⊢ iprop((smP c (upd (Function.update g b w)) -∗ run c (k ⟨⟩) Q)
      -∗ run c (.op (.store smM (Rect.unit (s := S512x1) off S128x1.size inb) w Finset.univ hx hm) k) Q) := by
  have H := wp_store (Q := Q) (Γ := []) (defs := defs₀ (F := F)) 𝒱₀ (c : Thread nD τ) none Set.univ (m := smM) (r := Rect.unit (s := S512x1) off S128x1.size inb)
    (hx := hx) (hm := hm) (w := w) (k := k) (f := upd g) (S := Finset.univ) (Finset.subset_univ _)
  rw [write_sm ho] at H
  exact H

/-- A load of a row block of the logits. -/
theorem step_load_lg {α : Type} {Q : α → sProp 𝕄} (c : Dev nD) {off : Fin 2 → ℕ} {inb} (b : Fin 4)
    (ho : off = ![128 * b.val, 0]) (q : PosShare TreeShare) (f : Vec F S512x8192 .bf16) {hl}
    {k : Vec F S128x8192 .bf16 → Prog (TpuEff nD τ sig (Elt F) Λ₀ .tc) α} :
    (((c : Thread nD τ).loc cc0_stg0_0) ↦{q} f) ⊢ iprop(((((c : Thread nD τ).loc cc0_stg0_0) ↦{q} f) -∗ run c (k (lgRow f b)) Q)
      -∗ run c (.op (.load lgM (Rect.unit (s := S512x8192) off S128x8192.size inb).toLoadRect hl) k) Q) := by
  have H := wp_load (Q := Q) (Γ := []) (defs := defs₀ (F := F)) 𝒱₀ (c : Thread nD τ) none Set.univ (m := lgM) (r := (Rect.unit (s := S512x8192) off S128x8192.size inb).toLoadRect)
    (hl := hl) (k := k) (q := q) (f := f) (S := Finset.univ) (Finset.subset_univ _)
  rw [read_lg ho] at H
  exact H

/-! ## The fold -/

/-- One trip of a fold's loop. -/
def foldTrip (off1 : Fin 3 → ℕ) (inb1 : ∀ a, off1 a + S1x128x4096.size a ≤ S3x512x8192.size a)
    (off2 : Fin 2 → ℕ) (inb2 : ∀ a, off2 a + S128x1.size a ≤ S512x1.size a) : Prog (TpuEff nD τ sig (Elt F) Λ₀ .tc) Unit := do
  let v : Vec F S1x128x4096 .bf16 ← Prog.lift (.load chM (Rect.unit (s := S3x512x8192) off1 S1x128x4096.size inb1).toLoadRect (View.loadsAt_vmem h_S1x128x4096))
  let a : Vec F S128x1 .f32 ← Prog.lift (.load mxM (Rect.unit (s := S512x1) off2 S128x1.size inb2).toLoadRect (View.loadsAt_vmem h_S128x1))
  let s : Vec F S128x1 .f32 ← Prog.lift (.load smM (Rect.unit (s := S512x1) off2 S128x1.size inb2).toLoadRect (View.loadsAt_vmem h_S128x1))
  let _ : Vec F S128x1 .f32 ← Prog.lift (.load smM (Rect.unit (s := S512x1) off2 S128x1.size inb2).toLoadRect (View.loadsAt_vmem h_S128x1))
  Prog.lift (.store smM (Rect.unit (s := S512x1) off2 S128x1.size inb2) (k0_pay7 v a s) Finset.univ (View.stores_vmem_bits_univ h_S128x1 rfl) (.inl rfl))
  let _ : Vec F S128x1 .f32 ← Prog.lift (.load mxM (Rect.unit (s := S512x1) off2 S128x1.size inb2).toLoadRect (View.loadsAt_vmem h_S128x1))
  Prog.lift (.store mxM (Rect.unit (s := S512x1) off2 S128x1.size inb2) (k0_pay8 v a) Finset.univ (View.stores_vmem_bits_univ h_S128x1 rfl) (.inl rfl))
  pure ⟨⟩

/-- A program that is finished. -/
theorem run_ret {α : Type} {Q : α → sProp 𝕄} (c : Dev nD) (a : α) : Q a ⊢ run (F := F) c (Prog.ret a) Q := by
  unfold run
  rw [wp_ret]
  iintro H
  imodintro
  iexact H

/-- A trip folds row block `b` of the half. -/
theorem trip_fold {Q : Unit → sProp 𝕄} (c : Dev nD) {off1 : Fin 3 → ℕ} {inb1} {off2 : Fin 2 → ℕ} {inb2} (h : Fin 3) (p : Fin 2) (b : Fin 4)
    (ho1 : off1 = ![h.val, 128 * b.val, 4096 * p.val]) (ho2 : off2 = ![128 * b.val, 0]) (q : PosShare TreeShare)
    (f : Vec F S3x512x8192 .bf16) (g1 g2 : Fin 4 → Vec F S128x1 .f32) :
    iprop(chP c h p q f ∗ mxP c (upd g1) ∗ smP c (upd g2))
      ⊢ iprop(((chP c h p q f ∗ mxP c (upd (Function.update g1 b (k0_pay8 (chPiece f h p b) (g1 b))))
            ∗ smP c (upd (Function.update g2 b (k0_pay7 (chPiece f h p b) (g1 b) (g2 b))))) -∗ Q ⟨⟩)
          -∗ run c (foldTrip off1 inb1 off2 inb2) Q) := by
  unfold foldTrip
  simp only [Prog.lift, Prog.bind_op, Prog.bind_ret, Prog.pure_eq_ret]
  iintro ⟨Hc, Hm, Hs⟩ Hk
  iapply (step_load_piece c h p b ho1 q f) $$ [Hc]
  · iexact Hc
  iintro Hc
  iapply (step_load_mx c b ho2 g1) $$ [Hm]
  · iexact Hm
  iintro Hm
  iapply (step_load_sm c b ho2 g2) $$ [Hs]
  · iexact Hs
  iintro Hs
  iapply (step_load_sm c b ho2 g2) $$ [Hs]
  · iexact Hs
  iintro Hs
  iapply (step_store_sm c b ho2 g2) $$ [Hs]
  · iexact Hs
  iintro Hs
  iapply (step_load_mx c b ho2 g1) $$ [Hm]
  · iexact Hm
  iintro Hm
  iapply (step_store_mx c b ho2 g1) $$ [Hm]
  · iexact Hm
  iintro Hm
  iapply (run_ret c _)
  iapply Hk
  isplitl [Hc]; · iexact Hc
  isplitl [Hm]; · iexact Hm
  iexact Hs

/-- The blocks after `t` trips: the new ones below `t`, the old ones from there on. -/
def half (t : ℕ) (new old : Fin 4 → Vec F S128x1 .f32) : Fin 4 → Vec F S128x1 .f32 := fun b => if b.val < t then new b else old b
/-- Before the first trip every block is the old one. -/
theorem half_zero (new old : Fin 4 → Vec F S128x1 .f32) : half 0 new old = old := funext fun b => if_neg (Nat.not_lt_zero _)
/-- After the last trip every block is the new one. -/
theorem half_four (new old : Fin 4 → Vec F S128x1 .f32) : half 4 new old = new := funext fun b => if_pos b.isLt
/-- At trip `b` block `b` is still the old one. -/
theorem half_at (new old : Fin 4 → Vec F S128x1 .f32) (b : Fin 4) : half b.val new old b = old b := if_neg (Nat.lt_irrefl _)
/-- Trip `b` replaces block `b`. -/
theorem half_succ (new old : Fin 4 → Vec F S128x1 .f32) (b : Fin 4) : Function.update (half b.val new old) b (new b) = half (b.val + 1) new old := by
  funext d
  by_cases h : d = b
  · subst h
    rw [Function.update_self]
    exact (if_pos (Nat.lt_succ_self _)).symm
  · rw [Function.update_of_ne h]
    have : d.val ≠ b.val := fun e => h (Fin.ext e)
    unfold half
    by_cases h2 : d.val < b.val
    · rw [if_pos h2, if_pos (by omega)]
    · rw [if_neg h2, if_neg (by omega)]

/-- A loop whose trips fold the row blocks of one half of a chunk. -/
theorem loop_fold {α : Type} {Q : α → sProp 𝕄} (c : Dev nD) (n : ℕ) (h : Fin 3) (p : Fin 2) (hh : n / 2 % 3 = h.val) (hp : foldHalf c n = p)
    (q : PosShare TreeShare) (l : Scf.Loop 32) (hl : l.trips = 4) (hok : l.OK)
    (body : Fin l.trips → Unit → Prog (TpuEff nD τ sig (Elt F) Λ₀ .tc) Unit)
    (hbody : ∀ t u, ∃ off1 inb1 off2 inb2, off1 = ![h.val, 128 * t.val, 4096 * p.val] ∧ off2 = ![128 * t.val, 0] ∧ body t u = foldTrip off1 inb1 off2 inb2)
    {k : Unit → Prog (TpuEff nD τ sig (Elt F) Λ₀ .tc) α} :
    iprop(chP c h p q (chC A c) ∗ msP A c n)
      ⊢ iprop(((chP c h p q (chC A c) ∗ msP A c (n + 1)) -∗ run c (k ⟨⟩) Q) -∗ run c (Scf.Loop.for l hok ⟨⟩ body >>= k) Q) := by
  subst hp
  have hst : ∀ b, mxSt A c b (n + 1) = (k0_pay8 (chPiece (chC A c) h (foldHalf c n) b) (mxSt A c b n).1,
      k0_pay7 (chPiece (chC A c) h (foldHalf c n) b) (mxSt A c b n).1 (mxSt A c b n).2) := fun b => by
    have : h = ⟨n / 2 % 3, Nat.mod_lt _ (by decide)⟩ := Fin.ext hh.symm
    subst this
    rfl
  let I : ℕ → Unit → sProp 𝕄 := fun t _ => iprop(chP c h (foldHalf c n) q (chC A c)
    ∗ mxP c (upd (half t (fun b => (mxSt A c b (n + 1)).1) (fun b => (mxSt A c b n).1)))
    ∗ smP c (upd (half t (fun b => (mxSt A c b (n + 1)).2) (fun b => (mxSt A c b n).2))))
  have hstep : ∀ (t : Fin l.trips) (u : Unit), I t.val u ⊢ run c (body t u) (I (t.val + 1)) := fun t u => by
    obtain ⟨off1, inb1, off2, inb2, ho1, ho2, hb⟩ := hbody t u
    have ht : t.val < 4 := hl ▸ t.isLt
    rw [hb]
    iintro HI
    iapply (trip_fold c h (foldHalf c n) ⟨t.val, ht⟩ ho1 ho2 q (chC A c) _ _) $$ HI
    have e1 := half_succ (fun b => (mxSt A c b (n + 1)).1) (fun b => (mxSt A c b n).1) ⟨t.val, ht⟩
    have e2 := half_succ (fun b => (mxSt A c b (n + 1)).2) (fun b => (mxSt A c b n).2) ⟨t.val, ht⟩
    have f1 := half_at (fun b => (mxSt A c b (n + 1)).1) (fun b => (mxSt A c b n).1) ⟨t.val, ht⟩
    have f2 := half_at (fun b => (mxSt A c b (n + 1)).2) (fun b => (mxSt A c b n).2) ⟨t.val, ht⟩
    dsimp only at e1 e2 f1 f2
    rw [f1, f2]
    have g1 : k0_pay8 (chPiece (chC A c) h (foldHalf c n) ⟨t.val, ht⟩) (mxSt A c ⟨t.val, ht⟩ n).1 = (mxSt A c ⟨t.val, ht⟩ (n + 1)).1 := by rw [hst]
    have g2 : k0_pay7 (chPiece (chC A c) h (foldHalf c n) ⟨t.val, ht⟩) (mxSt A c ⟨t.val, ht⟩ n).1 (mxSt A c ⟨t.val, ht⟩ n).2
      = (mxSt A c ⟨t.val, ht⟩ (n + 1)).2 := by rw [hst]
    rw [g1, g2, e1, e2]
    iintro H
    iexact H
  have hfor := Scf.wp_for_bind frame (wpE (defs₀ (F := F)) 𝒱₀ (c : Thread nD τ) none) Set.univ l.lb l.ub l.st hok ⟨⟩ body I hstep (kk := k) (Q := Q)
  iintro ⟨Hc, HM⟩ Hk
  iapply hfor $$ [Hc HM]
  · unfold msP
    dsimp only [I]
    rw [half_zero, half_zero]
    icases HM with ⟨Hm, Hs⟩
    isplitl [Hc]; · iexact Hc
    isplitl [Hm]; · iexact Hm
    iexact Hs
  iintro %acc HI
  have e : Scf.trips l.lb l.ub l.st = 4 := hl
  rw [e]
  dsimp only [I]
  rw [half_four, half_four]
  iapply Hk
  unfold msP
  iexact HI

/-- A fold guarded by a condition on the device: where it holds the fold is done, elsewhere nothing happens. -/
theorem cond_fold {α : Type} {Q : α → sProp 𝕄} (c : Dev nD) (n m m' : ℕ) (h : Fin 3) (p : Fin 2) (hh : n / 2 % 3 = h.val)
    (q : PosShare TreeShare) (C : Prop) [Decidable C] (hyes : C → foldHalf c n = p ∧ m = n ∧ m' = n + 1) (hno : ¬ C → m' = m)
    (l : Scf.Loop 32) (hl : l.trips = 4) (hok : C → l.OK)
    (body : C → Fin l.trips → Unit → Prog (TpuEff nD τ sig (Elt F) Λ₀ .tc) Unit)
    (hbody : ∀ hC t u, ∃ off1 inb1 off2 inb2, off1 = ![h.val, 128 * t.val, 4096 * p.val] ∧ off2 = ![128 * t.val, 0]
      ∧ body hC t u = foldTrip off1 inb1 off2 inb2)
    {k : Prog (TpuEff nD τ sig (Elt F) Λ₀ .tc) α} :
    iprop(chP c h (foldHalf c n) q (chC A c) ∗ msP A c m)
      ⊢ iprop(((chP c h (foldHalf c n) q (chC A c) ∗ msP A c m') -∗ run c k Q)
          -∗ run c (if hC : C then Scf.Loop.for l (hok hC) ⟨⟩ (body hC) >>= fun _ => k else k) Q) := by
  by_cases hC : C
  · rw [dif_pos hC]
    obtain ⟨hp, rfl, rfl⟩ := hyes hC
    rw [hp]
    exact loop_fold A c m h p hh hp q l hl (hok hC) (body hC) (hbody hC) (k := fun _ => k)
  · rw [dif_neg hC, hno hC]
    iintro H Hk
    iapply Hk
    iexact H

/-! ## The first loop -/

/-- The whole logits. -/
abbrev lgAll (c : Dev nD) (q : PosShare TreeShare) : sProp 𝕄 := ((c : Thread nD τ).loc cc0_stg0_0) ↦{q} (A c)

/-- One trip of the first loop: the maximum and the sum of a row block of the device's own logits. -/
def firstTrip (off1 : Fin 2 → ℕ) (inb1 : ∀ a, off1 a + S128x8192.size a ≤ S512x8192.size a)
    (off2 : Fin 2 → ℕ) (inb2 : ∀ a, off2 a + S128x1.size a ≤ S512x1.size a) : Prog (TpuEff nD τ sig (Elt F) Λ₀ .tc) Unit := do
  let v : Vec F S128x8192 .bf16 ← Prog.lift (.load lgM (Rect.unit (s := S512x8192) off1 S128x8192.size inb1).toLoadRect (View.loadsAt_vmem h_S128x8192))
  let _ : Vec F S128x1 .f32 ← Prog.lift (.load mxM (Rect.unit (s := S512x1) off2 S128x1.size inb2).toLoadRect (View.loadsAt_vmem h_S128x1))
  Prog.lift (.store mxM (Rect.unit (s := S512x1) off2 S128x1.size inb2) (k0_pay3 v) Finset.univ (View.stores_vmem_bits_univ h_S128x1 rfl) (.inl rfl))
  let _ : Vec F S128x1 .f32 ← Prog.lift (.load smM (Rect.unit (s := S512x1) off2 S128x1.size inb2).toLoadRect (View.loadsAt_vmem h_S128x1))
  Prog.lift (.store smM (Rect.unit (s := S512x1) off2 S128x1.size inb2) (k0_pay4 v) Finset.univ (View.stores_vmem_bits_univ h_S128x1 rfl) (.inl rfl))
  pure ⟨⟩

/-- One trip of the first fold: the maximum and the sum of a row block of the device's own logits. -/
theorem trip_first {Q : Unit → sProp 𝕄} (c : Dev nD) {off1 : Fin 2 → ℕ} {inb1} {off2 : Fin 2 → ℕ} {inb2} (b : Fin 4)
    (ho1 : off1 = ![128 * b.val, 0]) (ho2 : off2 = ![128 * b.val, 0]) (q : PosShare TreeShare) (g1 g2 : Fin 4 → Vec F S128x1 .f32) :
    iprop(lgAll A c q ∗ mxP c (upd g1) ∗ smP c (upd g2))
      ⊢ iprop(((lgAll A c q ∗ mxP c (upd (Function.update g1 b (k0_pay3 (lgRow (A c) b))))
            ∗ smP c (upd (Function.update g2 b (k0_pay4 (lgRow (A c) b))))) -∗ Q ⟨⟩)
          -∗ run c (firstTrip off1 inb1 off2 inb2) Q) := by
  unfold firstTrip
  simp only [Prog.lift, Prog.bind_op, Prog.bind_ret, Prog.pure_eq_ret]
  iintro ⟨Hc, Hm, Hs⟩ Hk
  iapply (step_load_lg c b ho1 q (A c)) $$ [Hc]
  · iexact Hc
  iintro Hc
  iapply (step_load_mx c b ho2 g1) $$ [Hm]
  · iexact Hm
  iintro Hm
  iapply (step_store_mx c b ho2 g1) $$ [Hm]
  · iexact Hm
  iintro Hm
  iapply (step_load_sm c b ho2 g2) $$ [Hs]
  · iexact Hs
  iintro Hs
  iapply (step_store_sm c b ho2 g2) $$ [Hs]
  · iexact Hs
  iintro Hs
  iapply (run_ret c _)
  iapply Hk
  isplitl [Hc]; · iexact Hc
  isplitl [Hm]; · iexact Hm
  iexact Hs

/-- The first loop leaves the maxima and sums of the device's own logits, whatever was in the two buffers. -/
theorem loop_first {α : Type} {Q : α → sProp 𝕄} (c : Dev nD) (q : PosShare TreeShare) (l : Scf.Loop 32) (hl : l.trips = 4) (hok : l.OK)
    (body : Fin l.trips → Unit → Prog (TpuEff nD τ sig (Elt F) Λ₀ .tc) Unit)
    (hbody : ∀ t u, ∃ off1 inb1 off2 inb2, off1 = ![128 * t.val, 0] ∧ off2 = ![128 * t.val, 0] ∧ body t u = firstTrip off1 inb1 off2 inb2)
    {k : Unit → Prog (TpuEff nD τ sig (Elt F) Λ₀ .tc) α} :
    iprop(lgAll A c q ∗ (∃ f, mxP c f) ∗ (∃ f, smP c f))
      ⊢ iprop(((lgAll A c q ∗ msP A c 0) -∗ run c (k ⟨⟩) Q) -∗ run c (Scf.Loop.for l hok ⟨⟩ body >>= k) Q) := by
  iintro ⟨Hc, ⟨%f1, Hm⟩, ⟨%f2, Hs⟩⟩ Hk
  let I : ℕ → Unit → sProp 𝕄 := fun t _ => iprop(lgAll A c q
    ∗ mxP c (upd (half t (fun b => k0_pay3 (lgRow (A c) b)) (blocks f1)))
    ∗ smP c (upd (half t (fun b => k0_pay4 (lgRow (A c) b)) (blocks f2))))
  have hstep : ∀ (t : Fin l.trips) (u : Unit), I t.val u ⊢ run c (body t u) (I (t.val + 1)) := fun t u => by
    obtain ⟨off1, inb1, off2, inb2, ho1, ho2, hb⟩ := hbody t u
    have ht : t.val < 4 := hl ▸ t.isLt
    rw [hb]
    iintro HI
    iapply (trip_first A c ⟨t.val, ht⟩ ho1 ho2 q _ _) $$ HI
    have e1 := half_succ (fun b => k0_pay3 (lgRow (A c) b)) (blocks f1) ⟨t.val, ht⟩
    have e2 := half_succ (fun b => k0_pay4 (lgRow (A c) b)) (blocks f2) ⟨t.val, ht⟩
    dsimp only at e1 e2
    rw [e1, e2]
    iintro H
    iexact H
  have hfor := Scf.wp_for_bind frame (wpE (defs₀ (F := F)) 𝒱₀ (c : Thread nD τ) none) Set.univ l.lb l.ub l.st hok ⟨⟩ body I hstep (kk := k) (Q := Q)
  iapply hfor $$ [Hc Hm Hs]
  · dsimp only [I]
    rw [half_zero, half_zero, upd_blocks, upd_blocks]
    isplitl [Hc]; · iexact Hc
    isplitl [Hm]; · iexact Hm
    iexact Hs
  iintro %acc HI
  have e : Scf.trips l.lb l.ub l.st = 4 := hl
  rw [e]
  dsimp only [I]
  rw [half_four, half_four]
  iapply Hk
  unfold msP
  simp only [mxSt]
  iexact HI

end Cert.KernelIdeal.Talk

end
-- ==== Proof.Body.lean ====
/- The transfers and the folds, part by part of the kernel's text, at any device `c`. -/
module

public import proofs.«01_k».proof.Proof.Loops

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F] [Facts]

local notation "𝕄" => MT nD τ sig Unit (Elt F) ℕ UU ℕ

variable (A : Dev nD → Vec F S512x8192 .bf16) (κ : GSem nD τ sig → ℕ)

/-! ## Where the conditions hold; the offsets -/

/-- The half that the offsets name by x is the device's own. -/
theorem own_off (c : Dev nD) : c.val / 16 = (xo c).val := rfl
/-- The half that the remaining offsets name is the other one. -/
theorem other_off : ∀ c : Dev nD, 4096 - 4096 * (c.val / 16) = 4096 * (xn c).val := by decide +kernel

/-- Conditional 1 of the body is taken by the devices of x 0. -/
theorem cond1_iff : ∀ c : Dev nD, k0_cond1 c = 1#1 ↔ c.val / 16 = 0 := by decide +kernel
/-- Conditional 2 of the body is taken by the devices of x 1. -/
theorem cond2_iff : ∀ c : Dev nD, k0_cond2 c = 1#1 ↔ c.val / 16 = 1 := by decide +kernel
/-- Conditional 3 of the body is taken by the devices of x 0. -/
theorem cond3_iff : ∀ c : Dev nD, k0_cond3 c = 1#1 ↔ c.val / 16 = 0 := by decide +kernel
/-- Conditional 4 of the body is taken by the devices of x 1. -/
theorem cond4_iff : ∀ c : Dev nD, k0_cond4 c = 1#1 ↔ c.val / 16 = 1 := by decide +kernel
/-- Conditional 5 of the body is taken by the devices of x 0. -/
theorem cond5_iff : ∀ c : Dev nD, k0_cond5 c = 1#1 ↔ c.val / 16 = 0 := by decide +kernel
/-- Conditional 6 of the body is taken by the devices of x 1. -/
theorem cond6_iff : ∀ c : Dev nD, k0_cond6 c = 1#1 ↔ c.val / 16 = 1 := by decide +kernel
/-- Conditional 7 of the body is taken by the devices of x 0. -/
theorem cond7_iff : ∀ c : Dev nD, k0_cond7 c = 1#1 ↔ c.val / 16 = 0 := by decide +kernel
/-- Conditional 8 of the body is taken by the devices of x 1. -/
theorem cond8_iff : ∀ c : Dev nD, k0_cond8 c = 1#1 ↔ c.val / 16 = 1 := by decide +kernel
/-- Conditional 9 of the body is taken by the devices of x 0. -/
theorem cond9_iff : ∀ c : Dev nD, k0_cond9 c = 1#1 ↔ c.val / 16 = 0 := by decide +kernel
/-- Conditional 10 of the body is taken by the devices of x 1. -/
theorem cond10_iff : ∀ c : Dev nD, k0_cond10 c = 1#1 ↔ c.val / 16 = 1 := by decide +kernel
/-- Conditional 11 of the body is taken by the devices of x 0. -/
theorem cond11_iff : ∀ c : Dev nD, k0_cond11 c = 1#1 ↔ c.val / 16 = 0 := by decide +kernel
/-- Conditional 12 of the body is taken by the devices of x 1. -/
theorem cond12_iff : ∀ c : Dev nD, k0_cond12 c = 1#1 ↔ c.val / 16 = 1 := by decide +kernel

/-- The count of folds between the two conditionals of a pair. -/
def mid (c : Dev nD) (n : ℕ) : ℕ := if c.val / 16 = 0 then n + 1 else n
/-- The first conditional of a pair: a device of x 0 takes it and has then folded one half more, the others skip it and have not. -/
theorem mid_first {c : Dev nD} {n : ℕ} {C : Prop} (h : C ↔ c.val / 16 = 0) (p : Fin 2) (hp : c.val / 16 = 0 → foldHalf c n = p) :
    (C → foldHalf c n = p ∧ n = n ∧ mid c n = n + 1) ∧ (¬ C → mid c n = n) :=
  ⟨fun hC => ⟨hp (h.mp hC), rfl, if_pos (h.mp hC)⟩, fun hC => if_neg fun e => hC (h.mpr e)⟩
/-- The second conditional of a pair: a device of x 1 takes it, the others skip it, and after it every device has folded one half more. -/
theorem mid_second {c : Dev nD} {n : ℕ} {C : Prop} (h : C ↔ c.val / 16 = 1) (p : Fin 2) (hp : c.val / 16 = 1 → foldHalf c n = p) :
    (C → foldHalf c n = p ∧ mid c n = n ∧ n + 1 = n + 1) ∧ (¬ C → n + 1 = mid c n) := by
  have hx : c.val / 16 = 0 ∨ c.val / 16 = 1 := by have : c.val < 32 := c.isLt; omega
  refine ⟨fun hC => ⟨hp (h.mp hC), if_neg ?_, rfl⟩, fun hC => (if_pos ?_).symm⟩
  · have := h.mp hC; omega
  · rcases hx with h0 | h1
    · exact h0
    · exact absurd (h.mpr h1) hC

/-- Which half is folded first, by the device's place and the count's parity. -/
theorem fold_even_0 {c : Dev nD} (n : ℕ) (hn : n % 2 = 0) (h : c.val / 16 = 0) : foldHalf c n = 0 := (if_pos hn).trans (Fin.ext h)
/-- At an even step a device of x 1 folds half 1. -/
theorem fold_even_1 {c : Dev nD} (n : ℕ) (hn : n % 2 = 0) (h : c.val / 16 = 1) : foldHalf c n = 1 := (if_pos hn).trans (Fin.ext h)
/-- At an odd step a device of x 0 folds half 1. -/
theorem fold_odd_1 {c : Dev nD} (n : ℕ) (hn : n % 2 = 1) (h : c.val / 16 = 0) : foldHalf c n = 1 :=
  (if_neg (by omega)).trans (Fin.ext (by show 1 - c.val / 16 = 1; omega))
/-- At an odd step a device of x 1 folds half 0. -/
theorem fold_odd_0 {c : Dev nD} (n : ℕ) (hn : n % 2 = 1) (h : c.val / 16 = 1) : foldHalf c n = 0 :=
  (if_neg (by omega)).trans (Fin.ext (by show 1 - c.val / 16 = 0; omega))

/-- A cell's position, and the one duty of a transfer's cell. -/
abbrev At (c : Dev nD) (s : DmaSem sig) (r : ℕ) : sProp 𝕄 := atPos ER (dmaC c s) r ∅ 0
abbrev Tok (c : Dev nD) (s : DmaSem sig) : sProp 𝕄 := dutyTok ER (dmaC c s) 0 (0 : Fin 3)
abbrev Rc (c : Dev nD) (s : DmaSem sig) : sProp 𝕄 := reached ER (dmaC c s) 0
abbrev Cr (c : Dev nD) (s : DmaSem sig) : sProp 𝕄 := cred (tallyAt (dmaC c s) () NH)
/-- Any contents of the destination half, and what a transfer into it uses up. -/
abbrev Dst (c d : Dev nD) (h : Fin 3) (p : Fin 2) (sS sR : DmaSem sig) : sProp 𝕄 :=
  iprop((∃ f, chP d h p fullShare f) ∗ Tok c sS ∗ Rc c sS ∗ Tok d sR ∗ Rc d sR)

/-- A wait for one of a device's twelve half transfers. -/
theorem wait_half {α : Type} {Q : α → sProp 𝕄} (c : Dev nD) (s : DmaSem sig) (h : 0 < s.val ∧ s.val ≤ 12)
    {O : CellTallies nD τ sig Unit} (n : ℕ) (hn : lv (dmaC c s) () ≤ n) (hO : Above n O) {P : sProp 𝕄} (hP : dmaPay A c s 0 = P)
    {s' : DmaSem sig} (hs : s' = s) {src dst : Memref sig .tc .vmem S512x4096 .bf16} {hsrc : src.view.WordExact} {hdst : dst.view.WordExact}
    {k : PUnit → Prog (TpuEff nD τ sig (Elt F) Λ₀ .tc) α} :
    iprop(records A κ ∗ levAts L lv ∗ Cr c s ∗ owesE c O ∗ At c s 0)
      ⊢ iprop(((owesE c O ∗ At c s 1 ∗ P) -∗ run c (k ⟨⟩) Q) -∗ run c (.op (.waitDma2 s' src dst hsrc hdst) k) Q) := by
  have hd : dst.view.dmaCredit = NH := rfl
  iintro HP Hk
  iapply (step_wait A κ c s (r := 0) h.1 (by unfold lastRound; rw [if_neg (by omega), if_pos h.2]; exact Nat.one_pos)
    (expect_half A c s h.2 h.1) (mayWait c _ n hn hO) hs hd) $$ HP
  iintro ⟨HO, Ha, -, Hp⟩
  iapply Hk
  isplitl [HO]; · iexact HO
  isplitl [Ha]; · iexact Ha
  iapply (Entails.of_eq hP)
  iexact Hp

/-- The three signals and the barrier's wait. -/
theorem part2 {Kt : PUnit → sProp 𝕄} (c : Dev nD) (h0 h1 h2 h3 h4 h5) (v2 v5 v8 v19 v30 : BitVec 32) (w : BitVec 32) :
    iprop(records A κ ∗ levAts L lv ∗ owesE c (O₀ c) ∗ cred (tallyAt (barC c) () 3) ∗ atPos ER (barC c) 0 ∅ 0
        ∗ (dutyTok ER (barC (lf c)) 0 (0 : Fin 3) ∗ dutyTok ER (barC (rt c)) 0 (1 : Fin 3) ∗ dutyTok ER (barC (xp c)) 0 (2 : Fin 3))
        ∗ gift c (xo c) zr ∗ gift c (xn c) xr)
      ⊢ iprop(((owesE c (OT c) ∗ atPos ER (barC c) 1 ∅ 0 ∗ gift (rt c) (xo c) zr ∗ gift (xp c) (xo c) xr) -∗ Kt ⟨⟩)
          -∗ run c (k0_part2 (F := F) lgM h0 outM h1 chM h2 stM h3 mxM h4 smM h5 cc0_scratch4 cc0_scratch5 cc0_scratch6 cc0_scratch7 cc0_scratch8
              c v2 v5 v8 v19 v30 (SemArray.scalar (sig.barrier 0 rfl)) w) Kt) := by
  simp only [k0_part2_eq_skeleton]
  unfold k0_part2_skel
  simp only [semSignalWord, semWaitWord, Prog.lift, Prog.bind_op, Prog.bind_ret, Prog.pure_eq_ret]
  iintro ⟨#HR, #HL, HO, Hcr, Hat, ⟨Ht0, Ht1, Ht2⟩, Hg1, Hg2⟩ Hk
  iapply (step_signal A κ c (lf c) (dev1_eq c) 0 (O₀ := O₀ c) (O := OB1 c) rfl) $$ [HO Ht0 Hg1]
  · isplitl []; · iexact HR
    isplitl [HO]; · iexact HO
    isplitl [Ht0]; · iexact Ht0
    iapply (Entails.of_eq (show gift (F := F) c (xo c) zr = barPay (lf c) 0 by show _ = gift (rt (lf c)) (xo (lf c)) zr; rw [rt_lf, xo_lf]))
    iexact Hg1
  iintro HO
  iapply (step_signal A κ c (rt c) (dev2_eq c) 1 (O₀ := OB1 c) (O := OB2 c) rfl) $$ [HO Ht1]
  · isplitl []; · iexact HR
    isplitl [HO]; · iexact HO
    isplitl [Ht1]; · iexact Ht1
    iapply (Entails.of_eq (show iprop(emp) = barPay (F := F) (rt c) 1 from rfl))
    iempintro
  iintro HO
  iapply (step_signal A κ c (xp c) (dev3_eq c) 2 (O₀ := OB2 c) (O := OT c) rfl) $$ [HO Ht2 Hg2]
  · isplitl []; · iexact HR
    isplitl [HO]; · iexact HO
    isplitl [Ht2]; · iexact Ht2
    iapply (Entails.of_eq (show gift (F := F) c (xn c) xr = barPay (xp c) 2 by show _ = gift (xp (xp c)) (xo (xp c)) xr; rw [xp_xp, xo_xp]))
    iexact Hg2
  iintro HO
  iapply (step_barrier A κ c) $$ [HO Hat Hcr]
  · isplitl []; · iexact HR
    isplitl []; · iexact HL
    isplitl [Hcr]; · iexact Hcr
    isplitl [HO]; · iexact HO
    iexact Hat
  iintro ⟨HO, Hat, Hb0, -, Hb2⟩
  iapply (run_ret c _)
  iapply Hk
  isplitl [HO]; · iexact HO
  isplitl [Hat]; · iexact Hat
  isplitl [Hb0]
  · iapply (Entails.of_eq (show barPay (F := F) c 0 = gift (rt c) (xo c) zr from rfl)); iexact Hb0
  · iapply (Entails.of_eq (show barPay (F := F) c 2 = gift (xp c) (xo c) xr from rfl)); iexact Hb2

/-- The first transfer along z, and the device's own maxima and sums. -/
theorem part3 {Kt : PUnit → sProp 𝕄} (c : Dev nD) (h0 h1 h2 h3 h4 h5) (v2 v5 v30 : BitVec 32) :
    iprop(records A κ ∗ levAts L lv ∗ owesE c (OT c) ∗ lgP c (xo c) hopQ (A c) ∗ lgAll A c fullShare.right
        ∗ (∃ f, mxP c f) ∗ (∃ f, smP c f) ∗ Dst c (rt c) 0 (xo c) (zs 0) (zr 0) ∗ At c (zs 0) 0 ∗ At c (zr 0) 0 ∗ Cr c (zr 0))
      ⊢ iprop(((owesE c (O1 c) ∗ lgP c (xo c) hopQ (A c) ∗ lgAll A c fullShare.right ∗ msP A c 0 ∗ At c (zs 0) 1 ∗ At c (zr 0) 1
            ∗ chP c 0 (xo c) fullShare (chC A c)) -∗ Kt ⟨⟩)
          -∗ run c (k0_part3 (F := F) lgM h0 outM h1 chM h2 stM h3 mxM h4 smM h5 cc0_scratch4 cc0_scratch5 cc0_scratch6 cc0_scratch7 cc0_scratch8
              c v2 v5 v30) Kt) := by
  simp only [k0_part3_eq_skeleton]
  unfold k0_part3_skel
  simp only [Prog.lift, Prog.bind_op, Prog.bind_ret, Prog.pure_eq_ret]
  iintro ⟨#HR, #HL, HO, Hlp, Hlg, Hm, Hs, ⟨Hd, Ht1, Hr1, Ht2, Hr2⟩, Has, Har, Hcr⟩ Hk
  iapply (step_send_first A κ c (dev4_eq c) rfl rfl (k0_off2_eq c) (k0_off1_eq c)) $$ [HO Hlp Hd Ht1 Hr1 Ht2 Hr2]
  · isplitl []; · iexact HR
    isplitl [Hlp]; · iexact Hlp
    isplitl [Hd]; · iexact Hd
    isplitl [HO]; · iexact HO
    isplitl [Ht1]; · iexact Ht1
    isplitl [Hr1]; · iexact Hr1
    isplitl [Ht2]; · iexact Ht2
    iexact Hr2
  iintro ⟨Hcs, HO⟩
  iapply (loop_first A c fullShare.right k0_t1_loop (by decide +kernel) _ _
    (fun t u => ⟨_, k0_off3_inb t, _, k0_off4_inb t, k0_off3_eq t, k0_off4_eq t, rfl⟩)) $$ [Hlg Hm Hs]
  · isplitl [Hlg]; · iexact Hlg
    isplitl [Hm]; · iexact Hm
    iexact Hs
  iintro ⟨Hlg, Hms⟩
  iapply (wait_half A κ c (zs 0) (by decide) 0 (Nat.le_refl 0) (above_O1 0 c (by decide)) (P := lgP c (xo c) hopQ (A c)) rfl rfl) $$ [HO Hcs Has]
  · isplitl []; · iexact HR
    isplitl []; · iexact HL
    isplitl [Hcs]; · iexact Hcs
    isplitl [HO]; · iexact HO
    iexact Has
  iintro ⟨HO, Has, Hlp⟩
  iapply (wait_half A κ c (zr 0) (by decide) 2 (Nat.le_refl 2) (above_O1 2 c (by decide)) (P := chP c 0 (xo c) fullShare (chC A c)) rfl rfl) $$ [HO Hcr Har]
  · isplitl []; · iexact HR
    isplitl []; · iexact HL
    isplitl [Hcr]; · iexact Hcr
    isplitl [HO]; · iexact HO
    iexact Har
  iintro ⟨HO, Har, Hch⟩
  iapply (run_ret c _)
  iapply Hk
  isplitl [HO]; · iexact HO
  isplitl [Hlp]; · iexact Hlp
  isplitl [Hlg]; · iexact Hlg
  isplitl [Hms]; · iexact Hms
  isplitl [Has]; · iexact Has
  isplitl [Har]; · iexact Har
  iexact Hch

/-- A half that has arrived, lent to a transfer along z, to one along x, and kept for reading. -/
theorem ch_lend (c : Dev nD) (h : Fin 3) (p : Fin 2) (f : Vec F S3x512x8192 .bf16) :
    (chP c h p fullShare f : sProp 𝕄) ⊢ iprop(chP c h p hopQ f ∗ chP c h p pushQ f ∗ chP c h p keepQ f) := by
  iintro H
  ihave H2 := (pointsTo_share (PosShare.mem_left_op_right fullShare)).1 $$ H
  icases H2 with ⟨H1, H2⟩
  ihave H3 := (pointsTo_share (PosShare.mem_left_op_right fullShare.right)).1 $$ H2
  icases H3 with ⟨H3, H4⟩
  isplitl [H1]; · iexact H1
  isplitl [H3]; · iexact H3
  iexact H4

/-- The second transfer along z, the first along x, and the fold of the device's own half of the first chunk. -/
theorem part4 {Kt : (Σ' (_ : BitVec 32), BitVec 32) → sProp 𝕄} (c : Dev nD) (h0 h1 h2 h3 h4 h5) (v2 v5 v8 : BitVec 32) :
    iprop(records A κ ∗ levAts L lv ∗ owesE c (O1 c) ∗ chP c 0 (xo c) fullShare (chC A c) ∗ Dst c (rt c) 1 (xo c) (zs 1) (zr 1) ∗ Dst c (xp c) 0 (xo c) (xs 0) (xr 0) ∗ msP A c 0)
      ⊢ iprop((∀ r, (owesE c (O3 c) ∗ Cr c (zs 1) ∗ Cr c (xs 0) ∗ chP c 0 (xo c) keepQ (chC A c) ∗ msP A c 1) -∗ Kt r)
          -∗ run c (k0_part4 (F := F) lgM h0 outM h1 chM h2 stM h3 mxM h4 smM h5 cc0_scratch4 cc0_scratch5 cc0_scratch6 cc0_scratch7 cc0_scratch8
              c v2 v5 v8) Kt) := by
  simp only [k0_part4_eq_skeleton]
  unfold k0_part4_skel
  simp only [Prog.lift, Prog.bind_op, Prog.bind_ret, Prog.pure_eq_ret]
  iintro ⟨#HR, #HL, HO, Hch, ⟨Hzd, Hz1, Hz2, Hz3, Hz4⟩, ⟨Hxd, Hx1, Hx2, Hx3, Hx4⟩, Hms⟩ Hk
  ihave Hsp := (ch_lend c 0 (xo c) (chC A c)) $$ Hch
  icases Hsp with ⟨Hch1, Hch2, Hch⟩
  iapply (step_send_chunk A κ c (rt c) (dev5_eq c) (zs 1) (zr 1) rfl rfl (by decide) (by decide) 0 1 (xo c) hopQ (k0_off1_eq c) (k0_off5_eq c) (src_rt_one c _)
    rfl (show chP (rt c) 1 (xo (rt c)) fullShare (chC A (rt c)) = _ by rw [xo_rt]) (O₀ := O1 c) (O := O2 c) rfl) $$ [Hch1 Hzd HO Hz1 Hz2 Hz3 Hz4]
  · isplitl []; · iexact HR
    isplitl [Hch1]; · iexact Hch1
    isplitl [Hzd]; · iexact Hzd
    isplitl [HO]; · iexact HO
    isplitl [Hz1]; · iexact Hz1
    isplitl [Hz2]; · iexact Hz2
    isplitl [Hz3]; · iexact Hz3
    iexact Hz4
  iintro ⟨Hc1, HO⟩
  iapply (step_send_chunk A κ c (xp c) (dev6_eq c) (xs 0) (xr 0) rfl rfl (by decide) (by decide) 0 0 (xo c) pushQ (k0_off1_eq c) (k0_off1_eq c) (src_xp c _ _)
    rfl (show chP (xp c) 0 (xn (xp c)) fullShare (chC A (xp c)) = _ by rw [xn_xp]) (O₀ := O2 c) (O := O3 c) rfl) $$ [Hch2 Hxd HO Hx1 Hx2 Hx3 Hx4]
  · isplitl []; · iexact HR
    isplitl [Hch2]; · iexact Hch2
    isplitl [Hxd]; · iexact Hxd
    isplitl [HO]; · iexact HO
    isplitl [Hx1]; · iexact Hx1
    isplitl [Hx2]; · iexact Hx2
    isplitl [Hx3]; · iexact Hx3
    iexact Hx4
  iintro ⟨Hc2, HO⟩
  iapply (cond_fold A c 0 0 (mid c 0) 0 0 rfl keepQ (k0_cond1 c = 1#1) (mid_first (cond1_iff c) 0 (fold_even_0 0 rfl)).1 (mid_first (cond1_iff c) 0 (fold_even_0 0 rfl)).2
    k0_t2_loop (by decide +kernel) _ _
    (fun hC t u => ⟨_, k0_off6_inb c t hC, _, k0_off7_inb c t hC, k0_off6_eq t, k0_off7_eq t, rfl⟩)) $$ [Hch Hms]
  · isplitl [Hch]; · iexact Hch
    iexact Hms
  iintro ⟨Hch, Hms⟩
  iapply (cond_fold A c 0 (mid c 0) 1 0 1 rfl keepQ (k0_cond2 c = 1#1) (mid_second (cond2_iff c) 1 (fold_even_1 0 rfl)).1 (mid_second (cond2_iff c) 1 (fold_even_1 0 rfl)).2
    k0_t3_loop (by decide +kernel) _ _
    (fun hC t u => ⟨_, k0_off8_inb c t hC, _, k0_off9_inb c t hC, k0_off8_eq t, k0_off9_eq t, rfl⟩)) $$ [Hch Hms]
  · isplitl [Hch]; · iexact Hch
    iexact Hms
  iintro ⟨Hch, Hms⟩
  iapply (run_ret c _)
  iapply Hk
  isplitl [HO]; · iexact HO
  isplitl [Hc1]; · iexact Hc1
  isplitl [Hc2]; · iexact Hc2
  isplitl [Hch]; · iexact Hch
  iexact Hms

/-- The other half of the first chunk arrives along x and is folded; the second transfer along z is finished on both sides. -/
theorem part5 {Kt : PUnit → sProp 𝕄} (c : Dev nD) (h0 h1 h2 h3 h4 h5) (v2 v5 v8 v30 v123 w : BitVec 32) :
    iprop(records A κ ∗ levAts L lv ∗ owesE c (O3 c) ∗ Cr c (xr 0) ∗ At c (xr 0) 0 ∗ Cr c (zs 1) ∗ At c (zs 1) 0 ∗ Cr c (zr 1) ∗ At c (zr 1) 0 ∗ msP A c 1)
      ⊢ iprop(((owesE c (O3 c) ∗ At c (xr 0) 1 ∗ At c (zs 1) 1 ∗ At c (zr 1) 1 ∗ chP c 0 (xn c) fullShare (chC A c) ∗ chP c 0 (xo c) hopQ (chC A c) ∗ chP c 1 (xo c) fullShare (chC A c) ∗ msP A c 2) -∗ Kt ⟨⟩)
          -∗ run c (k0_part5 (F := F) lgM h0 outM h1 chM h2 stM h3 mxM h4 smM h5 cc0_scratch4 cc0_scratch5 cc0_scratch6 cc0_scratch7 cc0_scratch8
              c v2 v5 v8 v30 v123 w) Kt) := by
  simp only [k0_part5_eq_skeleton]
  unfold k0_part5_skel
  simp only [Prog.lift, Prog.bind_op, Prog.bind_ret, Prog.pure_eq_ret]
  iintro ⟨#HR, #HL, HO, Hc1, Ha1, Hc2, Ha2, Hc3, Ha3, Hms⟩ Hk
  iapply (wait_half A κ c (xr 0) (by decide) 3 (Nat.le_refl 3) (above_O3 3 c (by decide)) (P := chP c 0 (xn c) fullShare (chC A c)) rfl rfl) $$ [Hc1 HO Ha1]
  · isplitl []; · iexact HR
    isplitl []; · iexact HL
    isplitl [Hc1]; · iexact Hc1
    isplitl [HO]; · iexact HO
    iexact Ha1
  iintro ⟨HO, Ha1, Hn⟩
  iapply (cond_fold A c 1 1 (mid c 1) 0 1 rfl fullShare (k0_cond3 c = 1#1) (mid_first (cond3_iff c) 1 (fold_odd_1 1 rfl)).1 (mid_first (cond3_iff c) 1 (fold_odd_1 1 rfl)).2
    k0_t4_loop (by decide +kernel) _ _
    (fun hC t u => ⟨_, k0_off11_inb c t hC, _, k0_off12_inb c t hC, k0_off11_eq t, k0_off12_eq t, rfl⟩)) $$ [Hn Hms]
  · isplitl [Hn]; · iexact Hn
    iexact Hms
  iintro ⟨Hn, Hms⟩
  iapply (cond_fold A c 1 (mid c 1) 2 0 0 rfl fullShare (k0_cond4 c = 1#1) (mid_second (cond4_iff c) 0 (fold_odd_0 1 rfl)).1 (mid_second (cond4_iff c) 0 (fold_odd_0 1 rfl)).2
    k0_t5_loop (by decide +kernel) _ _
    (fun hC t u => ⟨_, k0_off13_inb c t hC, _, k0_off14_inb c t hC, k0_off13_eq t, k0_off14_eq t, rfl⟩)) $$ [Hn Hms]
  · isplitl [Hn]; · iexact Hn
    iexact Hms
  iintro ⟨Hn, Hms⟩
  iapply (wait_half A κ c (zs 1) (by decide) 0 (Nat.le_refl 0) (above_O3 0 c (by decide)) (P := chP c 0 (xo c) hopQ (chC A c)) rfl rfl) $$ [Hc2 HO Ha2]
  · isplitl []; · iexact HR
    isplitl []; · iexact HL
    isplitl [Hc2]; · iexact Hc2
    isplitl [HO]; · iexact HO
    iexact Ha2
  iintro ⟨HO, Ha2, Hh⟩
  iapply (wait_half A κ c (zr 1) (by decide) 4 (Nat.le_refl 4) (above_O3 4 c (by decide)) (P := chP c 1 (xo c) fullShare (chC A c)) rfl rfl) $$ [Hc3 HO Ha3]
  · isplitl []; · iexact HR
    isplitl []; · iexact HL
    isplitl [Hc3]; · iexact Hc3
    isplitl [HO]; · iexact HO
    iexact Ha3
  iintro ⟨HO, Ha3, Hch⟩
  iapply (run_ret c _)
  iapply Hk
  isplitl [HO]; · iexact HO
  isplitl [Ha1]; · iexact Ha1
  isplitl [Ha2]; · iexact Ha2
  isplitl [Ha3]; · iexact Ha3
  isplitl [Hn]; · iexact Hn
  isplitl [Hh]; · iexact Hh
  isplitl [Hch]; · iexact Hch
  iexact Hms

/-- The third transfer along z, the second along x, and the fold of the device's own half of the second chunk, where it is the lower one. -/
theorem part6 {Kt : BitVec 1 → sProp 𝕄} (c : Dev nD) (h0 h1 h2 h3 h4 h5) (v2 v5 v8 v30 : BitVec 32) :
    iprop(records A κ ∗ levAts L lv ∗ owesE c (O3 c) ∗ chP c 1 (xo c) fullShare (chC A c) ∗ Dst c (rt c) 2 (xo c) (zs 2) (zr 2) ∗ Dst c (xp c) 1 (xo c) (xs 1) (xr 1) ∗ msP A c 2)
      ⊢ iprop((∀ r, (owesE c (O5 c) ∗ Cr c (zs 2) ∗ Cr c (xs 1) ∗ chP c 1 (xo c) keepQ (chC A c) ∗ msP A c (mid c 2)) -∗ Kt r)
          -∗ run c (k0_part6 (F := F) lgM h0 outM h1 chM h2 stM h3 mxM h4 smM h5 cc0_scratch4 cc0_scratch5 cc0_scratch6 cc0_scratch7 cc0_scratch8
              c v2 v5 v8 v30) Kt) := by
  simp only [k0_part6_eq_skeleton]
  unfold k0_part6_skel
  simp only [Prog.lift, Prog.bind_op, Prog.bind_ret, Prog.pure_eq_ret]
  iintro ⟨#HR, #HL, HO, Hch, ⟨Hzd, Hz1, Hz2, Hz3, Hz4⟩, ⟨Hxd, Hx1, Hx2, Hx3, Hx4⟩, Hms⟩ Hk
  ihave Hsp := (ch_lend c 1 (xo c) (chC A c)) $$ Hch
  icases Hsp with ⟨Hch1, Hch2, Hch⟩
  iapply (step_send_chunk A κ c (rt c) (dev7_eq c) (zs 2) (zr 2) rfl rfl (by decide) (by decide) 1 2 (xo c) hopQ (k0_off5_eq c) (k0_off15_eq c) (src_rt_two c _)
    rfl (show chP (rt c) 2 (xo (rt c)) fullShare (chC A (rt c)) = _ by rw [xo_rt]) (O₀ := O3 c) (O := O4 c) rfl) $$ [Hch1 Hzd HO Hz1 Hz2 Hz3 Hz4]
  · isplitl []; · iexact HR
    isplitl [Hch1]; · iexact Hch1
    isplitl [Hzd]; · iexact Hzd
    isplitl [HO]; · iexact HO
    isplitl [Hz1]; · iexact Hz1
    isplitl [Hz2]; · iexact Hz2
    isplitl [Hz3]; · iexact Hz3
    iexact Hz4
  iintro ⟨Hc1, HO⟩
  iapply (step_send_chunk A κ c (xp c) (dev8_eq c) (xs 1) (xr 1) rfl rfl (by decide) (by decide) 1 1 (xo c) pushQ (k0_off5_eq c) (k0_off5_eq c) (src_xp c _ _)
    rfl (show chP (xp c) 1 (xn (xp c)) fullShare (chC A (xp c)) = _ by rw [xn_xp]) (O₀ := O4 c) (O := O5 c) rfl) $$ [Hch2 Hxd HO Hx1 Hx2 Hx3 Hx4]
  · isplitl []; · iexact HR
    isplitl [Hch2]; · iexact Hch2
    isplitl [Hxd]; · iexact Hxd
    isplitl [HO]; · iexact HO
    isplitl [Hx1]; · iexact Hx1
    isplitl [Hx2]; · iexact Hx2
    isplitl [Hx3]; · iexact Hx3
    iexact Hx4
  iintro ⟨Hc2, HO⟩
  iapply (cond_fold A c 2 2 (mid c 2) 1 0 rfl keepQ (k0_cond5 c = 1#1) (mid_first (cond5_iff c) 0 (fold_even_0 2 rfl)).1 (mid_first (cond5_iff c) 0 (fold_even_0 2 rfl)).2
    k0_t6_loop (by decide +kernel) _ _
    (fun hC t u => ⟨_, k0_off16_inb c t hC, _, k0_off17_inb c t hC, k0_off16_eq t, k0_off17_eq t, rfl⟩)) $$ [Hch Hms]
  · isplitl [Hch]; · iexact Hch
    iexact Hms
  iintro ⟨Hch, Hms⟩
  iapply (run_ret c _)
  iapply Hk
  isplitl [HO]; · iexact HO
  isplitl [Hc1]; · iexact Hc1
  isplitl [Hc2]; · iexact Hc2
  isplitl [Hch]; · iexact Hch
  iexact Hms

/-- The fold of the device's own half of the second chunk, where it is the upper one; the other half arrives along x and is folded; the third transfer along z has left. -/
theorem part7 {Kt : BitVec 32 → sProp 𝕄} (c : Dev nD) (h0 h1 h2 h3 h4 h5) (v2 v5 v8 : BitVec 32) (v188 : BitVec 1) :
    iprop(records A κ ∗ levAts L lv ∗ owesE c (O5 c) ∗ chP c 1 (xo c) keepQ (chC A c) ∗ msP A c (mid c 2) ∗ Cr c (xr 1) ∗ At c (xr 1) 0 ∗ Cr c (zs 2) ∗ At c (zs 2) 0)
      ⊢ iprop((∀ r, (owesE c (O5 c) ∗ chP c 1 (xo c) keepQ (chC A c) ∗ msP A c 4 ∗ At c (xr 1) 1 ∗ At c (zs 2) 1 ∗ chP c 1 (xn c) fullShare (chC A c) ∗ chP c 1 (xo c) hopQ (chC A c)) -∗ Kt r)
          -∗ run c (k0_part7 (F := F) lgM h0 outM h1 chM h2 stM h3 mxM h4 smM h5 cc0_scratch4 cc0_scratch5 cc0_scratch6 cc0_scratch7 cc0_scratch8
              c v2 v5 v8 v188) Kt) := by
  simp only [k0_part7_eq_skeleton]
  unfold k0_part7_skel
  simp only [Prog.lift, Prog.bind_op, Prog.bind_ret, Prog.pure_eq_ret]
  iintro ⟨#HR, #HL, HO, Hch, Hms, Hc1, Ha1, Hc2, Ha2⟩ Hk
  iapply (cond_fold A c 2 (mid c 2) 3 1 1 rfl keepQ (k0_cond6 c = 1#1) (mid_second (cond6_iff c) 1 (fold_even_1 2 rfl)).1 (mid_second (cond6_iff c) 1 (fold_even_1 2 rfl)).2
    k0_t7_loop (by decide +kernel) _ _
    (fun hC t u => ⟨_, k0_off18_inb c t hC, _, k0_off19_inb c t hC, k0_off18_eq t, k0_off19_eq t, rfl⟩)) $$ [Hch Hms]
  · isplitl [Hch]; · iexact Hch
    iexact Hms
  iintro ⟨Hch, Hms⟩
  iapply (wait_half A κ c (xr 1) (by decide) 5 (Nat.le_refl 5) (above_O5 5 c (by decide)) (P := chP c 1 (xn c) fullShare (chC A c)) rfl rfl) $$ [Hc1 HO Ha1]
  · isplitl []; · iexact HR
    isplitl []; · iexact HL
    isplitl [Hc1]; · iexact Hc1
    isplitl [HO]; · iexact HO
    iexact Ha1
  iintro ⟨HO, Ha1, Hn⟩
  iapply (cond_fold A c 3 3 (mid c 3) 1 1 rfl fullShare (k0_cond7 c = 1#1) (mid_first (cond7_iff c) 1 (fold_odd_1 3 rfl)).1 (mid_first (cond7_iff c) 1 (fold_odd_1 3 rfl)).2
    k0_t8_loop (by decide +kernel) _ _
    (fun hC t u => ⟨_, k0_off21_inb c t hC, _, k0_off22_inb c t hC, k0_off21_eq t, k0_off22_eq t, rfl⟩)) $$ [Hn Hms]
  · isplitl [Hn]; · iexact Hn
    iexact Hms
  iintro ⟨Hn, Hms⟩
  iapply (cond_fold A c 3 (mid c 3) 4 1 0 rfl fullShare (k0_cond8 c = 1#1) (mid_second (cond8_iff c) 0 (fold_odd_0 3 rfl)).1 (mid_second (cond8_iff c) 0 (fold_odd_0 3 rfl)).2
    k0_t9_loop (by decide +kernel) _ _
    (fun hC t u => ⟨_, k0_off23_inb c t hC, _, k0_off24_inb c t hC, k0_off23_eq t, k0_off24_eq t, rfl⟩)) $$ [Hn Hms]
  · isplitl [Hn]; · iexact Hn
    iexact Hms
  iintro ⟨Hn, Hms⟩
  iapply (wait_half A κ c (zs 2) (by decide) 0 (Nat.le_refl 0) (above_O5 0 c (by decide)) (P := chP c 1 (xo c) hopQ (chC A c)) rfl rfl) $$ [Hc2 HO Ha2]
  · isplitl []; · iexact HR
    isplitl []; · iexact HL
    isplitl [Hc2]; · iexact Hc2
    isplitl [HO]; · iexact HO
    iexact Ha2
  iintro ⟨HO, Ha2, Hh⟩
  iapply (run_ret c _)
  iapply Hk
  isplitl [HO]; · iexact HO
  isplitl [Hch]; · iexact Hch
  isplitl [Hms]; · iexact Hms
  isplitl [Ha1]; · iexact Ha1
  isplitl [Ha2]; · iexact Ha2
  isplitl [Hn]; · iexact Hn
  iexact Hh

/-- The third chunk's half arrives along z, goes on along x, and is folded. -/
theorem part8 {Kt : BitVec 32 → sProp 𝕄} (c : Dev nD) (h0 h1 h2 h3 h4 h5) (v2 v5 v8 v30 w : BitVec 32) :
    iprop(records A κ ∗ levAts L lv ∗ owesE c (O5 c) ∗ Cr c (zr 2) ∗ At c (zr 2) 0 ∗ Dst c (xp c) 2 (xo c) (xs 2) (xr 2) ∗ msP A c 4)
      ⊢ iprop((∀ r, (owesE c (O6 c) ∗ At c (zr 2) 1 ∗ Cr c (xs 2) ∗ chP c 2 (xo c) hopQ (chC A c) ∗ chP c 2 (xo c) keepQ (chC A c) ∗ msP A c 5) -∗ Kt r)
          -∗ run c (k0_part8 (F := F) lgM h0 outM h1 chM h2 stM h3 mxM h4 smM h5 cc0_scratch4 cc0_scratch5 cc0_scratch6 cc0_scratch7 cc0_scratch8
              c v2 v5 v8 v30 w) Kt) := by
  simp only [k0_part8_eq_skeleton]
  unfold k0_part8_skel
  simp only [Prog.lift, Prog.bind_op, Prog.bind_ret, Prog.pure_eq_ret]
  iintro ⟨#HR, #HL, HO, Hc1, Ha1, ⟨Hxd, Hx1, Hx2, Hx3, Hx4⟩, Hms⟩ Hk
  iapply (wait_half A κ c (zr 2) (by decide) 6 (Nat.le_refl 6) (above_O5 6 c (by decide)) (P := chP c 2 (xo c) fullShare (chC A c)) rfl rfl) $$ [Hc1 HO Ha1]
  · isplitl []; · iexact HR
    isplitl []; · iexact HL
    isplitl [Hc1]; · iexact Hc1
    isplitl [HO]; · iexact HO
    iexact Ha1
  iintro ⟨HO, Ha1, Hch⟩
  ihave Hsp := (ch_lend c 2 (xo c) (chC A c)) $$ Hch
  icases Hsp with ⟨Hch1, Hch2, Hch⟩
  iapply (step_send_chunk A κ c (xp c) (dev9_eq c) (xs 2) (xr 2) rfl rfl (by decide) (by decide) 2 2 (xo c) pushQ (k0_off15_eq c) (k0_off15_eq c) (src_xp c _ _)
    rfl (show chP (xp c) 2 (xn (xp c)) fullShare (chC A (xp c)) = _ by rw [xn_xp]) (O₀ := O5 c) (O := O6 c) rfl) $$ [Hch2 Hxd HO Hx1 Hx2 Hx3 Hx4]
  · isplitl []; · iexact HR
    isplitl [Hch2]; · iexact Hch2
    isplitl [Hxd]; · iexact Hxd
    isplitl [HO]; · iexact HO
    isplitl [Hx1]; · iexact Hx1
    isplitl [Hx2]; · iexact Hx2
    isplitl [Hx3]; · iexact Hx3
    iexact Hx4
  iintro ⟨Hc2, HO⟩
  iapply (cond_fold A c 4 4 (mid c 4) 2 0 rfl keepQ (k0_cond9 c = 1#1) (mid_first (cond9_iff c) 0 (fold_even_0 4 rfl)).1 (mid_first (cond9_iff c) 0 (fold_even_0 4 rfl)).2
    k0_t10_loop (by decide +kernel) _ _
    (fun hC t u => ⟨_, k0_off25_inb c t hC, _, k0_off26_inb c t hC, k0_off25_eq t, k0_off26_eq t, rfl⟩)) $$ [Hch Hms]
  · isplitl [Hch]; · iexact Hch
    iexact Hms
  iintro ⟨Hch, Hms⟩
  iapply (cond_fold A c 4 (mid c 4) 5 2 1 rfl keepQ (k0_cond10 c = 1#1) (mid_second (cond10_iff c) 1 (fold_even_1 4 rfl)).1 (mid_second (cond10_iff c) 1 (fold_even_1 4 rfl)).2
    k0_t11_loop (by decide +kernel) _ _
    (fun hC t u => ⟨_, k0_off27_inb c t hC, _, k0_off28_inb c t hC, k0_off27_eq t, k0_off28_eq t, rfl⟩)) $$ [Hch Hms]
  · isplitl [Hch]; · iexact Hch
    iexact Hms
  iintro ⟨Hch, Hms⟩
  iapply (run_ret c _)
  iapply Hk
  isplitl [HO]; · iexact HO
  isplitl [Ha1]; · iexact Ha1
  isplitl [Hc2]; · iexact Hc2
  isplitl [Hch1]; · iexact Hch1
  isplitl [Hch]; · iexact Hch
  iexact Hms

/-- The third chunk's other half arrives along x and is folded; the first transfer along x has left. -/
theorem part9 {Kt : PUnit → sProp 𝕄} (c : Dev nD) (h0 h1 h2 h3 h4 h5) (v2 v5 v8 v249 : BitVec 32) :
    iprop(records A κ ∗ levAts L lv ∗ owesE c (O6 c) ∗ Cr c (xr 2) ∗ At c (xr 2) 0 ∗ Cr c (xs 0) ∗ At c (xs 0) 0 ∗ msP A c 5)
      ⊢ iprop(((owesE c (O6 c) ∗ At c (xr 2) 1 ∗ At c (xs 0) 1 ∗ chP c 2 (xn c) fullShare (chC A c) ∗ chP c 0 (xo c) pushQ (chC A c) ∗ msP A c 6) -∗ Kt ⟨⟩)
          -∗ run c (k0_part9 (F := F) lgM h0 outM h1 chM h2 stM h3 mxM h4 smM h5 cc0_scratch4 cc0_scratch5 cc0_scratch6 cc0_scratch7 cc0_scratch8
              c v2 v5 v8 v249) Kt) := by
  simp only [k0_part9_eq_skeleton]
  unfold k0_part9_skel
  simp only [Prog.lift, Prog.bind_op, Prog.bind_ret, Prog.pure_eq_ret]
  iintro ⟨#HR, #HL, HO, Hc1, Ha1, Hc2, Ha2, Hms⟩ Hk
  iapply (wait_half A κ c (xr 2) (by decide) 7 (Nat.le_refl 7) (above_zero 7) (P := chP c 2 (xn c) fullShare (chC A c)) rfl rfl) $$ [Hc1 HO Ha1]
  · isplitl []; · iexact HR
    isplitl []; · iexact HL
    isplitl [Hc1]; · iexact Hc1
    isplitl [HO]; · iexact HO
    iexact Ha1
  iintro ⟨HO, Ha1, Hn⟩
  iapply (cond_fold A c 5 5 (mid c 5) 2 1 rfl fullShare (k0_cond11 c = 1#1) (mid_first (cond11_iff c) 1 (fold_odd_1 5 rfl)).1 (mid_first (cond11_iff c) 1 (fold_odd_1 5 rfl)).2
    k0_t12_loop (by decide +kernel) _ _
    (fun hC t u => ⟨_, k0_off30_inb c t hC, _, k0_off31_inb c t hC, k0_off30_eq t, k0_off31_eq t, rfl⟩)) $$ [Hn Hms]
  · isplitl [Hn]; · iexact Hn
    iexact Hms
  iintro ⟨Hn, Hms⟩
  iapply (cond_fold A c 5 (mid c 5) 6 2 0 rfl fullShare (k0_cond12 c = 1#1) (mid_second (cond12_iff c) 0 (fold_odd_0 5 rfl)).1 (mid_second (cond12_iff c) 0 (fold_odd_0 5 rfl)).2
    k0_t13_loop (by decide +kernel) _ _
    (fun hC t u => ⟨_, k0_off32_inb c t hC, _, k0_off33_inb c t hC, k0_off32_eq t, k0_off33_eq t, rfl⟩)) $$ [Hn Hms]
  · isplitl [Hn]; · iexact Hn
    iexact Hms
  iintro ⟨Hn, Hms⟩
  iapply (wait_half A κ c (xs 0) (by decide) 0 (Nat.le_refl 0) (above_zero 0) (P := chP c 0 (xo c) pushQ (chC A c)) rfl rfl) $$ [Hc2 HO Ha2]
  · isplitl []; · iexact HR
    isplitl []; · iexact HL
    isplitl [Hc2]; · iexact Hc2
    isplitl [HO]; · iexact HO
    iexact Ha2
  iintro ⟨HO, Ha2, Hh⟩
  iapply (run_ret c _)
  iapply Hk
  isplitl [HO]; · iexact HO
  isplitl [Ha1]; · iexact Ha1
  isplitl [Ha2]; · iexact Ha2
  isplitl [Hn]; · iexact Hn
  isplitl [Hh]; · iexact Hh
  iexact Hms

end Cert.KernelIdeal.Talk

end
-- ==== Proof.Output.lean ====
/- The result: each block is loaded, normalised, stored into a staging slot and copied out; two slots take turns. -/
module

public import proofs.«01_k».proof.Proof.Body

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F] [Facts]

local notation "𝕄" => MT nD τ sig Unit (Elt F) ℕ UU ℕ

variable (A : Dev nD → Vec F S512x8192 .bf16) (κ : GSem nD τ sig → ℕ)

/-! ## Where each copy goes -/

/-- Where row block 0 of a chunk goes in the result. -/
theorem off34_eq : ∀ (c : Dev nD) (j : Fin 3), k0_off34 c 1#1 (BitVec.ofNat 32 j.val) = ![0, 8192 * (outCol c j.castSucc).val] := by decide +kernel
/-- Where row block 1 of a chunk goes in the result. -/
theorem off35_eq : ∀ (c : Dev nD) (j : Fin 3), k0_off35 c 1#1 (BitVec.ofNat 32 j.val) = ![128, 8192 * (outCol c j.castSucc).val] := by decide +kernel
/-- Where row block 2 of a chunk goes in the result. -/
theorem off36_eq : ∀ (c : Dev nD) (j : Fin 3), k0_off36 c 1#1 (BitVec.ofNat 32 j.val) = ![256, 8192 * (outCol c j.castSucc).val] := by decide +kernel
/-- Where row block 3 of a chunk goes in the result. -/
theorem off37_eq : ∀ (c : Dev nD) (j : Fin 3), k0_off37 c 1#1 (BitVec.ofNat 32 j.val) = ![384, 8192 * (outCol c j.castSucc).val] := by decide +kernel
/-- Where row block 0 of the device's own logits goes in the result. -/
theorem off34_own : ∀ c : Dev nD, k0_off34 c 0#1 3#32 = ![0, 8192 * (outCol c 3).val] := by decide +kernel
/-- Where row block 1 of the device's own logits goes in the result. -/
theorem off35_own : ∀ c : Dev nD, k0_off35 c 0#1 3#32 = ![128, 8192 * (outCol c 3).val] := by decide +kernel
/-- Where row block 2 of the device's own logits goes in the result. -/
theorem off36_own : ∀ c : Dev nD, k0_off36 c 0#1 3#32 = ![256, 8192 * (outCol c 3).val] := by decide +kernel
/-- Where row block 3 of the device's own logits goes in the result. -/
theorem off37_own : ∀ c : Dev nD, k0_off37 c 0#1 3#32 = ![384, 8192 * (outCol c 3).val] := by decide +kernel

/-! ## What is read: the chunks, the device's own logits, the final maxima and sums -/

def Src (c : Dev nD) : sProp 𝕄 :=
  iprop((((c : Thread nD τ).loc cc0_scratch0) ↦{fullShare} (chC A c)) ∗ lgAll A c fullShare.right ∗ msP A c 6)

/-- A row block of a chunk. -/
theorem row {α : Type} {Q : α → sProp 𝕄} (c : Dev nD) (h : Fin 3) (b : Fin 4) {off : Fin 3 → ℕ} {inb} (ho : off = ![h.val, 128 * b.val, 0])
    {hl} {k : Vec F S1x128x8192 .bf16 → Prog (TpuEff nD τ sig (Elt F) Λ₀ .tc) α} :
    Src A c ⊢ iprop((Src A c -∗ run c (k (chRow (chC A c) h b)) Q)
      -∗ run c (.op (.load chM (Rect.unit (s := S3x512x8192) off S1x128x8192.size inb).toLoadRect hl) k) Q) := by
  have H := wp_load (Q := Q) (Γ := []) (defs := defs₀ (F := F)) 𝒱₀ (c : Thread nD τ) none Set.univ (m := chM) (r := (Rect.unit (s := S3x512x8192) off S1x128x8192.size inb).toLoadRect)
    (hl := hl) (k := k) (q := fullShare) (f := chC A c) (S := Finset.univ) (Finset.subset_univ _)
  rw [read_chRow ho] at H
  unfold Src
  iintro ⟨Hc, Hl, Hm⟩ Hk
  iapply H $$ [Hc]
  · iexact Hc
  iintro Hc
  iapply Hk
  isplitl [Hc]; · iexact Hc
  isplitl [Hl]; · iexact Hl
  iexact Hm
/-- A row block of the device's own logits. -/
theorem own {α : Type} {Q : α → sProp 𝕄} (c : Dev nD) (b : Fin 4) {off : Fin 2 → ℕ} {inb} (ho : off = ![128 * b.val, 0])
    {hl} {k : Vec F S128x8192 .bf16 → Prog (TpuEff nD τ sig (Elt F) Λ₀ .tc) α} :
    Src A c ⊢ iprop((Src A c -∗ run c (k (lgRow (A c) b)) Q)
      -∗ run c (.op (.load lgM (Rect.unit (s := S512x8192) off S128x8192.size inb).toLoadRect hl) k) Q) := by
  unfold Src
  iintro ⟨Hc, Hl, Hm⟩ Hk
  iapply (step_load_lg c b ho fullShare.right (A c)) $$ [Hl]
  · iexact Hl
  iintro Hl
  iapply Hk
  isplitl [Hc]; · iexact Hc
  isplitl [Hl]; · iexact Hl
  iexact Hm
/-- A row block's maximum. -/
theorem mx {α : Type} {Q : α → sProp 𝕄} (c : Dev nD) (b : Fin 4) {off : Fin 2 → ℕ} {inb} (ho : off = ![128 * b.val, 0])
    {hl} {k : Vec F S128x1 .f32 → Prog (TpuEff nD τ sig (Elt F) Λ₀ .tc) α} :
    Src A c ⊢ iprop((Src A c -∗ run c (k (mxSt A c b 6).1) Q)
      -∗ run c (.op (.load mxM (Rect.unit (s := S512x1) off S128x1.size inb).toLoadRect hl) k) Q) := by
  unfold Src msP
  iintro ⟨Hc, Hl, Hm, Hs⟩ Hk
  iapply (step_load_mx c b ho (fun b => (mxSt A c b 6).1)) $$ [Hm]
  · iexact Hm
  iintro Hm
  iapply Hk
  isplitl [Hc]; · iexact Hc
  isplitl [Hl]; · iexact Hl
  isplitl [Hm]; · iexact Hm
  iexact Hs
/-- A row block's sum. -/
theorem sm {α : Type} {Q : α → sProp 𝕄} (c : Dev nD) (b : Fin 4) {off : Fin 2 → ℕ} {inb} (ho : off = ![128 * b.val, 0])
    {hl} {k : Vec F S128x1 .f32 → Prog (TpuEff nD τ sig (Elt F) Λ₀ .tc) α} :
    Src A c ⊢ iprop((Src A c -∗ run c (k (mxSt A c b 6).2) Q)
      -∗ run c (.op (.load smM (Rect.unit (s := S512x1) off S128x1.size inb).toLoadRect hl) k) Q) := by
  unfold Src msP
  iintro ⟨Hc, Hl, Hm, Hs⟩ Hk
  iapply (step_load_sm c b ho (fun b => (mxSt A c b 6).2)) $$ [Hs]
  · iexact Hs
  iintro Hs
  iapply Hk
  isplitl [Hc]; · iexact Hc
  isplitl [Hl]; · iexact Hl
  isplitl [Hm]; · iexact Hm
  iexact Hs

/-! ## A staging slot: free, holding a block, lent to a copy -/

def Idle (c : Dev nD) (k : Fin 2) (r : ℕ) : sProp 𝕄 :=
  iprop((∃ f, stP c k f) ∗ At c (cp k) r ∗ reached ER (dmaC c (cp k)) r)
def Full (c : Dev nD) (k : Fin 2) (r : ℕ) (j b : Fin 4) : sProp 𝕄 :=
  iprop((∃ f, ⌜∀ off inb, off = ![k.val, 0, 0] → ∀ (x : Fin 128) (y : Fin 8192),
      (stSlot off inb).view.read (Elt F) f (ix2 x y) = blkC A c j b (ix3 (0 : Fin 1) x y)⌝ ∗ stP c k f)
    ∗ At c (cp k) r ∗ reached ER (dmaC c (cp k)) r)
def Busy (c : Dev nD) (k : Fin 2) (r : ℕ) : sProp 𝕄 :=
  iprop(cred (tallyAt (dmaC c (cp k)) () NB) ∗ At c (cp k) r)

/-- What copy `n` uses up, and what the first `n` copies delivered. -/
def cpTok (c : Dev nD) (n : ℕ) : sProp 𝕄 :=
  iprop(dutyTok ER (dmaC c (cp ⟨n % 2, Nat.mod_lt _ (by decide)⟩)) (n / 2) (0 : Fin 3) ∗ ∃ f, outP c (cpB n) (outCol c (cpJ n)) f)
def rest (c : Dev nD) (n : ℕ) : sProp 𝕄 := bigSep (Finset.Ico n 16) (cpTok c)
def done (c : Dev nD) (n : ℕ) : sProp 𝕄 := bigSep (Finset.range n) fun n => outP c (cpB n) (outCol c (cpJ n)) (outC A c)

/-- The next copy's token and its block of the result, out of what is left. -/
theorem rest_take (c : Dev nD) (n : ℕ) (h : n < 16) : (rest c n : sProp 𝕄) = iprop(cpTok c n ∗ rest c (n + 1)) := by
  unfold rest
  rw [show Finset.Ico n 16 = insert n (Finset.Ico (n + 1) 16) by
    ext i; simp only [Finset.mem_Ico, Finset.mem_insert]; omega, bigSep_insert (by simp)]
  rfl
/-- A block that landed joins those written. -/
theorem done_put (c : Dev nD) (n : ℕ) : done A c (n + 1) = iprop(outP c (cpB n) (outCol c (cpJ n)) (outC A c) ∗ done A c n) := by
  unfold done
  rw [Finset.range_add_one, bigSep_insert (by simp)]
  rfl

/-- A load of a free slot, whose value nothing uses. -/
theorem peek {α : Type} {Q : α → sProp 𝕄} (c : Dev nD) (k : Fin 2) (r : ℕ) {off : Fin 3 → ℕ} {inb} (ho : off = ![k.val, 0, 0])
    {hl} {kk : Vec F S1x128x8192 .f32 → Prog (TpuEff nD τ sig (Elt F) Λ₀ .tc) α} :
    Idle c k r ⊢ iprop((∀ w, Idle c k r -∗ run c (kk w) Q)
      -∗ run c (.op (.load stM (Rect.unit (s := S2x128x8192) off S1x128x8192.size inb).toLoadRect hl) kk) Q) := by
  unfold Idle
  iintro ⟨⟨%f, Hf⟩, Ha, Hr⟩ Hk
  iapply (wp_load (Q := Q) (Γ := []) (defs := defs₀ (F := F)) 𝒱₀ (c : Thread nD τ) none Set.univ (m := stM) (r := (Rect.unit (s := S2x128x8192) off S1x128x8192.size inb).toLoadRect)
    (hl := hl) (k := kk) (q := fullShare) (f := f) (S := stSet k) (stSlot_load_sub ho)) $$ [Hf]
  · iexact Hf
  iintro Hf
  iapply Hk
  isplitl [Hf]; · iexists f; iexact Hf
  isplitl [Ha]; · iexact Ha
  iexact Hr

/-- The store of a block into a free slot. -/
theorem fill {α : Type} {Q : α → sProp 𝕄} (c : Dev nD) (k : Fin 2) (r : ℕ) (j b : Fin 4) {off : Fin 3 → ℕ} {inb} (ho : off = ![k.val, 0, 0])
    {w : Vec F S1x128x8192 .f32} (hw : w = blkC A c j b) {hx hm} {kk : PUnit → Prog (TpuEff nD τ sig (Elt F) Λ₀ .tc) α} :
    Idle c k r ⊢ iprop((Full A c k r j b -∗ run c (kk ⟨⟩) Q)
      -∗ run c (.op (.store stM (Rect.unit (s := S2x128x8192) off S1x128x8192.size inb) w Finset.univ hx hm) kk) Q) := by
  subst hw
  subst ho
  unfold Idle Full
  iintro ⟨⟨%f, Hf⟩, Ha, Hr⟩ Hk
  iapply (wp_store (Q := Q) (Γ := []) (defs := defs₀ (F := F)) 𝒱₀ (c : Thread nD τ) none Set.univ (m := stM) (r := Rect.unit (s := S2x128x8192) ![k.val, 0, 0] S1x128x8192.size inb)
    (hx := hx) (hm := hm) (w := blkC A c j b) (k := kk) (f := f) (S := stSet k) (stSlot_sub rfl)) $$ [Hf]
  · iexact Hf
  iintro Hf
  iapply Hk
  isplitl [Hf]
  · iexists _
    isplitr
    · ipureintro
      intro off inb' ho x y
      subst ho
      exact stSlot_read (inb := inb) f _ x y
    · iexact Hf
  isplitl [Ha]; · iexact Ha
  iexact Hr

/-- The copy of a slot to its place in the result. -/
theorem ship {α : Type} {Q : α → sProp 𝕄} (c : Dev nD) (n : ℕ) (k : Fin 2) (r : ℕ) (j b : Fin 4) (hr : r < 8) (hn : n = 2 * r + k.val)
    (hj : cpJ n = j) (hb : cpB n = b) {off : Fin 3 → ℕ} {inb} (ho : off = ![k.val, 0, 0])
    {off' : Fin 2 → ℕ} {inb'} (ho' : off' = ![128 * b.val, 8192 * (outCol c j).val]) {s : DmaSem sig} (hs : s = cp k)
    {hsrc : (stSlot off inb).view.WordExact} {hdst : (outBlk off' inb').view.WordExact}
    {hsem : DmaTarget.Typed (nD := nD) .vmem (.dma s) (.here (nD := nD) (p := (.tc : Proc τ)) (outBlk off' inb'))} {kk : PUnit → Prog (TpuEff nD τ sig (Elt F) Λ₀ .tc) α} :
    iprop(records A κ ∗ Full A c k r j b ∗ rest c n) ⊢ iprop(((Busy c k r ∗ rest c (n + 1)) -∗ run c (kk ⟨⟩) Q)
      -∗ run c (.op (.enqueueDma (stSlot off inb) (.here (outBlk off' inb')) (.dma s) hsrc hdst hsem) kk) Q) := by
  subst hs
  have hk : (⟨n % 2, Nat.mod_lt _ (by decide)⟩ : Fin 2) = k := Fin.ext (by show n % 2 = k.val; omega)
  have hn2 : n / 2 = r := by omega
  rw [rest_take c n (by omega)]
  unfold Full Busy cpTok
  rw [hk, hn2, hj, hb]
  iintro ⟨#HR, ⟨⟨%f, %hf, Hf⟩, Ha, Hr⟩, ⟨Ht, ⟨%g, Hg⟩⟩, Hrest⟩ Hk
  have H := wp_copy_pointsTo (Γ := []) (Q := Q) (defs := defs₀ (F := F)) 𝒱₀ ER (Rd A) (c : Thread nD τ) none (src := stSlot off inb) (dst := outBlk off' inb') (sem := .dma (cp k)) (hsrc := hsrc) (hdst := hdst)
    (hsem := hsem) (k := kk) (q := fullShare) (fs := f) (fd := g) (r := r) (d := (0 : Fin 3)) (κ := κ (dmaC c (cp k)))
    (mem_dma A c (cp k) (by rw [last_cp]; exact hr)) () NB rfl (amount_cp A c k r 0)
    (by
      show _ ⊢ dmaPay A c (cp k) r
      have hp : dmaPay A c (cp k) r = cpPay A c k r := by
        match k with
        | 0 => rfl
        | 1 => rfl
      rw [hp]
      unfold cpPay
      rw [← hn, hj, hb, stSlot_set ho, outBlk_set ho']
      rw [pointsTo_congr (land_out A c j b ho' _ (hf off inb ho) g)]
      iintro ⟨H1, H2⟩
      isplitl [H1]; · iexact H1
      iexists f; iexact H2) (Es := Set.univ)
  rw [stSlot_set ho, outBlk_set ho'] at H
  iapply H $$ [Hf Hg Ht Hr]
  · isplitl []; · iapply (inv_dma A κ c (cp k) (by show 0 < 13 + k.val; omega)); iexact HR
    isplitl [Hf]; · iexact Hf
    isplitl [Hg]; · iexact Hg
    isplitl [Ht]; · iexact Ht
    iexact Hr
  iintro Hc
  iapply Hk
  isplitr [Hrest]
  · isplitl [Hc]; · iexact Hc
    iexact Ha
  iexact Hrest

/-- The wait for a copy: its part of the result is there, and the slot is free again. -/
theorem land {α : Type} {Q : α → sProp 𝕄} (c : Dev nD) (n : ℕ) (k : Fin 2) (r : ℕ) (hr : r < 8) (hn : n = 2 * r + k.val)
    {s : DmaSem sig} (hs : s = cp k) {src : Memref sig .tc .vmem S128x8192 .f32} {dst : Memref sig .tc .hbm S128x8192 .f32}
    {hsrc : src.view.WordExact} {hdst : dst.view.WordExact} {kk : PUnit → Prog (TpuEff nD τ sig (Elt F) Λ₀ .tc) α} :
    iprop(records A κ ∗ levAts L lv ∗ owesE c 0 ∗ Busy c k r ∗ done A c n) ⊢ iprop(((owesE c 0 ∗ Idle c k (r + 1) ∗ done A c (n + 1)) -∗ run c (kk ⟨⟩) Q)
      -∗ run c (.op (.waitDma2 s src dst hsrc hdst) kk) Q) := by
  have hd : dst.view.dmaCredit = NB := rfl
  have hp : dmaPay A c (cp k) r = cpPay A c k r := by
    match k with
    | 0 => rfl
    | 1 => rfl
  rw [done_put]
  unfold Busy Idle
  iintro ⟨#HR, #HL, HO, ⟨Hc, Ha⟩, Hdone⟩ Hk
  have hlv : lv (dmaC c (cp k)) () ≤ 0 := by
    match k with
    | 0 => exact Nat.le_refl 0
    | 1 => exact Nat.le_refl 0
  iapply (step_wait A κ c (cp k) (r := r) (N := NB) (by show 0 < 13 + k.val; omega) (by rw [last_cp]; exact hr) (expect_cp A c k hr)
    (mayWait c (.dma (cp k)) 0 hlv (above_zero 0)) hs hd) $$ [HO Hc Ha]
  · isplitl []; · iexact HR
    isplitl []; · iexact HL
    isplitl [Hc]; · iexact Hc
    isplitl [HO]; · iexact HO
    iexact Ha
  rw [hp]
  unfold cpPay
  rw [← hn]
  iintro ⟨HO, Ha, Hr, Ho, Hst⟩
  iapply Hk
  isplitl [HO]; · iexact HO
  isplitr [Ho Hdone]
  · isplitl [Hst]; · iexact Hst
    isplitl [Ha]; · iexact Ha
    iexact Hr
  isplitl [Ho]; · iexact Ho
  iexact Hdone

end Cert.KernelIdeal.Talk

end
-- ==== Proof.Tail.lean ====
/- The result's sixteen blocks, part by part of the kernel's text. -/
module

public import proofs.«01_k».proof.Proof.Output

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F] [Facts]

local notation "𝕄" => MT nD τ sig Unit (Elt F) ℕ UU ℕ

variable (A : Dev nD → Vec F S512x8192 .bf16) (κ : GSem nD τ sig → ℕ)

/-- A device in the last phase: what it reads, its two slots, the first `n` copies issued and the first `m` landed. -/
def St (c : Dev nD) (s0 s1 : sProp 𝕄) (n m : ℕ) : sProp 𝕄 :=
  iprop(Src A c ∗ s0 ∗ s1 ∗ owesE c 0 ∗ rest c n ∗ done A c m)

/-- Chunk 0: blocks 0 and 1 go out. -/
theorem part11 {Kt : PUnit → sProp 𝕄} (c : Dev nD) (h0 h1 h2 h3 h4 h5) (v298 : BitVec 32) :
    iprop(records A κ ∗ levAts L lv ∗ St A c (Idle c 0 0) (Idle c 1 0) 0 0)
      ⊢ iprop((St A c (Busy c 0 0) (Busy c 1 0) 2 0 -∗ Kt ⟨⟩)
          -∗ run c (k0_part11 (F := F) lgM h0 outM h1 chM h2 stM h3 mxM h4 smM h5 cc0_scratch4 cc0_scratch5 cc0_scratch6 cc0_scratch7 cc0_scratch8
              c v298 (k0_pay53 (chRow (chC A c) 0 0) (mxSt A c 0 6).1 (mxSt A c 0 6).2)) Kt) := by
  simp only [k0_part11_eq_skeleton]
  unfold k0_part11_skel St
  simp only [Prog.lift, Prog.bind_op, Prog.bind_ret, Prog.pure_eq_ret]
  iintro ⟨#HR, #HL, HS, H0, H1, HO, HT, HD⟩ Hk
  iapply (peek c 0 0 rfl) $$ H0; iintro %_ H0
  iapply (fill A c 0 0 0 0 rfl rfl) $$ H0; iintro H0
  iapply (ship A κ c 0 0 0 0 0 (by decide) rfl rfl rfl rfl (off34_eq c 0) rfl) $$ [H0 HT]
  · isplitl []; · iexact HR
    isplitl [H0] <;> iassumption
  iintro ⟨H0, HT⟩
  iapply (row A c 0 1 rfl) $$ HS; iintro HS
  iapply (mx A c 1 rfl) $$ HS; iintro HS
  iapply (sm A c 1 rfl) $$ HS; iintro HS
  iapply (peek c 1 0 rfl) $$ H1; iintro %_ H1
  iapply (fill A c 1 0 0 1 rfl rfl) $$ H1; iintro H1
  iapply (ship A κ c 1 1 0 0 1 (by decide) rfl rfl rfl rfl (off35_eq c 0) rfl) $$ [H1 HT]
  · isplitl []; · iexact HR
    isplitl [H1] <;> iassumption
  iintro ⟨H1, HT⟩
  iapply (run_ret c _)
  iapply Hk
  isplitl [HS]; · iexact HS
  isplitl [H0]; · iexact H0
  isplitl [H1]; · iexact H1
  isplitl [HO]; · iexact HO
  isplitl [HT] <;> iassumption

/-- Block 0 has landed; block 2 goes out; block 1 has landed. -/
theorem part12 {Kt : PUnit → sProp 𝕄} (c : Dev nD) (h0 h1 h2 h3 h4 h5) (v298 : BitVec 32) :
    iprop(records A κ ∗ levAts L lv ∗ St A c (Busy c 0 0) (Busy c 1 0) 2 0)
      ⊢ iprop((St A c (Busy c 0 1) (Idle c 1 1) 3 2 -∗ Kt ⟨⟩)
          -∗ run c (k0_part12 (F := F) lgM h0 outM h1 chM h2 stM h3 mxM h4 smM h5 cc0_scratch4 cc0_scratch5 cc0_scratch6 cc0_scratch7 cc0_scratch8
              c v298) Kt) := by
  simp only [k0_part12_eq_skeleton]
  unfold k0_part12_skel St
  simp only [Prog.lift, Prog.bind_op, Prog.bind_ret, Prog.pure_eq_ret]
  iintro ⟨#HR, #HL, HS, H0, H1, HO, HT, HD⟩ Hk
  iapply (land A κ c 0 0 0 (by decide) rfl rfl) $$ [HO H0 HD]
  · isplitl []; · iexact HR
    isplitl []; · iexact HL
    isplitl [HO]; · iexact HO
    isplitl [H0] <;> iassumption
  iintro ⟨HO, H0, HD⟩
  iapply (row A c 0 2 rfl) $$ HS; iintro HS
  iapply (mx A c 2 rfl) $$ HS; iintro HS
  iapply (sm A c 2 rfl) $$ HS; iintro HS
  iapply (peek c 0 1 rfl) $$ H0; iintro %_ H0
  iapply (fill A c 0 1 0 2 rfl rfl) $$ H0; iintro H0
  iapply (ship A κ c 2 0 1 0 2 (by decide) rfl rfl rfl rfl (off36_eq c 0) rfl) $$ [H0 HT]
  · isplitl []; · iexact HR
    isplitl [H0] <;> iassumption
  iintro ⟨H0, HT⟩
  iapply (land A κ c 1 1 0 (by decide) rfl rfl) $$ [HO H1 HD]
  · isplitl []; · iexact HR
    isplitl []; · iexact HL
    isplitl [HO]; · iexact HO
    isplitl [H1] <;> iassumption
  iintro ⟨HO, H1, HD⟩
  iapply (run_ret c _)
  iapply Hk
  isplitl [HS]; · iexact HS
  isplitl [H0]; · iexact H0
  isplitl [H1]; · iexact H1
  isplitl [HO]; · iexact HO
  isplitl [HT] <;> iassumption

/-- Block 3 goes out. -/
theorem part13 {Kt : BitVec 32 → sProp 𝕄} (c : Dev nD) (h0 h1 h2 h3 h4 h5) (v8 v298 : BitVec 32) :
    iprop(records A κ ∗ levAts L lv ∗ St A c (Busy c 0 1) (Idle c 1 1) 3 2)
      ⊢ iprop((∀ r, St A c (Busy c 0 1) (Busy c 1 1) 4 2 -∗ Kt r)
          -∗ run c (k0_part13 (F := F) lgM h0 outM h1 chM h2 stM h3 mxM h4 smM h5 cc0_scratch4 cc0_scratch5 cc0_scratch6 cc0_scratch7 cc0_scratch8
              c v8 v298) Kt) := by
  simp only [k0_part13_eq_skeleton]
  unfold k0_part13_skel St
  simp only [Prog.lift, Prog.bind_op, Prog.bind_ret, Prog.pure_eq_ret]
  iintro ⟨#HR, #HL, HS, H0, H1, HO, HT, HD⟩ Hk
  iapply (row A c 0 3 rfl) $$ HS; iintro HS
  iapply (mx A c 3 rfl) $$ HS; iintro HS
  iapply (sm A c 3 rfl) $$ HS; iintro HS
  iapply (peek c 1 1 rfl) $$ H1; iintro %_ H1
  iapply (fill A c 1 1 0 3 rfl rfl) $$ H1; iintro H1
  iapply (ship A κ c 3 1 1 0 3 (by decide) rfl rfl rfl rfl (off37_eq c 0) rfl) $$ [H1 HT]
  · isplitl []; · iexact HR
    isplitl [H1] <;> iassumption
  iintro ⟨H1, HT⟩
  iapply (run_ret c _)
  iapply Hk
  isplitl [HS]; · iexact HS
  isplitl [H0]; · iexact H0
  isplitl [H1]; · iexact H1
  isplitl [HO]; · iexact HO
  isplitl [HT] <;> iassumption

/-- Block 2 has landed; chunk 1: block 0 goes out. -/
theorem part14 {Kt : BitVec 32 → sProp 𝕄} (c : Dev nD) (h0 h1 h2 h3 h4 h5) (v8 v404 : BitVec 32) :
    iprop(records A κ ∗ levAts L lv ∗ St A c (Busy c 0 1) (Busy c 1 1) 4 2)
      ⊢ iprop((∀ r, St A c (Busy c 0 2) (Busy c 1 1) 5 3 -∗ Kt r)
          -∗ run c (k0_part14 (F := F) lgM h0 outM h1 chM h2 stM h3 mxM h4 smM h5 cc0_scratch4 cc0_scratch5 cc0_scratch6 cc0_scratch7 cc0_scratch8
              c v8 v404) Kt) := by
  simp only [k0_part14_eq_skeleton]
  unfold k0_part14_skel St
  simp only [Prog.lift, Prog.bind_op, Prog.bind_ret, Prog.pure_eq_ret]
  iintro ⟨#HR, #HL, HS, H0, H1, HO, HT, HD⟩ Hk
  iapply (land A κ c 2 0 1 (by decide) rfl rfl) $$ [HO H0 HD]
  · isplitl []; · iexact HR
    isplitl []; · iexact HL
    isplitl [HO]; · iexact HO
    isplitl [H0] <;> iassumption
  iintro ⟨HO, H0, HD⟩
  iapply (row A c 1 0 rfl) $$ HS; iintro HS
  iapply (mx A c 0 rfl) $$ HS; iintro HS
  iapply (sm A c 0 rfl) $$ HS; iintro HS
  iapply (peek c 0 2 rfl) $$ H0; iintro %_ H0
  iapply (fill A c 0 2 1 0 rfl rfl) $$ H0; iintro H0
  iapply (ship A κ c 4 0 2 1 0 (by decide) rfl rfl rfl rfl (off34_eq c 1) rfl) $$ [H0 HT]
  · isplitl []; · iexact HR
    isplitl [H0] <;> iassumption
  iintro ⟨H0, HT⟩
  iapply (run_ret c _)
  iapply Hk
  isplitl [HS]; · iexact HS
  isplitl [H0]; · iexact H0
  isplitl [H1]; · iexact H1
  isplitl [HO]; · iexact HO
  isplitl [HT] <;> iassumption

/-- Chunk 0 has landed; chunk 1: block 1 goes out, block 0 has landed. -/
theorem part15 {Kt : FVec F S128x8192 .bf16 → sProp 𝕄} (c : Dev nD) (h0 h1 h2 h3 h4 h5) (v405 : BitVec 32) :
    iprop(records A κ ∗ levAts L lv ∗ St A c (Busy c 0 2) (Busy c 1 1) 5 3)
      ⊢ iprop((St A c (Idle c 0 3) (Busy c 1 2) 6 5 -∗ Kt (k0_pay60 (chRow (chC A c) 1 2)))
          -∗ run c (k0_part15 (F := F) lgM h0 outM h1 chM h2 stM h3 mxM h4 smM h5 cc0_scratch4 cc0_scratch5 cc0_scratch6 cc0_scratch7 cc0_scratch8
              c v405) Kt) := by
  simp only [k0_part15_eq_skeleton]
  unfold k0_part15_skel St
  simp only [Prog.lift, Prog.bind_op, Prog.bind_ret, Prog.pure_eq_ret]
  iintro ⟨#HR, #HL, HS, H0, H1, HO, HT, HD⟩ Hk
  iapply (land A κ c 3 1 1 (by decide) rfl rfl) $$ [HO H1 HD]
  · isplitl []; · iexact HR
    isplitl []; · iexact HL
    isplitl [HO]; · iexact HO
    isplitl [H1] <;> iassumption
  iintro ⟨HO, H1, HD⟩
  iapply (row A c 1 1 rfl) $$ HS; iintro HS
  iapply (mx A c 1 rfl) $$ HS; iintro HS
  iapply (sm A c 1 rfl) $$ HS; iintro HS
  iapply (peek c 1 2 rfl) $$ H1; iintro %_ H1
  iapply (fill A c 1 2 1 1 rfl rfl) $$ H1; iintro H1
  iapply (ship A κ c 5 1 2 1 1 (by decide) rfl rfl rfl rfl (off35_eq c 1) rfl) $$ [H1 HT]
  · isplitl []; · iexact HR
    isplitl [H1] <;> iassumption
  iintro ⟨H1, HT⟩
  iapply (land A κ c 4 0 2 (by decide) rfl rfl) $$ [HO H0 HD]
  · isplitl []; · iexact HR
    isplitl []; · iexact HL
    isplitl [HO]; · iexact HO
    isplitl [H0] <;> iassumption
  iintro ⟨HO, H0, HD⟩
  iapply (row A c 1 2 rfl) $$ HS; iintro HS
  iapply (run_ret c _)
  iapply Hk
  isplitl [HS]; · iexact HS
  isplitl [H0]; · iexact H0
  isplitl [H1]; · iexact H1
  isplitl [HO]; · iexact HO
  isplitl [HT] <;> iassumption

/-- Block 2 goes out, block 1 has landed. -/
theorem part16 {Kt : FVec F S128x8192 .f32 → sProp 𝕄} (c : Dev nD) (h0 h1 h2 h3 h4 h5) (v405 : BitVec 32) :
    iprop(records A κ ∗ levAts L lv ∗ St A c (Idle c 0 3) (Busy c 1 2) 6 5)
      ⊢ iprop((St A c (Busy c 0 3) (Idle c 1 3) 7 6 -∗ Kt (k0_pay62 (chRow (chC A c) 1 3) (mxSt A c 3 6).1))
          -∗ run c (k0_part16 (F := F) lgM h0 outM h1 chM h2 stM h3 mxM h4 smM h5 cc0_scratch4 cc0_scratch5 cc0_scratch6 cc0_scratch7 cc0_scratch8
              c v405 (k0_pay60 (chRow (chC A c) 1 2))) Kt) := by
  simp only [k0_part16_eq_skeleton]
  unfold k0_part16_skel St
  simp only [Prog.lift, Prog.bind_op, Prog.bind_ret, Prog.pure_eq_ret]
  iintro ⟨#HR, #HL, HS, H0, H1, HO, HT, HD⟩ Hk
  iapply (mx A c 2 rfl) $$ HS; iintro HS
  iapply (sm A c 2 rfl) $$ HS; iintro HS
  iapply (peek c 0 3 rfl) $$ H0; iintro %_ H0
  iapply (fill A c 0 3 1 2 rfl rfl) $$ H0; iintro H0
  iapply (ship A κ c 6 0 3 1 2 (by decide) rfl rfl rfl rfl (off36_eq c 1) rfl) $$ [H0 HT]
  · isplitl []; · iexact HR
    isplitl [H0] <;> iassumption
  iintro ⟨H0, HT⟩
  iapply (land A κ c 5 1 2 (by decide) rfl rfl) $$ [HO H1 HD]
  · isplitl []; · iexact HR
    isplitl []; · iexact HL
    isplitl [HO]; · iexact HO
    isplitl [H1] <;> iassumption
  iintro ⟨HO, H1, HD⟩
  iapply (row A c 1 3 rfl) $$ HS; iintro HS
  iapply (mx A c 3 rfl) $$ HS; iintro HS
  iapply (run_ret c _)
  iapply Hk
  isplitl [HS]; · iexact HS
  isplitl [H0]; · iexact H0
  isplitl [H1]; · iexact H1
  isplitl [HO]; · iexact HO
  isplitl [HT] <;> iassumption

/-- Block 3 goes out, block 2 has landed. -/
theorem part17 {Kt : BitVec 32 → sProp 𝕄} (c : Dev nD) (h0 h1 h2 h3 h4 h5) (v8 v405 : BitVec 32) :
    iprop(records A κ ∗ levAts L lv ∗ St A c (Busy c 0 3) (Idle c 1 3) 7 6)
      ⊢ iprop((∀ r, St A c (Idle c 0 4) (Busy c 1 3) 8 7 -∗ Kt r)
          -∗ run c (k0_part17 (F := F) lgM h0 outM h1 chM h2 stM h3 mxM h4 smM h5 cc0_scratch4 cc0_scratch5 cc0_scratch6 cc0_scratch7 cc0_scratch8
              c v8 v405 (k0_pay62 (chRow (chC A c) 1 3) (mxSt A c 3 6).1)) Kt) := by
  simp only [k0_part17_eq_skeleton]
  unfold k0_part17_skel St
  simp only [Prog.lift, Prog.bind_op, Prog.bind_ret, Prog.pure_eq_ret]
  iintro ⟨#HR, #HL, HS, H0, H1, HO, HT, HD⟩ Hk
  iapply (sm A c 3 rfl) $$ HS; iintro HS
  iapply (peek c 1 3 rfl) $$ H1; iintro %_ H1
  iapply (fill A c 1 3 1 3 rfl rfl) $$ H1; iintro H1
  iapply (ship A κ c 7 1 3 1 3 (by decide) rfl rfl rfl rfl (off37_eq c 1) rfl) $$ [H1 HT]
  · isplitl []; · iexact HR
    isplitl [H1] <;> iassumption
  iintro ⟨H1, HT⟩
  iapply (land A κ c 6 0 3 (by decide) rfl rfl) $$ [HO H0 HD]
  · isplitl []; · iexact HR
    isplitl []; · iexact HL
    isplitl [HO]; · iexact HO
    isplitl [H0] <;> iassumption
  iintro ⟨HO, H0, HD⟩
  iapply (run_ret c _)
  iapply Hk
  isplitl [HS]; · iexact HS
  isplitl [H0]; · iexact H0
  isplitl [H1]; · iexact H1
  isplitl [HO]; · iexact HO
  isplitl [HT] <;> iassumption

/-- Chunk 2: block 0 goes out; chunk 1 has landed. -/
theorem part18 {Kt : (Σ' (_ : FVec F S128x8192 .f32), FVec F S128x8192 .f32) → sProp 𝕄} (c : Dev nD) (h0 h1 h2 h3 h4 h5) (v522 : BitVec 32) :
    iprop(records A κ ∗ levAts L lv ∗ St A c (Idle c 0 4) (Busy c 1 3) 8 7)
      ⊢ iprop((St A c (Busy c 0 4) (Idle c 1 4) 9 8 -∗ Kt ⟨k0_pay65 (chRow (chC A c) 2 1), k0_pay66 (mxSt A c 1 6).1⟩)
          -∗ run c (k0_part18 (F := F) lgM h0 outM h1 chM h2 stM h3 mxM h4 smM h5 cc0_scratch4 cc0_scratch5 cc0_scratch6 cc0_scratch7 cc0_scratch8
              c v522) Kt) := by
  simp only [k0_part18_eq_skeleton]
  unfold k0_part18_skel St
  simp only [Prog.lift, Prog.bind_op, Prog.bind_ret, Prog.pure_eq_ret]
  iintro ⟨#HR, #HL, HS, H0, H1, HO, HT, HD⟩ Hk
  iapply (row A c 2 0 rfl) $$ HS; iintro HS
  iapply (mx A c 0 rfl) $$ HS; iintro HS
  iapply (sm A c 0 rfl) $$ HS; iintro HS
  iapply (peek c 0 4 rfl) $$ H0; iintro %_ H0
  iapply (fill A c 0 4 2 0 rfl rfl) $$ H0; iintro H0
  iapply (ship A κ c 8 0 4 2 0 (by decide) rfl rfl rfl rfl (off34_eq c 2) rfl) $$ [H0 HT]
  · isplitl []; · iexact HR
    isplitl [H0] <;> iassumption
  iintro ⟨H0, HT⟩
  iapply (land A κ c 7 1 3 (by decide) rfl rfl) $$ [HO H1 HD]
  · isplitl []; · iexact HR
    isplitl []; · iexact HL
    isplitl [HO]; · iexact HO
    isplitl [H1] <;> iassumption
  iintro ⟨HO, H1, HD⟩
  iapply (row A c 2 1 rfl) $$ HS; iintro HS
  iapply (mx A c 1 rfl) $$ HS; iintro HS
  iapply (run_ret c _)
  iapply Hk
  isplitl [HS]; · iexact HS
  isplitl [H0]; · iexact H0
  isplitl [H1]; · iexact H1
  isplitl [HO]; · iexact HO
  isplitl [HT] <;> iassumption

/-- Block 1 goes out, block 0 has landed. -/
theorem part19 {Kt : (Σ' (_ : FVec F S128x8192 .f32), FVec F S128x8192 .f32) → sProp 𝕄} (c : Dev nD) (h0 h1 h2 h3 h4 h5) (v522 : BitVec 32) :
    iprop(records A κ ∗ levAts L lv ∗ St A c (Busy c 0 4) (Idle c 1 4) 9 8)
      ⊢ iprop((St A c (Idle c 0 5) (Busy c 1 4) 10 9 -∗ Kt ⟨k0_pay68 (chRow (chC A c) 2 2) (mxSt A c 2 6).1, k0_pay69 (mxSt A c 2 6).2⟩)
          -∗ run c (k0_part19 (F := F) lgM h0 outM h1 chM h2 stM h3 mxM h4 smM h5 cc0_scratch4 cc0_scratch5 cc0_scratch6 cc0_scratch7 cc0_scratch8
              c v522 (k0_pay65 (chRow (chC A c) 2 1)) (k0_pay66 (mxSt A c 1 6).1)) Kt) := by
  simp only [k0_part19_eq_skeleton]
  unfold k0_part19_skel St
  simp only [Prog.lift, Prog.bind_op, Prog.bind_ret, Prog.pure_eq_ret]
  iintro ⟨#HR, #HL, HS, H0, H1, HO, HT, HD⟩ Hk
  iapply (sm A c 1 rfl) $$ HS; iintro HS
  iapply (peek c 1 4 rfl) $$ H1; iintro %_ H1
  iapply (fill A c 1 4 2 1 rfl rfl) $$ H1; iintro H1
  iapply (ship A κ c 9 1 4 2 1 (by decide) rfl rfl rfl rfl (off35_eq c 2) rfl) $$ [H1 HT]
  · isplitl []; · iexact HR
    isplitl [H1] <;> iassumption
  iintro ⟨H1, HT⟩
  iapply (land A κ c 8 0 4 (by decide) rfl rfl) $$ [HO H0 HD]
  · isplitl []; · iexact HR
    isplitl []; · iexact HL
    isplitl [HO]; · iexact HO
    isplitl [H0] <;> iassumption
  iintro ⟨HO, H0, HD⟩
  iapply (row A c 2 2 rfl) $$ HS; iintro HS
  iapply (mx A c 2 rfl) $$ HS; iintro HS
  iapply (sm A c 2 rfl) $$ HS; iintro HS
  iapply (run_ret c _)
  iapply Hk
  isplitl [HS]; · iexact HS
  isplitl [H0]; · iexact H0
  isplitl [H1]; · iexact H1
  isplitl [HO]; · iexact HO
  isplitl [HT] <;> iassumption

/-- Block 2 goes out, block 1 has landed, block 3 is in its slot. -/
theorem part20 {Kt : BitVec 32 → sProp 𝕄} (c : Dev nD) (h0 h1 h2 h3 h4 h5) (v522 : BitVec 32) :
    iprop(records A κ ∗ levAts L lv ∗ St A c (Idle c 0 5) (Busy c 1 4) 10 9)
      ⊢ iprop((∀ r, St A c (Busy c 0 5) (Full A c 1 5 2 3) 11 10 -∗ Kt r)
          -∗ run c (k0_part20 (F := F) lgM h0 outM h1 chM h2 stM h3 mxM h4 smM h5 cc0_scratch4 cc0_scratch5 cc0_scratch6 cc0_scratch7 cc0_scratch8
              c v522 (k0_pay68 (chRow (chC A c) 2 2) (mxSt A c 2 6).1) (k0_pay69 (mxSt A c 2 6).2)) Kt) := by
  simp only [k0_part20_eq_skeleton]
  unfold k0_part20_skel St
  simp only [Prog.lift, Prog.bind_op, Prog.bind_ret, Prog.pure_eq_ret]
  iintro ⟨#HR, #HL, HS, H0, H1, HO, HT, HD⟩ Hk
  iapply (peek c 0 5 rfl) $$ H0; iintro %_ H0
  iapply (fill A c 0 5 2 2 rfl rfl) $$ H0; iintro H0
  iapply (ship A κ c 10 0 5 2 2 (by decide) rfl rfl rfl rfl (off36_eq c 2) rfl) $$ [H0 HT]
  · isplitl []; · iexact HR
    isplitl [H0] <;> iassumption
  iintro ⟨H0, HT⟩
  iapply (land A κ c 9 1 4 (by decide) rfl rfl) $$ [HO H1 HD]
  · isplitl []; · iexact HR
    isplitl []; · iexact HL
    isplitl [HO]; · iexact HO
    isplitl [H1] <;> iassumption
  iintro ⟨HO, H1, HD⟩
  iapply (row A c 2 3 rfl) $$ HS; iintro HS
  iapply (mx A c 3 rfl) $$ HS; iintro HS
  iapply (sm A c 3 rfl) $$ HS; iintro HS
  iapply (peek c 1 5 rfl) $$ H1; iintro %_ H1
  iapply (fill A c 1 5 2 3 rfl rfl) $$ H1; iintro H1
  iapply (run_ret c _)
  iapply Hk
  isplitl [HS]; · iexact HS
  isplitl [H0]; · iexact H0
  isplitl [H1]; · iexact H1
  isplitl [HO]; · iexact HO
  isplitl [HT] <;> iassumption

/-- Block 3 goes out, block 2 has landed. -/
theorem part21 {Kt : (Σ' (_ : BitVec 32) (_ : FVec F S128x8192 .f32) (_ : Vec F S128x1 .f32), F .f32) → sProp 𝕄} (c : Dev nD) (h0 h1 h2 h3 h4 h5) (v8 v522 w : BitVec 32) :
    iprop(records A κ ∗ levAts L lv ∗ St A c (Busy c 0 5) (Full A c 1 5 2 3) 11 10)
      ⊢ iprop((∀ r, St A c (Idle c 0 6) (Busy c 1 5) 12 11 -∗ Kt ⟨r, k0_pay72 (lgRow (A c) 0) (mxSt A c 0 6).1, (mxSt A c 0 6).2, (Scalar.ofBits .f32 0x3F800000#32)⟩)
          -∗ run c (k0_part21 (F := F) lgM h0 outM h1 chM h2 stM h3 mxM h4 smM h5 cc0_scratch4 cc0_scratch5 cc0_scratch6 cc0_scratch7 cc0_scratch8
              c v8 v522 w) Kt) := by
  simp only [k0_part21_eq_skeleton]
  unfold k0_part21_skel St
  simp only [Prog.lift, Prog.bind_op, Prog.bind_ret, Prog.pure_eq_ret]
  iintro ⟨#HR, #HL, HS, H0, H1, HO, HT, HD⟩ Hk
  iapply (ship A κ c 11 1 5 2 3 (by decide) rfl rfl rfl rfl (off37_eq c 2) rfl) $$ [H1 HT]
  · isplitl []; · iexact HR
    isplitl [H1] <;> iassumption
  iintro ⟨H1, HT⟩
  iapply (land A κ c 10 0 5 (by decide) rfl rfl) $$ [HO H0 HD]
  · isplitl []; · iexact HR
    isplitl []; · iexact HL
    isplitl [HO]; · iexact HO
    isplitl [H0] <;> iassumption
  iintro ⟨HO, H0, HD⟩
  iapply (own A c 0 rfl) $$ HS; iintro HS
  iapply (mx A c 0 rfl) $$ HS; iintro HS
  iapply (sm A c 0 rfl) $$ HS; iintro HS
  iapply (run_ret c _)
  iapply Hk
  isplitl [HS]; · iexact HS
  isplitl [H0]; · iexact H0
  isplitl [H1]; · iexact H1
  isplitl [HO]; · iexact HO
  isplitl [HT] <;> iassumption

/-- The device's own logits: block 0 goes out; chunk 2 has landed. -/
theorem part22 {Kt : FVec F S1x128x8192 .f32 → sProp 𝕄} (c : Dev nD) (h0 h1 h2 h3 h4 h5) (v639 : BitVec 32) :
    iprop(records A κ ∗ levAts L lv ∗ St A c (Idle c 0 6) (Busy c 1 5) 12 11)
      ⊢ iprop((St A c (Busy c 0 6) (Idle c 1 6) 13 12 -∗ Kt (k0_pay74 (lgRow (A c) 1) (mxSt A c 1 6).1 (mxSt A c 1 6).2))
          -∗ run c (k0_part22 (F := F) lgM h0 outM h1 chM h2 stM h3 mxM h4 smM h5 cc0_scratch4 cc0_scratch5 cc0_scratch6 cc0_scratch7 cc0_scratch8
              c v639 (k0_pay72 (lgRow (A c) 0) (mxSt A c 0 6).1) (mxSt A c 0 6).2 (Scalar.ofBits .f32 0x3F800000#32)) Kt) := by
  simp only [k0_part22_eq_skeleton]
  unfold k0_part22_skel St
  simp only [Prog.lift, Prog.bind_op, Prog.bind_ret, Prog.pure_eq_ret]
  iintro ⟨#HR, #HL, HS, H0, H1, HO, HT, HD⟩ Hk
  iapply (peek c 0 6 rfl) $$ H0; iintro %_ H0
  iapply (fill A c 0 6 3 0 rfl rfl) $$ H0; iintro H0
  iapply (ship A κ c 12 0 6 3 0 (by decide) rfl rfl rfl rfl (off34_own c) rfl) $$ [H0 HT]
  · isplitl []; · iexact HR
    isplitl [H0] <;> iassumption
  iintro ⟨H0, HT⟩
  iapply (land A κ c 11 1 5 (by decide) rfl rfl) $$ [HO H1 HD]
  · isplitl []; · iexact HR
    isplitl []; · iexact HL
    isplitl [HO]; · iexact HO
    isplitl [H1] <;> iassumption
  iintro ⟨HO, H1, HD⟩
  iapply (own A c 1 rfl) $$ HS; iintro HS
  iapply (mx A c 1 rfl) $$ HS; iintro HS
  iapply (sm A c 1 rfl) $$ HS; iintro HS
  iapply (peek c 1 6 rfl) $$ H1; iintro %_ H1
  iapply (run_ret c _)
  iapply Hk
  isplitl [HS]; · iexact HS
  isplitl [H0]; · iexact H0
  isplitl [H1]; · iexact H1
  isplitl [HO]; · iexact HO
  isplitl [HT] <;> iassumption

/-- Block 1 goes out, block 0 has landed, block 2 is in its slot. -/
theorem part23 {Kt : PUnit → sProp 𝕄} (c : Dev nD) (h0 h1 h2 h3 h4 h5) (v639 : BitVec 32) :
    iprop(records A κ ∗ levAts L lv ∗ St A c (Busy c 0 6) (Idle c 1 6) 13 12)
      ⊢ iprop((St A c (Full A c 0 7 3 2) (Busy c 1 6) 14 13 -∗ Kt ⟨⟩)
          -∗ run c (k0_part23 (F := F) lgM h0 outM h1 chM h2 stM h3 mxM h4 smM h5 cc0_scratch4 cc0_scratch5 cc0_scratch6 cc0_scratch7 cc0_scratch8
              c v639 (k0_pay74 (lgRow (A c) 1) (mxSt A c 1 6).1 (mxSt A c 1 6).2)) Kt) := by
  simp only [k0_part23_eq_skeleton]
  unfold k0_part23_skel St
  simp only [Prog.lift, Prog.bind_op, Prog.bind_ret, Prog.pure_eq_ret]
  iintro ⟨#HR, #HL, HS, H0, H1, HO, HT, HD⟩ Hk
  iapply (fill A c 1 6 3 1 rfl rfl) $$ H1; iintro H1
  iapply (ship A κ c 13 1 6 3 1 (by decide) rfl rfl rfl rfl (off35_own c) rfl) $$ [H1 HT]
  · isplitl []; · iexact HR
    isplitl [H1] <;> iassumption
  iintro ⟨H1, HT⟩
  iapply (land A κ c 12 0 6 (by decide) rfl rfl) $$ [HO H0 HD]
  · isplitl []; · iexact HR
    isplitl []; · iexact HL
    isplitl [HO]; · iexact HO
    isplitl [H0] <;> iassumption
  iintro ⟨HO, H0, HD⟩
  iapply (own A c 2 rfl) $$ HS; iintro HS
  iapply (mx A c 2 rfl) $$ HS; iintro HS
  iapply (sm A c 2 rfl) $$ HS; iintro HS
  iapply (peek c 0 7 rfl) $$ H0; iintro %_ H0
  iapply (fill A c 0 7 3 2 rfl rfl) $$ H0; iintro H0
  iapply (run_ret c _)
  iapply Hk
  isplitl [HS]; · iexact HS
  isplitl [H0]; · iexact H0
  isplitl [H1]; · iexact H1
  isplitl [HO]; · iexact HO
  isplitl [HT] <;> iassumption

/-- Block 2 goes out, block 1 has landed, block 3 goes out. -/
theorem part24 {Kt : PUnit → sProp 𝕄} (c : Dev nD) (h0 h1 h2 h3 h4 h5) (v639 : BitVec 32) :
    iprop(records A κ ∗ levAts L lv ∗ St A c (Full A c 0 7 3 2) (Busy c 1 6) 14 13)
      ⊢ iprop((St A c (Busy c 0 7) (Busy c 1 7) 16 14 -∗ Kt ⟨⟩)
          -∗ run c (k0_part24 (F := F) lgM h0 outM h1 chM h2 stM h3 mxM h4 smM h5 cc0_scratch4 cc0_scratch5 cc0_scratch6 cc0_scratch7 cc0_scratch8
              c v639) Kt) := by
  simp only [k0_part24_eq_skeleton]
  unfold k0_part24_skel St
  simp only [Prog.lift, Prog.bind_op, Prog.bind_ret, Prog.pure_eq_ret]
  iintro ⟨#HR, #HL, HS, H0, H1, HO, HT, HD⟩ Hk
  iapply (ship A κ c 14 0 7 3 2 (by decide) rfl rfl rfl rfl (off36_own c) rfl) $$ [H0 HT]
  · isplitl []; · iexact HR
    isplitl [H0] <;> iassumption
  iintro ⟨H0, HT⟩
  iapply (land A κ c 13 1 6 (by decide) rfl rfl) $$ [HO H1 HD]
  · isplitl []; · iexact HR
    isplitl []; · iexact HL
    isplitl [HO]; · iexact HO
    isplitl [H1] <;> iassumption
  iintro ⟨HO, H1, HD⟩
  iapply (own A c 3 rfl) $$ HS; iintro HS
  iapply (mx A c 3 rfl) $$ HS; iintro HS
  iapply (sm A c 3 rfl) $$ HS; iintro HS
  iapply (peek c 1 7 rfl) $$ H1; iintro %_ H1
  iapply (fill A c 1 7 3 3 rfl rfl) $$ H1; iintro H1
  iapply (ship A κ c 15 1 7 3 3 (by decide) rfl rfl rfl rfl (off37_own c) rfl) $$ [H1 HT]
  · isplitl []; · iexact HR
    isplitl [H1] <;> iassumption
  iintro ⟨H1, HT⟩
  iapply (run_ret c _)
  iapply Hk
  isplitl [HS]; · iexact HS
  isplitl [H0]; · iexact H0
  isplitl [H1]; · iexact H1
  isplitl [HO]; · iexact HO
  isplitl [HT] <;> iassumption

end Cert.KernelIdeal.Talk

end
-- ==== Proof.Pieces.lean ====
/- The buffers cut into their pieces and put together again. -/
module

public import proofs.«01_k».proof.Proof.Tail

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F] [Facts]

local notation "𝕄" => MT nD τ sig Unit (Elt F) ℕ UU ℕ

variable (A : Dev nD → Vec F S512x8192 .bf16) (κ : GSem nD τ sig → ℕ)

/-! ## The chunks -/

/-- The six halves make up the chunks. -/
theorem ch_cover : (Finset.univ : Finset (Fin 3 × Fin 2)).biUnion (fun t => chSet t.1 t.2) = Finset.univ := by
  ext i
  simp only [Finset.mem_biUnion, Finset.mem_univ, true_and, iff_true]
  have h0 : (i 0).val < 3 := (i 0).isLt
  have h2 : (i 2).val < 8192 := (i 2).isLt
  refine ⟨(⟨(i 0).val, h0⟩, ⟨(i 2).val / 4096, by omega⟩), mem_chSet.mpr ⟨rfl, ?_, ?_⟩⟩
  · show 4096 * ((i 2).val / 4096) ≤ _; omega
  · show _ < 4096 * ((i 2).val / 4096) + 4096; omega
/-- The six halves are disjoint. -/
theorem ch_disj (t : Fin 3 × Fin 2) (t' : Fin 3 × Fin 2) (hne : t ≠ t') : Disjoint (chSet t.1 t.2) (chSet t'.1 t'.2) := by
  rw [Finset.disjoint_left]
  intro i h h'
  rw [mem_chSet] at h h'
  exact hne (Prod.ext (Fin.ext (by omega)) (Fin.ext (by omega)))
/-- The six halves, listed with the device's own first. -/
theorem ch_order : ∀ c : Dev nD, (Finset.univ : Finset (Fin 3 × Fin 2)) = [((0 : Fin 3), xo c), (1, xo c), (2, xo c), (0, xn c), (1, xn c), (2, xn c)].toFinset := by
  decide +kernel
/-- The list repeats none. -/
theorem ch_nodup : ∀ c : Dev nD, [((0 : Fin 3), xo c), (1, xo c), (2, xo c), (0, xn c), (1, xn c), (2, xn c)].Nodup := by
  decide +kernel
/-- The buffer of the chunks, as its six halves: those along z first. -/
theorem ch_halves (c : Dev nD) (f : Vec F S3x512x8192 .bf16) :
    ((((c : Thread nD τ).loc cc0_scratch0) ↦{fullShare} f : sProp 𝕄))
      = iprop(chP c 0 (xo c) fullShare f ∗ chP c 1 (xo c) fullShare f ∗ chP c 2 (xo c) fullShare f
          ∗ chP c 0 (xn c) fullShare f ∗ chP c 1 (xn c) fullShare f ∗ chP c 2 (xn c) fullShare f) := by
  have h := pointsTo_biUnion (Ix := Unit) (Val := Elt F) (Name := ℕ) (U := UU) (Lvl := ℕ) (ℓ := (c : Thread nD τ).loc cc0_scratch0) (q := fullShare) (f := f) (Finset.univ : Finset (Fin 3 × Fin 2)) (fun t => chSet t.1 t.2)
    (fun t _ t' _ hne => ch_disj t t' hne)
  rw [ch_cover, bigSep_eq_bigSepL_of_eq _ (ch_order c) (ch_nodup c)] at h
  exact h

/-- A half put together from its three shares. -/
theorem ch_back (c : Dev nD) (h : Fin 3) (p : Fin 2) (f : Vec F S3x512x8192 .bf16) :
    iprop(chP c h p hopQ f ∗ chP c h p pushQ f ∗ chP c h p keepQ f) ⊢ (chP c h p fullShare f : sProp 𝕄) := by
  iintro ⟨H1, H2, H3⟩
  iapply (pointsTo_share (PosShare.mem_left_op_right fullShare)).2
  isplitl [H1]; · iexact H1
  iapply (pointsTo_share (PosShare.mem_left_op_right fullShare.right)).2
  isplitl [H2]; · iexact H2
  iexact H3

/-! ## The logits -/

/-- The two halves make up the logits. -/
theorem lg_cover : (Finset.univ : Finset (Fin 2)).biUnion lgSet = Finset.univ := by
  ext i
  simp only [Finset.mem_biUnion, Finset.mem_univ, true_and, iff_true]
  have h1 : (i 1).val < 8192 := (i 1).isLt
  refine ⟨⟨(i 1).val / 4096, by omega⟩, mem_lgSet.mpr ⟨?_, ?_⟩⟩
  · show 4096 * ((i 1).val / 4096) ≤ _; omega
  · show _ < 4096 * ((i 1).val / 4096) + 4096; omega
/-- The two halves are disjoint. -/
theorem lg_disj (p p' : Fin 2) (hne : p ≠ p') : Disjoint (lgSet p) (lgSet p') := by
  rw [Finset.disjoint_left]
  intro i h h'
  rw [mem_lgSet] at h h'
  exact hne (Fin.ext (by omega))
/-- The two halves, listed with the device's own first. -/
theorem half_order : ∀ c : Dev nD, (Finset.univ : Finset (Fin 2)) = [xo c, xn c].toFinset := by decide +kernel
/-- The list repeats none. -/
theorem half_nodup : ∀ c : Dev nD, [xo c, xn c].Nodup := by decide +kernel
/-- The logits are their two halves. -/
theorem lg_halves (c : Dev nD) (q : PosShare TreeShare) (f : Vec F S512x8192 .bf16) :
    ((((c : Thread nD τ).loc cc0_stg0_0) ↦{q} f : sProp 𝕄)) = iprop(lgP c (xo c) q f ∗ lgP c (xn c) q f) := by
  have h := pointsTo_biUnion (Ix := Unit) (Val := Elt F) (Name := ℕ) (U := UU) (Lvl := ℕ) (ℓ := (c : Thread nD τ).loc cc0_stg0_0) (q := q) (f := f) (Finset.univ : Finset (Fin 2)) lgSet
    (fun t _ t' _ hne => lg_disj t t' hne)
  rw [lg_cover, bigSep_eq_bigSepL_of_eq _ (half_order c) (half_nodup c)] at h
  exact h

/-! ## The staging slots -/

/-- The two slots make up the staging buffer. -/
theorem st_cover : (Finset.univ : Finset (Fin 2)).biUnion stSet = Finset.univ := by
  ext i
  simp only [Finset.mem_biUnion, Finset.mem_univ, true_and, iff_true]
  have h0 : (i 0).val < 2 := (i 0).isLt
  exact ⟨⟨(i 0).val, h0⟩, mem_stSet.mpr rfl⟩
/-- The two slots are disjoint. -/
theorem st_disj (p p' : Fin 2) (hne : p ≠ p') : Disjoint (stSet p) (stSet p') := by
  rw [Finset.disjoint_left]
  intro i h h'
  rw [mem_stSet] at h h'
  exact hne (Fin.ext (by omega))
/-- The staging buffer is its two slots. -/
theorem st_slots (c : Dev nD) (f : Vec F S2x128x8192 .f32) :
    ((((c : Thread nD τ).loc cc0_scratch1) ↦{fullShare} f : sProp 𝕄)) = iprop(stP c 0 f ∗ stP c 1 f) := by
  have h := pointsTo_biUnion (Ix := Unit) (Val := Elt F) (Name := ℕ) (U := UU) (Lvl := ℕ) (ℓ := (c : Thread nD τ).loc cc0_scratch1) (q := fullShare) (f := f) (Finset.univ : Finset (Fin 2)) stSet
    (fun t _ t' _ hne => st_disj t t' hne)
  rw [st_cover, bigSep_eq_bigSepL_of_eq [0, 1] (by decide) (by decide)] at h
  exact h
/-- The two slots, with whatever contents, are the staging buffer with some contents. -/
theorem st_join (c : Dev nD) : iprop((∃ f, stP c 0 f) ∗ ∃ f, stP c 1 f) ⊢ (iprop(∃ f, ((c : Thread nD τ).loc cc0_scratch1) ↦{fullShare} f) : sProp 𝕄) := by
  iintro ⟨⟨%f, H0⟩, ⟨%g, H1⟩⟩
  ihave H := (pointsTo_join (ℓ := (c : Thread nD τ).loc cc0_scratch1) (st_disj 0 1 (by decide))) $$ [H0 H1]
  · isplitl [H0] <;> iassumption
  iexists (stSet 1).piecewise g f
  have e : stSet 0 ∪ stSet 1 = Finset.univ := by
    ext i
    have h0 : (i 0).val < 2 := (i 0).isLt
    simp only [Finset.mem_union, mem_stSet, Finset.mem_univ, iff_true]
    show (i 0).val = 0 ∨ (i 0).val = 1
    omega
  rw [e]
  iexact H

/-! ## The result -/

/-- Different copies write different blocks. -/
theorem cp_inj {n n' : ℕ} (hn : n < 16) (hn' : n' < 16) (hB : cpB n = cpB n') (hJ : cpJ n = cpJ n') : n = n' := by
  have h1 : n % 4 = n' % 4 := congrArg Fin.val hB
  have h2 : n / 4 % 4 = n' / 4 % 4 := congrArg Fin.val hJ
  omega
/-- The sixteen blocks make up the result. -/
theorem out_cover (c : Dev nD) : (Finset.range 16).biUnion (fun n => outSet (cpB n) (outCol c (cpJ n))) = Finset.univ := by
  ext i
  simp only [Finset.mem_biUnion, Finset.mem_univ, Finset.mem_range, iff_true]
  have h0 : (i 0).val < 512 := (i 0).isLt
  have h1 : (i 1).val < 32768 := (i 1).isLt
  have hb : (i 0).val / 128 < 4 := by omega
  have ho : (i 1).val / 8192 < 4 := by omega
  have hj := (outCol c ⟨(i 1).val / 8192, ho⟩).isLt
  refine ⟨4 * (outCol c ⟨(i 1).val / 8192, ho⟩).val + (i 0).val / 128, by omega, ?_⟩
  have e1 : cpB (4 * (outCol c ⟨(i 1).val / 8192, ho⟩).val + (i 0).val / 128) = ⟨(i 0).val / 128, hb⟩ :=
    Fin.ext (by show _ % 4 = (i 0).val / 128; omega)
  have e2 : cpJ (4 * (outCol c ⟨(i 1).val / 8192, ho⟩).val + (i 0).val / 128) = outCol c ⟨(i 1).val / 8192, ho⟩ :=
    Fin.ext (by show _ / 4 % 4 = _; omega)
  rw [e1, e2, outCol_outCol]
  refine mem_outSet.mpr ⟨⟨?_, ?_⟩, ?_, ?_⟩
  · show 128 * ((i 0).val / 128) ≤ _; omega
  · show _ < 128 * ((i 0).val / 128) + 128; omega
  · show 8192 * ((i 1).val / 8192) ≤ _; omega
  · show _ < 8192 * ((i 1).val / 8192) + 8192; omega
/-- The sixteen blocks are disjoint. -/
theorem out_disj (c : Dev nD) {n n' : ℕ} (hn : n < 16) (hn' : n' < 16) (hne : n ≠ n') :
    Disjoint (outSet (cpB n) (outCol c (cpJ n))) (outSet (cpB n') (outCol c (cpJ n'))) := by
  rw [Finset.disjoint_left]
  intro i h h'
  rw [mem_outSet] at h h'
  refine hne (cp_inj hn hn' (Fin.ext (by omega)) ?_)
  rw [← outCol_outCol c (cpJ n), ← outCol_outCol c (cpJ n')]
  exact congrArg (outCol c) (Fin.ext (by omega))
/-- The result as its sixteen blocks, in the order of the copies. -/
theorem out_blocks (c : Dev nD) (f : Vec F S512x32768 .f32) :
    ((((c : Thread nD τ).loc main_v3) ↦{fullShare} f : sProp 𝕄))
      = bigSep (Finset.range 16) fun n => outP c (cpB n) (outCol c (cpJ n)) f := by
  have h := pointsTo_biUnion (Ix := Unit) (Val := Elt F) (Name := ℕ) (U := UU) (Lvl := ℕ) (ℓ := (c : Thread nD τ).loc main_v3) (q := fullShare) (f := f) (Finset.range 16) (fun n => outSet (cpB n) (outCol c (cpJ n)))
    (fun t ht t' ht' hne => out_disj c (Finset.mem_range.mp ht) (Finset.mem_range.mp ht') hne)
  rw [out_cover] at h
  exact h
/-- At the start no block is written. -/
theorem done_none (c : Dev nD) : iprop(emp) ⊢ (done A c 0 : sProp 𝕄) := by
  unfold done
  rw [Finset.range_zero, bigSep_empty]
  exact Entails.rfl
/-- All the blocks written are the whole result. -/
theorem done_all (c : Dev nD) : (done A c 16 : sProp 𝕄) ⊢ (((c : Thread nD τ).loc main_v3) ↦{fullShare} (outC A c)) :=
  Entails.of_eq (out_blocks c (outC A c)).symm

/-- The duties of the sixteen copies. -/
def cpToks (c : Dev nD) : sProp 𝕄 :=
  bigSep (Finset.range 16) fun n => dutyTok ER (dmaC c (cp ⟨n % 2, Nat.mod_lt _ (by decide)⟩)) (n / 2) (0 : Fin 3)
/-- Sixteen blocks of one array are in particular sixteen blocks with whatever contents. -/
theorem any_blocks (c : Dev nD) (f : Vec F S512x32768 .f32) :
    (bigSep (Finset.range 16) fun n => outP c (cpB n) (outCol c (cpJ n)) f)
      ⊢ (bigSep (Finset.range 16) fun n => iprop(∃ f, outP c (cpB n) (outCol c (cpJ n)) f) : sProp 𝕄) :=
  bigSep_mono fun n _ => by
    show (outP c (cpB n) (outCol c (cpJ n)) f : sProp 𝕄) ⊢ iprop(∃ f, outP c (cpB n) (outCol c (cpJ n)) f)
    iintro H
    iexists f
    iexact H
/-- The tokens of the sixteen copies and the result's buffer, with whatever contents, are what all sixteen copies need. -/
theorem rest_all (c : Dev nD) : iprop(cpToks c ∗ ∃ f, ((c : Thread nD τ).loc main_v3) ↦{fullShare} f) ⊢ (rest c 0 : sProp 𝕄) := by
  have e : (rest c 0 : sProp 𝕄) = iprop(cpToks c ∗ bigSep (Finset.range 16) fun n => iprop(∃ f, outP c (cpB n) (outCol c (cpJ n)) f)) := by
    unfold cpToks rest cpTok
    rw [show Finset.Ico 0 16 = Finset.range 16 from rfl]
    exact bigSep_sep _ _ _
  rw [e]
  iintro ⟨Ht, ⟨%f, Hf⟩⟩
  isplitl [Ht]; · iexact Ht
  iapply (any_blocks c f)
  iapply (Entails.of_eq (out_blocks c f))
  iexact Hf

end Cert.KernelIdeal.Talk

end
-- ==== Proof.Whole.lean ====
/- The whole of the kernel's body, at any device. -/
module

public import proofs.«01_k».proof.Proof.Pieces

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F] [Facts]

local notation "𝕄" => MT nD τ sig Unit (Elt F) ℕ UU ℕ

variable (A : Dev nD → Vec F S512x8192 .bf16) (κ : GSem nD τ sig → ℕ)

/-! ## What the body starts from and what it ends with -/

/-- The positions of a device's fourteen transfer cells. -/
def Pos (c : Dev nD) (n m : ℕ) : sProp 𝕄 :=
  bigSep Finset.univ fun k : Fin 14 => atPos ER ((c : Thread nD τ), osem k) (if k.val < 12 then n else m) ∅ 0
/-- Round 0 of each of them is reached. -/
def Reach (c : Dev nD) : sProp 𝕄 := bigSep Finset.univ fun k : Fin 14 => reached ER ((c : Thread nD τ), osem k) 0
instance Reach_persistent (c : Dev nD) : BI.Persistent (Reach c : sProp 𝕄) := by unfold Reach; infer_instance

/-- A device's place on its semaphores, one by one. -/
theorem pos_eq (c : Dev nD) (n m : ℕ) : (Pos c n m : sProp 𝕄) = iprop(At c (zs 0) n ∗ At c (zs 1) n ∗ At c (zs 2) n ∗ At c (zr 0) n ∗ At c (zr 1) n ∗ At c (zr 2) n ∗ At c (xs 0) n ∗ At c (xs 1) n ∗ At c (xs 2) n ∗ At c (xr 0) n ∗ At c (xr 1) n ∗ At c (xr 2) n
    ∗ At c (cp 0) m ∗ At c (cp 1) m) := by
  unfold Pos
  rw [bigSep_eq_bigSepL_of_eq [0, 1, 2, 3, 4, 5, 6, 7, 8, 9, 10, 11, 12, 13] (by decide) (by decide)]
  rfl
/-- The rounds that its semaphores have reached, one by one. -/
theorem reach_eq (c : Dev nD) : (Reach c : sProp 𝕄) = iprop(Rc c (zs 0) ∗ Rc c (zs 1) ∗ Rc c (zs 2) ∗ Rc c (zr 0) ∗ Rc c (zr 1) ∗ Rc c (zr 2) ∗ Rc c (xs 0) ∗ Rc c (xs 1) ∗ Rc c (xs 2) ∗ Rc c (xr 0) ∗ Rc c (xr 1) ∗ Rc c (xr 2)
    ∗ Rc c (cp 0) ∗ Rc c (cp 1)) := by
  unfold Reach
  rw [bigSep_eq_bigSepL_of_eq [0, 1, 2, 3, 4, 5, 6, 7, 8, 9, 10, 11, 12, 13] (by decide) (by decide)]
  rfl

/-- The payments a device makes. -/
def Toks (c : Dev nD) : sProp 𝕄 :=
  iprop((dutyTok ER (barC (lf c)) 0 (0 : Fin 3) ∗ dutyTok ER (barC (rt c)) 0 (1 : Fin 3) ∗ dutyTok ER (barC (xp c)) 0 (2 : Fin 3))
    ∗ (Tok c (zs 0) ∗ Tok c (zs 1) ∗ Tok c (zs 2)) ∗ (Tok (rt c) (zr 0) ∗ Tok (rt c) (zr 1) ∗ Tok (rt c) (zr 2))
    ∗ (Tok c (xs 0) ∗ Tok c (xs 1) ∗ Tok c (xs 2)) ∗ (Tok (xp c) (xr 0) ∗ Tok (xp c) (xr 1) ∗ Tok (xp c) (xr 2)) ∗ cpToks c)
/-- The credits for what others will pay it. -/
def Creds (c : Dev nD) : sProp 𝕄 :=
  iprop(cred (tallyAt (barC c) () 3) ∗ (Cr c (zr 0) ∗ Cr c (zr 1) ∗ Cr c (zr 2)) ∗ Cr c (xr 0) ∗ Cr c (xr 1) ∗ Cr c (xr 2))
/-- The buffers of a device that the body finds with any contents. -/
def Any (c : Dev nD) : sProp 𝕄 :=
  iprop((∃ f, ((c : Thread nD τ).loc cc0_scratch0) ↦{fullShare} f) ∗ (∃ f, ((c : Thread nD τ).loc cc0_scratch1) ↦{fullShare} f)
    ∗ (∃ f, mxP c f) ∗ ∃ f, smP c f)

/-! ## The parts at the body's two ends and in its middle -/

/-- The device's number and what is computed from it. -/
theorem part1 {Kt : (Σ' (_ : Dev nD) (_ : BitVec 32) (_ : BitVec 32) (_ : BitVec 32) (_ : BitVec 32) (_ : BitVec 32) (_ : Sems sig S_), BitVec 32) → sProp 𝕄}
    (c : Dev nD) (h0 h1 h2 h3 h4 h5) :
    iprop(∀ v2 v5 v8 v19 v30 w, Kt ⟨c, v2, v5, v8, v19, v30, SemArray.scalar (sig.barrier 0 rfl), w⟩)
      ⊢ run c (k0_part1 (F := F) lgM h0 outM h1 chM h2 stM h3 mxM h4 smM h5 cc0_scratch4 cc0_scratch5 cc0_scratch6 cc0_scratch7 cc0_scratch8) Kt := by
  simp only [k0_part1_eq_skeleton]
  unfold k0_part1_skel
  simp only [Prog.lift, Prog.bind_op, Prog.bind_ret, Prog.pure_eq_ret, wp_deviceId]
  iintro Hk
  iapply (run_ret c _)
  iapply Hk

/-- The last two sends along x are over; then the first block to normalise. -/
theorem part10 {Kt : (Σ' (_ : BitVec 32), FVec F S128x8192 .f32) → sProp 𝕄} (c : Dev nD) (h0 h1 h2 h3 h4 h5) (v8 : BitVec 32) :
    iprop(records A κ ∗ levAts L lv ∗ owesE c (O6 c) ∗ Cr c (xs 1) ∗ At c (xs 1) 0 ∗ Cr c (xs 2) ∗ At c (xs 2) 0
        ∗ (chP c 0 (xo c) hopQ (chC A c) ∗ chP c 0 (xo c) pushQ (chC A c) ∗ chP c 0 (xo c) keepQ (chC A c))
        ∗ (chP c 1 (xo c) hopQ (chC A c) ∗ chP c 1 (xo c) keepQ (chC A c)) ∗ (chP c 2 (xo c) hopQ (chC A c) ∗ chP c 2 (xo c) keepQ (chC A c))
        ∗ (chP c 0 (xn c) fullShare (chC A c) ∗ chP c 1 (xn c) fullShare (chC A c) ∗ chP c 2 (xn c) fullShare (chC A c))
        ∗ lgAll A c fullShare.right ∗ msP A c 6)
      ⊢ iprop((∀ v, (owesE c 0 ∗ At c (xs 1) 1 ∗ At c (xs 2) 1 ∗ Src A c) -∗ Kt ⟨v, k0_pay53 (chRow (chC A c) 0 0) (mxSt A c 0 6).1 (mxSt A c 0 6).2⟩)
          -∗ run c (k0_part10 (F := F) lgM h0 outM h1 chM h2 stM h3 mxM h4 smM h5 cc0_scratch4 cc0_scratch5 cc0_scratch6 cc0_scratch7 cc0_scratch8
              c v8) Kt) := by
  simp only [k0_part10_eq_skeleton]
  unfold k0_part10_skel
  simp only [Prog.lift, Prog.bind_op, Prog.bind_ret, Prog.pure_eq_ret]
  iintro ⟨#HR, #HL, HO, Hc1, Ha1, Hc2, Ha2, ⟨Hh0, Hp0, Hk0⟩, ⟨Hh1, Hk1⟩, ⟨Hh2, Hk2⟩, ⟨Hn0, Hn1, Hn2⟩, Hlg, Hms⟩ Hk
  iapply (wait_half A κ c (xs 1) (by decide) 0 (Nat.le_refl 0) (above_zero 0) (P := chP c 1 (xo c) pushQ (chC A c)) rfl rfl) $$ [Hc1 HO Ha1]
  · isplitl []; · iexact HR
    isplitl []; · iexact HL
    isplitl [Hc1]; · iexact Hc1
    isplitl [HO]; · iexact HO
    iexact Ha1
  iintro ⟨HO, Ha1, Hp1⟩
  iapply (wait_half A κ c (xs 2) (by decide) 0 (Nat.le_refl 0) (above_zero 0) (P := chP c 2 (xo c) pushQ (chC A c)) rfl rfl) $$ [Hc2 HO Ha2]
  · isplitl []; · iexact HR
    isplitl []; · iexact HL
    isplitl [Hc2]; · iexact Hc2
    isplitl [HO]; · iexact HO
    iexact Ha2
  iintro ⟨HO, Ha2, Hp2⟩
  ihave HS : Src A c $$ [Hh0 Hp0 Hk0 Hh1 Hp1 Hk1 Hh2 Hp2 Hk2 Hn0 Hn1 Hn2 Hlg Hms]
  · unfold Src
    isplitr [Hlg Hms]
    · iapply (Entails.of_eq (ch_halves c (chC A c)).symm)
      isplitl [Hh0 Hp0 Hk0]
      · iapply (ch_back c 0 (xo c) (chC A c))
        isplitl [Hh0]; · iexact Hh0
        isplitl [Hp0] <;> iassumption
      isplitl [Hh1 Hp1 Hk1]
      · iapply (ch_back c 1 (xo c) (chC A c))
        isplitl [Hh1]; · iexact Hh1
        isplitl [Hp1] <;> iassumption
      isplitl [Hh2 Hp2 Hk2]
      · iapply (ch_back c 2 (xo c) (chC A c))
        isplitl [Hh2]; · iexact Hh2
        isplitl [Hp2] <;> iassumption
      isplitl [Hn0]; · iexact Hn0
      isplitl [Hn1] <;> iassumption
    isplitl [Hlg] <;> iassumption
  iapply (row A c 0 0 rfl) $$ HS; iintro HS
  iapply (mx A c 0 rfl) $$ HS; iintro HS
  iapply (sm A c 0 rfl) $$ HS; iintro HS
  iapply (run_ret c _)
  iapply Hk
  isplitl [HO]; · iexact HO
  isplitl [Ha1]; · iexact Ha1
  isplitl [Ha2] <;> iassumption
/-! ## The body -/

/-- A run followed by a run. -/
theorem bind_run {α β : Type} {Q : β → sProp 𝕄} (c : Dev nD) {p : Prog (TpuEff nD τ sig (Elt F) Λ₀ .tc) α}
    {k : α → Prog (TpuEff nD τ sig (Elt F) Λ₀ .tc) β} : run c p (fun a => run c (k a) Q) ⊢ run c (p >>= k) Q :=
  Entails.of_eq (wp_bind ..).symm

/-- The body: it pays what it owes, and leaves the result. -/
theorem whole {Kt : PUnit → sProp 𝕄} (c : Dev nD) (h0 h1 h2 h3 h4 h5) :
    iprop(records A κ ∗ levAts L lv ∗ Reach c ∗ owesE c (O₀ c) ∗ Creds c ∗ atPos ER (barC c) 0 ∅ 0 ∗ Pos c 0 0 ∗ Toks c
        ∗ lgAll A c fullShare ∗ Any c ∗ ∃ f, ((c : Thread nD τ).loc main_v3) ↦{fullShare} f)
      ⊢ iprop(((owesE c 0 ∗ atPos ER (barC c) 1 ∅ 0 ∗ Pos c 1 8 ∗ lgAll A c fullShare ∗ Any c ∗ ((c : Thread nD τ).loc main_v3) ↦{fullShare} (outC A c)) -∗ Kt ⟨⟩)
          -∗ run c (cc0_body (F := F) lgM h0 outM h1 chM h2 stM h3 mxM h4 smM h5 cc0_scratch4 cc0_scratch5 cc0_scratch6 cc0_scratch7 cc0_scratch8) Kt) := by
  rw [cc0_body_eq_skeleton, pos_eq, pos_eq, reach_eq]
  unfold cc0_body_skel Creds Toks Any
  iintro ⟨#HR, #HL, ⟨#R_zs0, #R_zs1, #R_zs2, #R_zr0, #R_zr1, #R_zr2, #R_xs0, #R_xs1, #R_xs2, #R_xr0, #R_xr1, #R_xr2, #R_cp0, #R_cp1⟩, HO, ⟨C_bar, ⟨C_zr0, C_zr1, C_zr2⟩, C_xr0, C_xr1, C_xr2⟩, A_bar,
    ⟨A_zs0, A_zs1, A_zs2, A_zr0, A_zr1, A_zr2, A_xs0, A_xs1, A_xs2, A_xr0, A_xr1, A_xr2, A_cp0, A_cp1⟩, ⟨T_bar, ⟨T_zs0, T_zs1, T_zs2⟩, ⟨T_zr0, T_zr1, T_zr2⟩, ⟨T_xs0, T_xs1, T_xs2⟩, ⟨T_xr0, T_xr1, T_xr2⟩, T_cp⟩,
    Hlg, ⟨⟨%fc, Hch⟩, ⟨%fs, Hst⟩, Hmx, Hsm⟩, Hout⟩ Hk
  ihave Hlg2 := (pointsTo_share (PosShare.mem_left_op_right fullShare)).1 $$ Hlg
  icases Hlg2 with ⟨Hll, Hlr⟩
  ihave Hll2 := (Entails.of_eq (lg_halves c fullShare.left (A c))) $$ Hll
  icases Hll2 with ⟨Hlo, Hln⟩
  ihave Hch2 := (Entails.of_eq (ch_halves c fc)) $$ Hch
  icases Hch2 with ⟨Ho0, Ho1, Ho2, Hn0, Hn1, Hn2⟩
  ihave Hst2 := (Entails.of_eq (st_slots c fs)) $$ Hst
  icases Hst2 with ⟨Hs0, Hs1⟩
  ihave HT := (rest_all c) $$ [T_cp Hout]
  · isplitl [T_cp] <;> iassumption
  ihave Hg1 : gift c (xo c) zr $$ [Ho0 Ho1 Ho2]
  · unfold gift
    isplitl [Ho0 Ho1 Ho2]
    · isplitl [Ho0]; · iexists fc; iexact Ho0
      isplitl [Ho1]; · iexists fc; iexact Ho1
      iexists fc; iexact Ho2
    isplitl []; · iexact R_zr0
    isplitl []; · iexact R_zr1
    iexact R_zr2
  ihave Hg2 : gift c (xn c) xr $$ [Hn0 Hn1 Hn2]
  · unfold gift
    isplitl [Hn0 Hn1 Hn2]
    · isplitl [Hn0]; · iexists fc; iexact Hn0
      isplitl [Hn1]; · iexists fc; iexact Hn1
      iexists fc; iexact Hn2
    isplitl []; · iexact R_xr0
    isplitl []; · iexact R_xr1
    iexact R_xr2
  iapply (bind_run c)
  iapply (part1 c h0 h1 h2 h3 h4 h5)
  iintro %v2 %v5 %v8 %v19 %v30 %w
  iapply (bind_run c)
  iapply (part2 A κ c h0 h1 h2 h3 h4 h5 v2 v5 v8 v19 v30 w) $$ [HO C_bar A_bar T_bar Hg1 Hg2]
  · isplitl []; · iexact HR
    isplitl []; · iexact HL
    isplitl [HO]; · iexact HO
    isplitl [C_bar]; · iexact C_bar
    isplitl [A_bar]; · iexact A_bar
    isplitl [T_bar]; · iexact T_bar
    isplitl [Hg1]; · iexact Hg1
    iexact Hg2
  iintro ⟨HO, A_bar, Hg1, Hg2⟩
  unfold gift
  icases Hg1 with ⟨⟨D_z0, D_z1, D_z2⟩, #Q_z0, #Q_z1, #Q_z2⟩
  icases Hg2 with ⟨⟨D_x0, D_x1, D_x2⟩, #Q_x0, #Q_x1, #Q_x2⟩
  iapply (bind_run c)
  iapply (part3 A κ c h0 h1 h2 h3 h4 h5 v2 v5 v30) $$ [HO Hlo Hlr Hmx Hsm D_z0 T_zs0 T_zr0 A_zs0 A_zr0 C_zr0]
  · isplitl []; · iexact HR
    isplitl []; · iexact HL
    isplitl [HO]; · iexact HO
    isplitl [Hlo]; · iexact Hlo
    isplitl [Hlr]; · iexact Hlr
    isplitl [Hmx]; · iexact Hmx
    isplitl [Hsm]; · iexact Hsm
    isplitl [D_z0 T_zs0 T_zr0]
    · isplitl [D_z0]; · iexact D_z0
      isplitl [T_zs0]; · iexact T_zs0
      isplitl []; · iexact R_zs0
      isplitl [T_zr0]; · iexact T_zr0
      iexact Q_z0
    isplitl [A_zs0]; · iexact A_zs0
    isplitl [A_zr0]; · iexact A_zr0
    iexact C_zr0
  iintro ⟨HO, Hlo, Hlr, Hms, A_zs0, A_zr0, Hc0⟩
  iapply (bind_run c)
  iapply (part4 A κ c h0 h1 h2 h3 h4 h5 v2 v5 v8) $$ [HO Hc0 D_z1 T_zs1 T_zr1 D_x0 T_xs0 T_xr0 Hms]
  · isplitl []; · iexact HR
    isplitl []; · iexact HL
    isplitl [HO]; · iexact HO
    isplitl [Hc0]; · iexact Hc0
    isplitl [D_z1 T_zs1 T_zr1]
    · isplitl [D_z1]; · iexact D_z1
      isplitl [T_zs1]; · iexact T_zs1
      isplitl []; · iexact R_zs1
      isplitl [T_zr1]; · iexact T_zr1
      iexact Q_z1
    isplitl [D_x0 T_xs0 T_xr0]
    · isplitl [D_x0]; · iexact D_x0
      isplitl [T_xs0]; · iexact T_xs0
      isplitl []; · iexact R_xs0
      isplitl [T_xr0]; · iexact T_xr0
      iexact Q_x0
    iexact Hms
  iintro %r4 ⟨HO, C_zs1, C_xs0, Hk0, Hms⟩
  obtain ⟨v123, w4⟩ := r4
  iapply (bind_run c)
  iapply (part5 A κ c h0 h1 h2 h3 h4 h5 v2 v5 v8 v30 v123 w4) $$ [HO C_xr0 A_xr0 C_zs1 A_zs1 C_zr1 A_zr1 Hms]
  · isplitl []; · iexact HR
    isplitl []; · iexact HL
    isplitl [HO]; · iexact HO
    isplitl [C_xr0]; · iexact C_xr0
    isplitl [A_xr0]; · iexact A_xr0
    isplitl [C_zs1]; · iexact C_zs1
    isplitl [A_zs1]; · iexact A_zs1
    isplitl [C_zr1]; · iexact C_zr1
    isplitl [A_zr1]; · iexact A_zr1
    iexact Hms
  iintro ⟨HO, A_xr0, A_zs1, A_zr1, Hn0, Hh0, Hc1, Hms⟩
  iapply (bind_run c)
  iapply (part6 A κ c h0 h1 h2 h3 h4 h5 v2 v5 v8 v30) $$ [HO Hc1 D_z2 T_zs2 T_zr2 D_x1 T_xs1 T_xr1 Hms]
  · isplitl []; · iexact HR
    isplitl []; · iexact HL
    isplitl [HO]; · iexact HO
    isplitl [Hc1]; · iexact Hc1
    isplitl [D_z2 T_zs2 T_zr2]
    · isplitl [D_z2]; · iexact D_z2
      isplitl [T_zs2]; · iexact T_zs2
      isplitl []; · iexact R_zs2
      isplitl [T_zr2]; · iexact T_zr2
      iexact Q_z2
    isplitl [D_x1 T_xs1 T_xr1]
    · isplitl [D_x1]; · iexact D_x1
      isplitl [T_xs1]; · iexact T_xs1
      isplitl []; · iexact R_xs1
      isplitl [T_xr1]; · iexact T_xr1
      iexact Q_x1
    iexact Hms
  iintro %v188 ⟨HO, C_zs2, C_xs1, Hk1, Hms⟩
  iapply (bind_run c)
  iapply (part7 A κ c h0 h1 h2 h3 h4 h5 v2 v5 v8 v188) $$ [HO Hk1 Hms C_xr1 A_xr1 C_zs2 A_zs2]
  · isplitl []; · iexact HR
    isplitl []; · iexact HL
    isplitl [HO]; · iexact HO
    isplitl [Hk1]; · iexact Hk1
    isplitl [Hms]; · iexact Hms
    isplitl [C_xr1]; · iexact C_xr1
    isplitl [A_xr1]; · iexact A_xr1
    isplitl [C_zs2]; · iexact C_zs2
    iexact A_zs2
  iintro %w7 ⟨HO, Hk1, Hms, A_xr1, A_zs2, Hn1, Hh1⟩
  iapply (bind_run c)
  iapply (part8 A κ c h0 h1 h2 h3 h4 h5 v2 v5 v8 v30 w7) $$ [HO C_zr2 A_zr2 D_x2 T_xs2 T_xr2 Hms]
  · isplitl []; · iexact HR
    isplitl []; · iexact HL
    isplitl [HO]; · iexact HO
    isplitl [C_zr2]; · iexact C_zr2
    isplitl [A_zr2]; · iexact A_zr2
    isplitl [D_x2 T_xs2 T_xr2]
    · isplitl [D_x2]; · iexact D_x2
      isplitl [T_xs2]; · iexact T_xs2
      isplitl []; · iexact R_xs2
      isplitl [T_xr2]; · iexact T_xr2
      iexact Q_x2
    iexact Hms
  iintro %v249 ⟨HO, A_zr2, C_xs2, Hh2, Hk2, Hms⟩
  iapply (bind_run c)
  iapply (part9 A κ c h0 h1 h2 h3 h4 h5 v2 v5 v8 v249) $$ [HO C_xr2 A_xr2 C_xs0 A_xs0 Hms]
  · isplitl []; · iexact HR
    isplitl []; · iexact HL
    isplitl [HO]; · iexact HO
    isplitl [C_xr2]; · iexact C_xr2
    isplitl [A_xr2]; · iexact A_xr2
    isplitl [C_xs0]; · iexact C_xs0
    isplitl [A_xs0]; · iexact A_xs0
    iexact Hms
  iintro ⟨HO, A_xr2, A_xs0, Hn2, Hp0, Hms⟩
  iapply (bind_run c)
  iapply (part10 A κ c h0 h1 h2 h3 h4 h5 v8) $$ [HO C_xs1 A_xs1 C_xs2 A_xs2 Hh0 Hp0 Hk0 Hh1 Hk1 Hh2 Hk2 Hn0 Hn1 Hn2 Hlr Hms]
  · isplitl []; · iexact HR
    isplitl []; · iexact HL
    isplitl [HO]; · iexact HO
    isplitl [C_xs1]; · iexact C_xs1
    isplitl [A_xs1]; · iexact A_xs1
    isplitl [C_xs2]; · iexact C_xs2
    isplitl [A_xs2]; · iexact A_xs2
    isplitl [Hh0 Hp0 Hk0]
    · isplitl [Hh0]; · iexact Hh0
      isplitl [Hp0]; · iexact Hp0
      iexact Hk0
    isplitl [Hh1 Hk1]
    · isplitl [Hh1]; · iexact Hh1
      iexact Hk1
    isplitl [Hh2 Hk2]
    · isplitl [Hh2]; · iexact Hh2
      iexact Hk2
    isplitl [Hn0 Hn1 Hn2]
    · isplitl [Hn0]; · iexact Hn0
      isplitl [Hn1]; · iexact Hn1
      iexact Hn2
    isplitl [Hlr]; · iexact Hlr
    iexact Hms
  iintro %v298 ⟨HO, A_xs1, A_xs2, HS⟩
  ihave HX : St A c (Idle c 0 0) (Idle c 1 0) 0 0 $$ [HO HS HT Hs0 Hs1 A_cp0 A_cp1]
  · unfold St Idle
    isplitl [HS]; · iexact HS
    isplitl [Hs0 A_cp0]
    · isplitl [Hs0]; · iexists fs; iexact Hs0
      isplitl [A_cp0]; · iexact A_cp0
      iexact R_cp0
    isplitl [Hs1 A_cp1]
    · isplitl [Hs1]; · iexists fs; iexact Hs1
      isplitl [A_cp1]; · iexact A_cp1
      iexact R_cp1
    isplitl [HO]; · iexact HO
    isplitl [HT]; · iexact HT
    iapply (done_none A c)
    iempintro
  iapply (bind_run c)
  iapply (part11 A κ c h0 h1 h2 h3 h4 h5 v298) $$ [HX]
  · isplitl []; · iexact HR
    isplitl []; · iexact HL
    iexact HX
  iintro HX
  iapply (bind_run c)
  iapply (part12 A κ c h0 h1 h2 h3 h4 h5 v298) $$ [HX]
  · isplitl []; · iexact HR
    isplitl []; · iexact HL
    iexact HX
  iintro HX
  iapply (bind_run c)
  iapply (part13 A κ c h0 h1 h2 h3 h4 h5 v8 v298) $$ [HX]
  · isplitl []; · iexact HR
    isplitl []; · iexact HL
    iexact HX
  iintro %v404 HX
  iapply (bind_run c)
  iapply (part14 A κ c h0 h1 h2 h3 h4 h5 v8 v404) $$ [HX]
  · isplitl []; · iexact HR
    isplitl []; · iexact HL
    iexact HX
  iintro %v405 HX
  iapply (bind_run c)
  iapply (part15 A κ c h0 h1 h2 h3 h4 h5 v405) $$ [HX]
  · isplitl []; · iexact HR
    isplitl []; · iexact HL
    iexact HX
  iintro HX
  iapply (bind_run c)
  iapply (part16 A κ c h0 h1 h2 h3 h4 h5 v405) $$ [HX]
  · isplitl []; · iexact HR
    isplitl []; · iexact HL
    iexact HX
  iintro HX
  iapply (bind_run c)
  iapply (part17 A κ c h0 h1 h2 h3 h4 h5 v8 v405) $$ [HX]
  · isplitl []; · iexact HR
    isplitl []; · iexact HL
    iexact HX
  iintro %v522 HX
  iapply (bind_run c)
  iapply (part18 A κ c h0 h1 h2 h3 h4 h5 v522) $$ [HX]
  · isplitl []; · iexact HR
    isplitl []; · iexact HL
    iexact HX
  iintro HX
  iapply (bind_run c)
  iapply (part19 A κ c h0 h1 h2 h3 h4 h5 v522) $$ [HX]
  · isplitl []; · iexact HR
    isplitl []; · iexact HL
    iexact HX
  iintro HX
  iapply (bind_run c)
  iapply (part20 A κ c h0 h1 h2 h3 h4 h5 v522) $$ [HX]
  · isplitl []; · iexact HR
    isplitl []; · iexact HL
    iexact HX
  iintro %w20 HX
  iapply (bind_run c)
  iapply (part21 A κ c h0 h1 h2 h3 h4 h5 v8 v522 w20) $$ [HX]
  · isplitl []; · iexact HR
    isplitl []; · iexact HL
    iexact HX
  iintro %v639 HX
  iapply (bind_run c)
  iapply (part22 A κ c h0 h1 h2 h3 h4 h5 v639) $$ [HX]
  · isplitl []; · iexact HR
    isplitl []; · iexact HL
    iexact HX
  iintro HX
  iapply (bind_run c)
  iapply (part23 A κ c h0 h1 h2 h3 h4 h5 v639) $$ [HX]
  · isplitl []; · iexact HR
    isplitl []; · iexact HL
    iexact HX
  iintro HX
  iapply (bind_run c)
  iapply (part24 A κ c h0 h1 h2 h3 h4 h5 v639) $$ [HX]
  · isplitl []; · iexact HR
    isplitl []; · iexact HL
    iexact HX
  iintro HX
  unfold St
  icases HX with ⟨HS, H0, H1, HO, -, HD⟩
  simp only [Prog.lift, Prog.bind_op, Prog.bind_ret, Prog.pure_eq_ret]
  iapply (land A κ c 14 0 7 (by decide) rfl rfl) $$ [HO H0 HD]
  · isplitl []; · iexact HR
    isplitl []; · iexact HL
    isplitl [HO]; · iexact HO
    isplitl [H0] <;> iassumption
  iintro ⟨HO, H0, HD⟩
  iapply (land A κ c 15 1 7 (by decide) rfl rfl) $$ [HO H1 HD]
  · isplitl []; · iexact HR
    isplitl []; · iexact HL
    isplitl [HO]; · iexact HO
    isplitl [H1] <;> iassumption
  iintro ⟨HO, H1, HD⟩
  unfold Idle Src msP
  icases H0 with ⟨Hs0, A_cp0, -⟩
  icases H1 with ⟨Hs1, A_cp1, -⟩
  icases HS with ⟨Hch, Hlr, Hmx, Hsm⟩
  iapply (run_ret c _)
  iapply Hk
  isplitl [HO]; · iexact HO
  isplitl [A_bar]; · iexact A_bar
  isplitl [A_zs0 A_zs1 A_zs2 A_zr0 A_zr1 A_zr2 A_xs0 A_xs1 A_xs2 A_xr0 A_xr1 A_xr2 A_cp0 A_cp1]
  · isplitl [A_zs0]; · iexact A_zs0
    isplitl [A_zs1]; · iexact A_zs1
    isplitl [A_zs2]; · iexact A_zs2
    isplitl [A_zr0]; · iexact A_zr0
    isplitl [A_zr1]; · iexact A_zr1
    isplitl [A_zr2]; · iexact A_zr2
    isplitl [A_xs0]; · iexact A_xs0
    isplitl [A_xs1]; · iexact A_xs1
    isplitl [A_xs2]; · iexact A_xs2
    isplitl [A_xr0]; · iexact A_xr0
    isplitl [A_xr1]; · iexact A_xr1
    isplitl [A_xr2]; · iexact A_xr2
    isplitl [A_cp0]; · iexact A_cp0
    iexact A_cp1
  isplitl [Hlo Hln Hlr]
  · iapply (pointsTo_share (PosShare.mem_left_op_right fullShare)).2
    isplitl [Hlo Hln]
    · iapply (Entails.of_eq (lg_halves c fullShare.left (A c)).symm)
      isplitl [Hlo] <;> iassumption
    iexact Hlr
  isplitr [HD]
  · isplitl [Hch]; · iexists _; iexact Hch
    isplitl [Hs0 Hs1]
    · iapply (st_join c)
      isplitl [Hs0] <;> iassumption
    isplitl [Hmx]; · iexists _; iexact Hmx
    iexists _; iexact Hsm
  iapply (done_all A c)
  iexact HD

end Cert.KernelIdeal.Talk

end
-- ==== Proof.Deal.lean ====
/- What the launch deals to each device: the payments it will make, the credits for what others will pay it, and its cells,
   opened when the kernel starts and closed when it ends. -/
module

public import proofs.«01_k».proof.Proof.Whole

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

local notation "𝕄" => MT nD τ sig Unit (Elt F) ℕ UU ℕ

/-! ## The payments -/

/-- The payments to a device's cells, numbered: three to its barrier, one to each of twelve transfer cells, eight to each of
    the two cells of the result's copies. -/
def tokSem (k : Fin 31) : SemLoc sig :=
  if k.val < 3 then .reg barS
  else if h : k.val < 15 then .dma ⟨k.val - 2, by show _ < 15; omega⟩
  else .dma ⟨13 + (k.val - 15) % 2, by show _ < 15; omega⟩
def tokRound (k : Fin 31) : ℕ := if k.val < 15 then 0 else (k.val - 15) / 2
def tokDuty (k : Fin 31) : Fin 3 := if h : k.val < 3 then ⟨k.val, h⟩ else 0
/-- The 31 payments of a device are pairwise different. -/
theorem tok_inj : Function.Injective (fun k : Fin 31 => (tokSem k, tokRound k, tokDuty k)) := by decide +kernel
/-- All the payments of all the devices' cells. -/
def talkToks : Finset (GSem nD τ sig × ℕ × Fin 3) :=
  Finset.univ.map ⟨fun ck : Dev nD × Fin 31 => (((ck.1 : Thread nD τ), tokSem ck.2), tokRound ck.2, tokDuty ck.2), fun _ _ h =>
    Prod.ext (congrArg (fun t : GSem nD τ sig × ℕ × Fin 3 => t.1.1.1) h)
      (tok_inj (Prod.ext (congrArg (fun t : GSem nD τ sig × ℕ × Fin 3 => t.1.2) h) (congrArg (fun t : GSem nD τ sig × ℕ × Fin 3 => t.2) h)))⟩

/-- The payments to a device's own cells. -/
def Mine (c : Dev nD) : sProp 𝕄 :=
  iprop((dutyTok ER (barC c) 0 (0 : Fin 3) ∗ dutyTok ER (barC c) 0 (1 : Fin 3) ∗ dutyTok ER (barC c) 0 (2 : Fin 3))
    ∗ (Tok c (zs 0) ∗ Tok c (zs 1) ∗ Tok c (zs 2)) ∗ (Tok c (zr 0) ∗ Tok c (zr 1) ∗ Tok c (zr 2))
    ∗ (Tok c (xs 0) ∗ Tok c (xs 1) ∗ Tok c (xs 2)) ∗ (Tok c (xr 0) ∗ Tok c (xr 1) ∗ Tok c (xr 2)) ∗ cpToks c)

/-- The payments numbered, grouped by cell. -/
theorem mine_intro (c : Dev nD) :
    bigSep Finset.univ (fun k : Fin 31 => (dutyTok ER ((c : Thread nD τ), tokSem k) (tokRound k) (tokDuty k) : sProp 𝕄)) ⊢ Mine c := by
  rw [bigSep_eq_bigSepL_of_eq [0, 1, 2, 3, 4, 5, 6, 7, 8, 9, 10, 11, 12, 13, 14, 15, 16, 17, 18, 19, 20, 21, 22, 23, 24, 25, 26, 27, 28, 29, 30]
    (by decide) (by decide)]
  unfold Mine cpToks
  rw [bigSep_eq_bigSepL_of_eq (S := Finset.range 16) [0, 1, 2, 3, 4, 5, 6, 7, 8, 9, 10, 11, 12, 13, 14, 15] (by decide) (by decide)]
  refine (Entails.of_eq (show _ = iprop(dutyTok ER (barC c) 0 (0 : Fin 3) ∗ dutyTok ER (barC c) 0 (1 : Fin 3) ∗ dutyTok ER (barC c) 0 (2 : Fin 3)
    ∗ Tok c (zs 0) ∗ Tok c (zs 1) ∗ Tok c (zs 2) ∗ Tok c (zr 0) ∗ Tok c (zr 1) ∗ Tok c (zr 2)
    ∗ Tok c (xs 0) ∗ Tok c (xs 1) ∗ Tok c (xs 2) ∗ Tok c (xr 0) ∗ Tok c (xr 1) ∗ Tok c (xr 2)
    ∗ bigSepL [0, 1, 2, 3, 4, 5, 6, 7, 8, 9, 10, 11, 12, 13, 14, 15] fun n =>
        dutyTok ER (dmaC c (cp ⟨n % 2, Nat.mod_lt _ (by decide)⟩)) (n / 2) (0 : Fin 3)) from rfl)).trans ?_
  iintro ⟨H0, H1, H2, A0, A1, A2, B0, B1, B2, C0, C1, C2, D0, D1, D2, HE⟩
  isplitl [H0 H1 H2]; · isplitl [H0]; · iexact H0
                        isplitl [H1] <;> iassumption
  isplitl [A0 A1 A2]; · isplitl [A0]; · iexact A0
                        isplitl [A1] <;> iassumption
  isplitl [B0 B1 B2]; · isplitl [B0]; · iexact B0
                        isplitl [B1] <;> iassumption
  isplitl [C0 C1 C2]; · isplitl [C0]; · iexact C0
                        isplitl [C1] <;> iassumption
  isplitl [D0 D1 D2]; · isplitl [D0]; · iexact D0
                        isplitl [D1] <;> iassumption
  iexact HE

/-- All the payments' tokens, dealt to the devices that pay. -/
theorem toks_mine : bigSep talkToks (fun x => (dutyTok ER x.1 x.2.1 x.2.2 : sProp 𝕄)) ⊢ bigSep Finset.univ fun c : Dev nD => Mine c := by
  unfold talkToks; rw [bigSep_map, bigSep_univ_prod]
  exact bigSep_mono fun c _ => mine_intro c

/-- The right neighbour and the partner, as permutations of the devices. -/
def rtE : Dev nD ≃ Dev nD := ⟨rt, lf, lf_rt, rt_lf⟩
def xpE : Dev nD ≃ Dev nD := ⟨xp, xp, xp_xp, xp_xp⟩

/-- Each payment handed to the device that makes it. -/
theorem toks_around : (bigSep Finset.univ fun c : Dev nD => (Mine c : sProp 𝕄)) ⊢ bigSep Finset.univ fun c : Dev nD => Toks c := by
  unfold Mine Toks
  simp only [bigSep_sep']
  rw [bigSep_univ_equiv rtE.symm (fun c : Dev nD => (dutyTok ER (barC c) 0 (0 : Fin 3) : sProp 𝕄)),
    bigSep_univ_equiv rtE (fun c : Dev nD => (dutyTok ER (barC c) 0 (1 : Fin 3) : sProp 𝕄)),
    bigSep_univ_equiv xpE (fun c : Dev nD => (dutyTok ER (barC c) 0 (2 : Fin 3) : sProp 𝕄)),
    bigSep_univ_equiv rtE (fun c : Dev nD => (Tok c (zr 0) : sProp 𝕄)), bigSep_univ_equiv rtE (fun c : Dev nD => (Tok c (zr 1) : sProp 𝕄)),
    bigSep_univ_equiv rtE (fun c : Dev nD => (Tok c (zr 2) : sProp 𝕄)),
    bigSep_univ_equiv xpE (fun c : Dev nD => (Tok c (xr 0) : sProp 𝕄)), bigSep_univ_equiv xpE (fun c : Dev nD => (Tok c (xr 1) : sProp 𝕄)),
    bigSep_univ_equiv xpE (fun c : Dev nD => (Tok c (xr 2) : sProp 𝕄))]
  exact BI.Entails.refl _

/-! ## The credits -/

/-- The device whose left neighbour is `c` is its right neighbour. -/
theorem lf_eq (c d : Dev nD) : lf d = c ↔ d = rt c := ⟨fun h => by rw [← h, rt_lf], fun h => by rw [h, lf_rt]⟩
/-- The device whose right neighbour is `c` is its left neighbour. -/
theorem rt_eq (c d : Dev nD) : rt d = c ↔ d = lf c := ⟨fun h => by rw [← h, lf_rt], fun h => by rw [h, rt_lf]⟩
/-- The device whose partner is `c` is its partner. -/
theorem xp_eq (c d : Dev nD) : xp d = c ↔ d = xp c := ⟨fun h => by rw [← h, xp_xp], fun h => by rw [h, xp_xp]⟩

/-- One tally read at a cell: the devices agree and the semaphores agree, or it is zero. -/
theorem tally_at (c d : Dev nD) (s s' : SemLoc sig) (k : ℕ) :
    (tallyAt ((d : Thread nD τ), s') () k : CellTallies nD τ sig Unit) ((c : Thread nD τ), s) () = if s = s' then (if d = c then k else 0) else 0 := by
  rw [tallyAt_apply]
  by_cases hs : s = s'
  · subst hs
    rw [if_pos rfl]
    by_cases hd : d = c
    · subst hd; rw [if_pos ⟨rfl, rfl⟩, if_pos rfl]
    · rw [if_neg hd, if_neg fun h => hd (congrArg (fun g : GSem nD τ sig => g.1.1) h.1).symm]
  · rw [if_neg hs, if_neg fun h => hs (congrArg Prod.snd h.1)]

/-- What one device owes to a cell of another. -/
theorem owed_at (d c : Dev nD) (s : SemLoc sig) : O₀ d ((c : Thread nD τ), s) () =
    (if s = .dma (xr 2) then (if d = xp c then NH else 0) else 0) + (if s = .dma (xr 1) then (if d = xp c then NH else 0) else 0)
    + (if s = .dma (zr 2) then (if d = lf c then NH else 0) else 0) + (if s = .dma (xr 0) then (if d = xp c then NH else 0) else 0)
    + (if s = .dma (zr 1) then (if d = lf c then NH else 0) else 0) + (if s = .dma (zr 0) then (if d = lf c then NH else 0) else 0)
    + (if s = .reg barS then (if d = xp c then 1 else 0) else 0) + (if s = .reg barS then (if d = lf c then 1 else 0) else 0)
    + (if s = .reg barS then (if d = rt c then 1 else 0) else 0) := by
  unfold O₀ OB1 OB2 OT O1 O2 O3 O4 O5 O6
  simp only [zero_add, Pi.add_apply, Finsupp.add_apply, tally_at, lf_eq, rt_eq, xp_eq]

/-- What all the devices owe to a cell. -/
theorem owed_sum (c : Dev nD) (s : SemLoc sig) : ∑ d : Dev nD, O₀ d ((c : Thread nD τ), s) () =
    (if s = .dma (xr 2) then NH else 0) + (if s = .dma (xr 1) then NH else 0) + (if s = .dma (zr 2) then NH else 0)
    + (if s = .dma (xr 0) then NH else 0) + (if s = .dma (zr 1) then NH else 0) + (if s = .dma (zr 0) then NH else 0)
    + (if s = .reg barS then 1 else 0) + (if s = .reg barS then 1 else 0) + (if s = .reg barS then 1 else 0) := by
  have one (p : Prop) [Decidable p] (e : Dev nD) (k : ℕ) : (∑ d : Dev nD, if p then (if d = e then k else 0) else 0) = if p then k else 0 := by
    by_cases hp : p
    · simp only [if_pos hp]; rw [Finset.sum_ite_eq' Finset.univ e fun _ => k, if_pos (Finset.mem_univ _)]
    · simp only [if_neg hp, Finset.sum_const_zero]
  simp only [owed_at, Finset.sum_add_distrib, one]

/-- The launch's credit at a cell of known total. -/
theorem launch_at (c : Dev nD) (s : SemLoc sig) (k : ℕ) (h : ∑ d : Dev nD, O₀ d ((c : Thread nD τ), s) () = k) :
    tallyOn ((c : Thread nD τ), s) (launchCredit (Pipeline.owing O₀) 0 ((c : Thread nD τ), s))
      = (tallyAt ((c : Thread nD τ), s) () k : CellTallies nD τ sig Unit) := by
  unfold tallyAt; refine congrArg _ (Finsupp.ext fun u => ?_); cases u
  rw [Pipeline.launchCredit_owing, Finsupp.single_eq_same, h]

/-- All devices together owe each barrier three. -/
theorem owed_bar (c : Dev nD) : ∑ d : Dev nD, O₀ d (barC c) () = 3 := by
  rw [owed_sum]; simp
/-- All devices together owe each receive semaphore along z one half. -/
theorem owed_zr (c : Dev nD) (h : Fin 3) : ∑ d : Dev nD, O₀ d (dmaC c (zr h)) () = NH := by
  rw [owed_sum]; fin_cases h <;> simp [zr, xr]
/-- All devices together owe each receive semaphore along x one half. -/
theorem owed_xr (c : Dev nD) (h : Fin 3) : ∑ d : Dev nD, O₀ d (dmaC c (xr h)) () = NH := by
  rw [owed_sum]; fin_cases h <;> simp [zr, xr]

/-- The credits of a device for what others will pay it. -/
theorem creds (c : Dev nD) : (Pipeline.launchCred O₀ c : sProp 𝕄) ⊢ Creds c := by
  unfold Pipeline.launchCred Creds
  rw [← Finset.union_sdiff_of_subset (Finset.subset_univ
      ({.reg barS, .dma (zr 0), .dma (zr 1), .dma (zr 2), .dma (xr 0), .dma (xr 1), .dma (xr 2)} : Finset (SemLoc sig))),
    bigSep_union Finset.disjoint_sdiff,
    bigSep_eq_bigSepL_of_eq [.reg barS, .dma (zr 0), .dma (zr 1), .dma (zr 2), .dma (xr 0), .dma (xr 1), .dma (xr 2)] (by decide) (by decide)]
  simp only [bigSepL]
  rw [launch_at c _ _ (owed_bar c), launch_at c _ _ (owed_zr c 0), launch_at c _ _ (owed_zr c 1), launch_at c _ _ (owed_zr c 2),
    launch_at c _ _ (owed_xr c 0), launch_at c _ _ (owed_xr c 1), launch_at c _ _ (owed_xr c 2)]
  show iprop((cred (tallyAt (barC c) () 3) ∗ Cr c (zr 0) ∗ Cr c (zr 1) ∗ Cr c (zr 2) ∗ Cr c (xr 0) ∗ Cr c (xr 1) ∗ Cr c (xr 2)) ∗ bigSep _ _) ⊢ _
  iintro ⟨⟨HB, Z0, Z1, Z2, X0, X1, X2⟩, -⟩
  isplitl [HB]; · iexact HB
  isplitl [Z0 Z1 Z2]; · isplitl [Z0]; · iexact Z0
                        isplitl [Z1] <;> iassumption
  isplitl [X0]; · iexact X0
  isplitl [X1] <;> iassumption

/-! ## The cells opened and closed -/

variable (A : Dev nD → Vec F S512x8192 .bf16) (κ : GSem nD τ sig → ℕ)

/-- The rights to open a device's transfer cells. -/
def Opens (c : Dev nD) : sProp 𝕄 := bigSep Finset.univ fun k : Fin 14 => openTok ER ((c : Thread nD τ), osem k)

/-- A device's transfer semaphore has its invariant among the records. -/
theorem inv_sem (c : Dev nD) (k : Fin 14) :
    records A κ ⊢ (cellInv ER (Rd A) (κ ((c : Thread nD τ), osem k)) ((c : Thread nD τ), osem k) : sProp 𝕄) :=
  inv_dma A κ c ⟨1 + k.val, by have := k.isLt; show _ < 15; omega⟩ (by show 0 < 1 + k.val; omega)

/-- With its counters at zero a device opens its transfer cells. -/
theorem open_all (c : Dev nD) :
    iprop(records A κ ∗ Opens c ∗ Pipeline.ownSems0 osem c) ⊢ (|={Set.univ}=> iprop(Pos c 0 0 ∗ Reach c) : sProp 𝕄) := by
  have h1 (k : Fin 14) : iprop(records A κ ∗ (openTok ER ((c : Thread nD τ), osem k) ∗ semVal ((c : Thread nD τ), osem k) 0))
      ⊢ (|={Set.univ}=> iprop(atPos ER ((c : Thread nD τ), osem k) (if k.val < 12 then 0 else 0) ∅ 0 ∗ reached ER ((c : Thread nD τ), osem k) 0) : sProp 𝕄) := by
    rw [ite_self]
    iintro ⟨HR, Ho, Hv⟩
    iapply (Rounds.cell_open ER (Rd A) (g := ((c : Thread nD τ), osem k)) (Set.mem_univ (κ ((c : Thread nD τ), osem k))))
    isplitl [HR]; · iapply (inv_sem A κ c k); iexact HR
    isplitl [Ho] <;> iassumption
  have h2 := (bigSep_with_persistent (S := Finset.univ) (R := records A κ) fun k _ => h1 k).trans (BI.bigSep_fupd Finset.univ _)
  rw [bigSep_sep', bigSep_sep'] at h2
  exact h2

/-- Its last rounds over, a device closes its transfer cells; the counters are at zero. -/
theorem close_all (c : Dev nD) : iprop(records A κ ∗ Pos c 1 8) ⊢ (|={Set.univ}=> Pipeline.ownSems0 osem c : sProp 𝕄) := by
  have h1 (k : Fin 14) : iprop(records A κ ∗ atPos ER ((c : Thread nD τ), osem k) (if k.val < 12 then 1 else 8) ∅ 0)
      ⊢ (|={Set.univ}=> semVal ((c : Thread nD τ), osem k) 0 : sProp 𝕄) := by
    iintro ⟨HR, Ha⟩
    iapply (Rounds.cell_close ER (Rd A) (g := ((c : Thread nD τ), osem k)) (Set.mem_univ (κ ((c : Thread nD τ), osem k))) id
      (R := if k.val < 12 then 1 else 8) fun r hr => duties_dma_later A c _ r (by
        refine le_trans (le_of_eq ?_) hr
        unfold lastRound
        show (if 1 + k.val = 0 then 0 else if 1 + k.val ≤ 12 then 1 else 8) = _
        rw [if_neg (by omega)]
        exact if_congr (by omega) rfl rfl))
    isplitl [HR]; · iapply (inv_sem A κ c k); iexact HR
    iexact Ha
  exact (bigSep_with_persistent (S := Finset.univ) (R := records A κ) fun k _ => h1 k).trans (BI.bigSep_fupd Finset.univ _)

/-- The barrier's one round over, its counter is at zero. -/
theorem close_bar (c : Dev nD) : iprop(records A κ ∗ atPos ER (barC c) 1 ∅ 0) ⊢ (|={Set.univ}=> semVal (barC c) 0 : sProp 𝕄) := by
  iintro ⟨HR, Ha⟩
  iapply (Rounds.cell_close ER (Rd A) (g := barC c) (Set.mem_univ (κ (barC c))) id (duties_bar_later A c))
  isplitl [HR]; · iapply (inv_bar A κ c); iexact HR
  iexact Ha

end Cert.KernelIdeal.Talk

end
-- ==== Proof.Launch.lean ====
/- The run of the whole program on every device: the matrix product on the host, then the kernel. -/
module

public import proofs.«01_k».proof.Proof.Deal
public import proofs.«01_k».proof.Proof.Gen.KernelIdeal.Launch
public import proofs.«01_k».proof.Proof.Gen.KernelIdeal.Frame
public import Idealize.ShloMosaic.Lib.Pipeline.RegionTalk
public import Idealize.ShloMosaic.Lib.Quiescent
public import Idealize.ShloMosaic.Harness.Basic

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Smoke
open Cert.KernelIdeal.Gen Idealize.ShloMosaic.ValueIdx
open Idealize.ShloMosaic.Pipeline (Dat BodyObligation)

variable {F : FTy → Type} [FloatOps F] [Facts]

local notation "𝕄" => MT nD τ sig Unit (Elt F) ℕ UU ℕ

variable (m : (ℓ : Loc nD τ sig) → Buf (Elt F) ℓ) (ρ : Dev nD → PrngReg)

/-! ## The buffers -/

/-- A device's buffers at launch, when the kernel starts, and when it has ended. -/
abbrev V₀ (c : Dev nD) : Valuation τ sig (Elt F) := fun b => m (c, b)
abbrev V₁ (c : Dev nD) : Valuation τ sig (Elt F) := StableHlo.after hostOps0 (V₀ m c)
/-- The logits of a device. -/
abbrev lgs (c : Dev nD) : Vec F S512x8192 .bf16 := V₁ m c (Proc.devRef .tc main_v2)
abbrev V₂ (c : Dev nD) : Valuation τ sig (Elt F) := Function.update (V₁ m c) (Proc.devRef .tc main_v3) (outC (lgs m) c)

abbrev pt (c : Dev nD) (b : Ref sig .tc) (f : Buf (Elt F) ((c : Thread nD τ).loc b)) : sProp 𝕄 := ((c : Thread nD τ).loc b) ↦{fullShare} f

/-- The buffers a device holds between the program's parts; those the kernel's window does not read; the one it writes. -/
abbrev bufs : Finset (DevRef τ sig) := (StableHlo.tcRefs τ sig).filter fun b => ¬ b.isScoped
abbrev restB : Finset (DevRef τ sig) :=
  {Proc.devRef .tc main_arg0, Proc.devRef .tc main_arg1, Proc.devRef .tc main_v1, Proc.devRef .tc main_v3}
abbrev outB : Finset (DevRef τ sig) := {Proc.devRef .tc main_v3}

/-- The buffers outside the kernel, as the host code holds them. -/
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-- The buffers that the host code and the kernel use, one by one. -/
theorem bufs_eq (c : Dev nD) (W : Valuation τ sig (Elt F)) : (StableHlo.held (c : Thread nD τ) bufs W : sProp 𝕄)
    = iprop(pt c main_arg0 (W main_arg0) ∗ pt c main_arg1 (W main_arg1) ∗ pt c main_v1 (W main_v1) ∗ pt c main_v2 (W main_v2) ∗ pt c main_v3 (W main_v3)) := by
  unfold StableHlo.held
  rw [bigSep_eq_bigSepL_of_eq [Proc.devRef .tc main_arg0, Proc.devRef .tc main_arg1, Proc.devRef .tc main_v1, Proc.devRef .tc main_v2, Proc.devRef .tc main_v3]
    (by decide) (by decide)]
  rfl
/-- The buffers that the kernel leaves alone, one by one. -/
theorem restB_eq (c : Dev nD) (W : Valuation τ sig (Elt F)) : (StableHlo.held (c : Thread nD τ) restB W : sProp 𝕄)
    = iprop(pt c main_arg0 (W main_arg0) ∗ pt c main_arg1 (W main_arg1) ∗ pt c main_v1 (W main_v1) ∗ pt c main_v3 (W main_v3)) := by
  unfold StableHlo.held
  rw [bigSep_eq_bigSepL_of_eq [Proc.devRef .tc main_arg0, Proc.devRef .tc main_arg1, Proc.devRef .tc main_v1, Proc.devRef .tc main_v3] (by decide) (by decide)]
  rfl
/-- The result's buffer. -/
theorem outB_eq (c : Dev nD) (W : Valuation τ sig (Elt F)) : (StableHlo.held (c : Thread nD τ) outB W : sProp 𝕄) = pt c main_v3 (W main_v3) := by
  unfold StableHlo.held; rw [bigSep_singleton]
/-- The buffer of the kernel's argument. -/
theorem arrB_eq (c : Dev nD) (W : Valuation τ sig (Elt F)) :
    (StableHlo.held (c : Thread nD τ) (Pipeline.arrRefs (τ := τ) (pcfgs (F := F) 0).spec) W : sProp 𝕄) = pt c main_v2 (W main_v2) := by
  have e : Pipeline.arrRefs (τ := τ) (pcfgs (F := F) 0).spec = {Proc.devRef .tc main_v2} :=
    (by decide : Pipeline.arrRefs (τ := τ) spec0 = {Proc.devRef .tc main_v2})
  rw [e]; unfold StableHlo.held; rw [bigSep_singleton]

/-- After the kernel the result's buffer holds the result. -/
theorem V₂_v3 (c : Dev nD) : V₂ m c main_v3 = outC (lgs m) c := Function.update_self ..
/-- Every other buffer holds what it held before. -/
theorem V₂_ne (c : Dev nD) (b : DevRef τ sig) (h : b ≠ Proc.devRef .tc main_v3) : V₂ m c b = V₁ m c b := Function.update_of_ne h ..

/-- The one semaphore outside the kernel is the barrier's. -/
theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-! ## The kernel's region -/

/-- What stays with a device from launch to the kernel. -/
def linear (c : Dev nD) : sProp 𝕄 := iprop(atPos ER (barC c) 0 ∅ 0 ∗ Opens c ∗ Toks c)
def Tk (c : Dev nD) : sProp 𝕄 := iprop((∃ κ, records (lgs m) κ ∗ linear c) ∗ Creds c)
/-- The same with the transfer cells open. -/
def Xk (c : Dev nD) : sProp 𝕄 :=
  iprop((∃ κ, records (lgs m) κ ∗ Reach c ∗ atPos ER (barC c) 0 ∅ 0 ∗ Pos c 0 0 ∗ Toks c) ∗ Creds c ∗ levAts L lv)
def Yk (c : Dev nD) : sProp 𝕄 := semVal (barC c) 0

/-- The kernel's invariant before its one point, and after it. -/
def before (c : Dev nD) : sProp 𝕄 := iprop(Xk m c ∗ Any c ∗ (∃ r, prngReg c r) ∗ pt c main_v3 (V₁ m c main_v3))
def after (c : Dev nD) : sProp 𝕄 :=
  iprop(Yk c ∗ Pipeline.ownSems0 osem c ∗ Any c ∗ (∃ r, prngReg c r) ∗ pt c main_v3 (outC (lgs m) c))

def dat (c : Dev nD) : Pipeline.Dat τ (Elt F) Unit ℕ UU ℕ cfg0 c where
  A w := V₁ m c (Proc.devRef .tc (Pipeline.arrRef spec0 w))
  after := fun | 0 => fun _ => lgs m c | ⟨_ + 1, h⟩ => absurd h (Nat.not_lt.2 (Nat.le_add_left _ _))
  Φ t := if t.val = 0 then before m c else after m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

/-- What is owed at the kernel's start. -/
theorem owed_zero (c : Dev nD) : (pdats (F := F) m 0 c).owed 0 = O₀ c := by
  show (if ((0 : Fin (cfg0.N + 1)).val = 0) then O₀ c else 0) = O₀ c; exact if_pos rfl
/-- What is owed at its first and only grid point. -/
theorem owed_first (c : Dev nD) : (dat (F := F) m c).owed (t0_0 : Fin cfg0.N).castSucc = O₀ c := by
  show (if ((t0_0 : Fin cfg0.N).castSucc : Fin (cfg0.N + 1)).val = 0 then O₀ c else 0) = O₀ c; exact if_pos rfl
/-- At the kernel's end nothing is owed. -/
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- The window's block is the whole of the logits. -/
theorem block_eq (c : Dev nD) (t : Fin cfg0.N) : (dat (F := F) m c).blockOf 0 t = lgs m c := by
  funext x
  refine congrArg (lgs m c) (funext fun a => Fin.ext ?_)
  show 0 * S512x8192.size a + 1 * (x a).val = (x a).val
  omega

/-- The window's staging buffer holds the logits when the body starts. -/
theorem staged (c : Dev nD) (d) : (dat (F := F) m c).before 0 t0_0 d = lgs m c :=
  ((dat m c).before_in_eq_fetched 0 rfl (fun _ => rfl) (fun _ _ _ => rfl) (fun t => (block_eq m c t).symm) t0_0 d).trans (block_eq m c t0_0)

/-- What a device owes, as the pipeline states it at a point. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (owesE c O : sProp 𝕄) ⊢ (dat.owesAt () t : sProp 𝕄) := by
  unfold owesE Dat.owesAt Pipeline.owesWithin Dat.bound; rw [h0, hr]
  iintro ⟨%W, HO⟩; iexists W; isplitr; · ipureintro; exact fun _ _ => Or.inl trivial
  iexact HO
/-- And back. -/
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ owesE c O := by
  unfold owesE Dat.owesAt Pipeline.owesWithin; rw [h0]
  iintro ⟨%W, -, HO⟩; iexists W; iexact HO

/-- The kernel's body between its invariants. -/
theorem bodyRun (c : Dev nD) :
    iprop(before m c ∗ owesE c (O₀ c) ∗ lgAll (lgs m) c fullShare)
      ⊢ run c (bodyAt0 t0_0) (fun _ => iprop(after m c ∗ owesE c 0 ∗ lgAll (lgs m) c fullShare)) := by
  unfold before Xk
  iintro ⟨⟨⟨⟨%κ, #HR, #Hre, Hb, Hpos, Htok⟩, Hcr, #Hlev⟩, Hany, Hreg, Hout⟩, HO, Hlg⟩
  iapply wp_fupd
  iapply (whole (lgs m) κ c (hstage0_0 0) (Memref.isWhole_whole _) (Memref.isWhole_whole _) (Memref.isWhole_whole _) (Memref.isWhole_whole _) (Memref.isWhole_whole _))
    $$ [Hb Hpos Htok Hcr Hany Hout HO Hlg]
  · isplitr; · iexact HR
    isplitr; · iexact Hlev
    isplitr; · iexact Hre
    isplitl [HO]; · iexact HO
    isplitl [Hcr]; · iexact Hcr
    isplitl [Hb]; · iexact Hb
    isplitl [Hpos]; · iexact Hpos
    isplitl [Htok]; · iexact Htok
    isplitl [Hlg]; · iexact Hlg
    isplitl [Hany]; · iexact Hany
    iexists _; iexact Hout
  iintro ⟨HO, Hb, Hpos, Hlg, Hany, Hout⟩
  imod (close_all (lgs m) κ c) $$ [Hpos] with Hos
  · isplitr; · iexact HR
    iexact Hpos
  imod (close_bar (lgs m) κ c) $$ [Hb] with Hb
  · isplitr; · iexact HR
    iexact Hb
  imodintro
  unfold after Yk
  isplitr [HO Hlg]
  · isplitl [Hb]; · iexact Hb
    isplitl [Hos]; · iexact Hos
    isplitl [Hany]; · iexact Hany
    isplitl [Hreg]; · iexact Hreg
    iexact Hout
  isplitl [HO] <;> iassumption

/-- The kernel's body keeps what the pipeline asks of it, at its one grid point. -/
theorem body (c : Dev nD) : BodyObligation (dat (F := F) m c) defs₀ 𝒱₀ () Set.univ := fun t => by
  obtain rfl := fin_N0 t
  rw [bigSep_W0, bigSep_W0]
  show iprop(before m c ∗ (dat m c).owesAt () (t0_0 : Fin cfg0.N).castSucc ∗ ∃ d, owns (c : Thread nD τ) lgM fullShare ((dat m c).before 0 t0_0 d))
    ⊢ run c (bodyAt0 t0_0) (fun _ => iprop(after m c ∗ (dat m c).owesAt () (t0_0 : Fin cfg0.N).succ ∗ owns (c : Thread nD τ) lgM fullShare (lgs m c)))
  simp only [staged]
  rw [owns_whole]
  refine BIBase.Entails.trans (show _ ⊢ iprop(before m c ∗ owesE c (O₀ c) ∗ lgAll (lgs m) c fullShare) from ?_)
    ((bodyRun m c).trans (wp_mono _ _ _ fun _ => show iprop(after m c ∗ owesE c 0 ∗ lgAll (lgs m) c fullShare) ⊢ _ from ?_))
  · iintro ⟨HB, HO, ⟨%d, Hlg⟩⟩
    isplitl [HB]; · iexact HB
    isplitl [HO]; · iapply (owesAt_elim (dat m c) _ (O₀ c) (owed_first m c)); iexact HO
    iexact Hlg
  · iintro ⟨HB, HO, Hlg⟩
    isplitl [HB]; · iexact HB
    isplitl [HO]; · iapply (owesAt_intro (dat m c) (t0_0 : Fin cfg0.N).succ 0 (owed_last m c) rfl); iexact HO
    iexact Hlg

/-! ## The two parts of the program -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- What rides beside the buffers up to the kernel. -/
def R (c : Dev nD) : sProp 𝕄 := iprop(Tk m c ∗ (∃ r, prngReg c r) ∗ owesE c (O₀ c))

/-- The host operations touch the listed buffers only. -/
theorem ops_sub : ∀ op ∈ (hostOps0 : List (HloOp τ sig (Elt F))), op.bufs ⊆ bufs :=
  fun op h => Pipeline.sub_ucRefs op (List.forall_iff_forall_mem.mp hostOps0_sub op h)
/-- The host operations allocate nothing. -/
theorem ops_fresh : ∀ op ∈ (hostOps0 : List (HloOp τ sig (Elt F))), op.fresh = ∅ := List.forall_iff_forall_mem.mp hostOps0_fresh

/-- The host's part. -/
def seg0 : ℍ := Pipeline.HostSeg.ofOps _ _ _ _ _ bufs hostOps0 ops_sub ops_fresh (V₀ m) (R m)

/-- The facts on the program's shape that the launch asks for. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that is owed at the start lies above level 0. -/
theorem above_O₀ (c : Dev nD) : Above 0 (O₀ c) :=
  above_add (above_add (above_add (above_OT 0 c (by decide)) (xp c) (.reg barS) 1 Nat.one_pos) (rt c) (.reg barS) 1 Nat.one_pos) (lf c) (.reg barS) 1 Nat.one_pos

/-- What is owed at any point lies on cells that carry a level, and that level is above 0. -/
theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · obtain ⟨h1, h2⟩ := above_O₀ c g i h
    exact ⟨by unfold L; rw [if_pos h1]; exact Finset.mem_singleton_self _, h2⟩
  · exact absurd h (Nat.lt_irrefl 0)

/-- At the launch the semaphores' cells become the protocol's invariants. -/
theorem hopen (c : Dev nD) : iprop(Tk m c ∗ Pipeline.ownSems0 osem c ∗ levAts L lv) ⊢ (|={Set.univ}=> Xk m c : sProp 𝕄) := by
  unfold Tk Xk linear
  iintro ⟨⟨⟨%κ, #HR, Hb, Ho, Ht⟩, Hcr⟩, Hos, #Hlev⟩
  imod (open_all (lgs m) κ c) $$ [Ho Hos] with ⟨Hpos, #Hre⟩
  · isplitr; · iexact HR
    isplitl [Ho] <;> iassumption
  imodintro
  isplitl [Hb Ht Hpos]
  · iexists κ
    isplitr; · iexact HR
    isplitr; · iexact Hre
    isplitl [Hb]; · iexact Hb
    isplitl [Hpos] <;> iassumption
  isplitl [Hcr]; · iexact Hcr
  iexact Hlev

/-- The kernel's scratch buffers, with whatever contents. -/
theorem scopedRest_any (c : Dev nD) :
    (Pipeline.scopedRest (Ix := Unit) (Name := ℕ) (U := UU) (Lvl := ℕ) (Val := Elt F) (Pipeline.pin (pcfgs (F := F)) adm 0).spec c : sProp 𝕄) = Any c :=
  scopedRest0_eq c

/-- What the kernel starts from gives what the body needs. -/
theorem hin (c : Dev nD) : iprop(Pipeline.scopedRest (Pipeline.pin (pcfgs (F := F)) adm 0).spec c ∗ (∃ r, prngReg c r)
    ∗ StableHlo.held (c.tc : Thread nD τ) outB (V₁ m c) ∗ Xk m c) ⊢ (pdats m 0 c).Φ 0 := by
  rw [show (pdats m 0 c).Φ 0 = before m c from rfl, scopedRest_any, outB_eq]
  unfold before
  iintro ⟨Hs, Hp, Ho, HX⟩
  isplitl [HX]; · iexact HX
  isplitl [Hs]; · iexact Hs
  isplitl [Hp] <;> iassumption

/-- What the body leaves gives back the scratch buffers and the semaphores at zero. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
        ∗ StableHlo.held (c.tc : Thread nD τ) outB (V₂ m c) ∗ Pipeline.ownSems0 osem c ∗ Yk c) := by
  rw [show (pdats m 0 c).Φ (Fin.last _) = after m c from rfl, scopedRest_any, outB_eq, V₂_v3]
  unfold after
  iintro ⟨HY, Hos, Hs, Hp, Ho⟩
  isplitl [Hs]; · iexact Hs
  isplitl [Hp]; · iexact Hp
  isplitl [Ho]; · iexact Ho
  isplitl [Hos] <;> iassumption

set_option backward.isDefEq.respectTransparency.types false in
/-- The kernel's part. -/
def reg0 : ℝ𝕊 0 :=
  Pipeline.RegionSeg.ofTalk (pcfgs (F := F)) adm (pdats m) () defs₀ 𝒱₀ L lv 0 osem (by decide : Pipeline.OwnSemFacts spec0 osem)
    outB restB (by decide) kitP rfl (fun c => (body m c).loose)
    (fun _ => 0) O₀ (fun c => (owed_zero m c).trans (zero_add _).symm) (owed_last m) (fun _ => rfl) (fun _ w => by obtain rfl : w = 0 := Subsingleton.elim _ _; rfl)
    (V₁ m) (V₂ m) (fun c b hb => V₂_ne m c b fun h => (Finset.mem_sdiff.mp hb).2 (by rw [h]; exact Finset.mem_singleton_self _))
    (Tk m) Yk (Xk m) Yk (hopen m) (hin m) (hout m)
    (fun c => by iintro H; imodintro; iexact H)
    (fun _ => 0)
    ⟨fun c _ _ => by rw [L_tc]; exact Finset.mem_singleton_self _, fun _ w _ => by obtain rfl : w = 0 := Subsingleton.elim _ _; exact Nat.le_refl 0,
      fun c t g i h => cutD m c t g i h⟩
    (fun _ => iprop(emp))
    (fun c w => by obtain rfl : w = 0 := Subsingleton.elim _ _; rfl)
    (fun c w => by
      obtain rfl : w = 0 := Subsingleton.elim _ _
      exact ((pdats m 0 c).arrAt_in 0 rfl _).trans (V₂_ne m c (Proc.devRef .tc main_v2) (by decide)).symm)

/-- The host code leaves what the kernel starts from. -/
theorem reg_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) restB (V₁ m c) ∗ emp) ∗ Tk m c ∗ ∃ Wd, owes (c : Thread nD τ) (0 + O₀ c) Wd)
  rw [arrB_eq, bufs_eq, restB_eq, zero_add]
  unfold R owesE
  iintro ⟨⟨H0, H1, H2, H3, H4⟩, HT, Hp, HO⟩
  isplitl [H3]; · iexact H3
  isplitl [Hp]; · iexact Hp
  isplitl [H0 H1 H2 H4]
  · isplitl [H0 H1 H2 H4]
    · isplitl [H0]; · iexact H0
      isplitl [H1]; · iexact H1
      isplitl [H2] <;> iassumption
    iempintro
  isplitl [HT] <;> iassumption

/-- The kernel leaves what the program ends with. -/
theorem reg_post (c : Dev nD) : (reg0 m).post c
    ⊢ iprop((StableHlo.held (c : Thread nD τ) bufs (V₂ m c) ∗ semVal (barC c) 0) ∗ owesE c 0) := by
  show iprop(StableHlo.held (c.tc : Thread nD τ) (Pipeline.arrRefs (τ := τ) (pcfgs (F := F) 0).spec) (V₂ m c) ∗ (∃ r, prngReg c r)
    ∗ (StableHlo.held (c.tc : Thread nD τ) restB (V₂ m c) ∗ emp) ∗ Yk c ∗ ∃ Wd, owes (c : Thread nD τ) (0 : CellTallies nD τ sig Unit) Wd) ⊢ _
  rw [arrB_eq, bufs_eq, restB_eq]
  unfold Yk owesE
  iintro ⟨H3, -, ⟨⟨H0, H1, H2, H4⟩, -⟩, Hb, HO⟩
  isplitr [HO]
  · isplitr [Hb]
    · isplitl [H0]; · iexact H0
      isplitl [H1]; · iexact H1
      isplitl [H2]; · iexact H2
      isplitl [H3] <;> iassumption
    iexact Hb
  iexact HO

def segs : List (Pipeline.Seg (pcfgs (F := F)) adm (pdats m) () defs₀ 𝒱₀ L lv) := [.host (seg0 m), .region (reg0 m)]

/-- The program is its host operations followed by the kernel. -/
theorem main_eq (c : Dev nD) : main (F := F) c = Pipeline.Seg.run (segs m) := main_segs adm (pdats m) () 𝒱₀ L lv (seg0 m) (reg0 m) rfl c

/-! ## The launch -/

/-- The launch element. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- The protocol's part of it, kept with device 0 until the cells are funded. -/
def G (c : Dev nD) : sProp 𝕄 := if c = 0 then BI.own (ER (launchOf barCells scCells talkToks)) else iprop(emp)
/-- The devices' parts of the protocol's state make up the whole of it. -/
theorem G_all : bigSep Finset.univ (G (F := F)) = BI.own (ER (launchOf barCells scCells talkToks)) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ R m c)
abbrev Tₙ (c : Dev nD) : sProp 𝕄 := iprop(StableHlo.held (c : Thread nD τ) bufs (V₂ m c) ∗ semVal (barC c) 0)

/-- What a device has at launch besides the protocol's ghost state. -/
def bundle (c : Dev nD) : sProp 𝕄 :=
  iprop(StableHlo.held (c : Thread nD τ) bufs (V₀ m c) ∗ Creds c ∗ owesE c (O₀ c) ∗ ∃ r, prngReg c r)

/-- What a device needs at its start, from the shared records and its own part. -/
theorem T₀_intro (κ : GSem nD τ sig → ℕ) (c : Dev nD) : iprop(records (lgs m) κ ∗ (linear c ∗ bundle m c)) ⊢ T₀ m c := by
  unfold bundle T₀ R Tk
  iintro ⟨#HR, Hl, Hh, Hcr, HO, Hp⟩
  isplitl [Hh]; · iexact Hh
  isplitl [Hl Hcr]
  · isplitl [Hl]
    · iexists κ
      isplitr; · iexact HR
      iexact Hl
    iexact Hcr
  isplitl [Hp] <;> iassumption

/-- What each device starts with, from the launch's memory and semaphores. -/
theorem core (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barC c) 0 ∗ G c)) : sProp 𝕄) := by
  rw [show unscopedBufs c (fun b => m ((c : Thread nD τ).loc b)) = StableHlo.held (c : Thread nD τ) bufs (V₀ m c) from unscopedBufs_held c (V₀ m c),
    unscopedSems0_eq]
  unfold bundle owesE
  iintro ⟨Hh, Hus, HO, Hcr, Hp, HG⟩
  isplitl [Hh HO Hcr Hp]
  · isplitl [Hh]; · iexact Hh
    isplitl [Hcr]; · iapply (creds (F := F) c); iexact Hcr
    isplitl [HO]; · iexists ∅; iexact HO
    iexists (ρ c); iexact Hp
  isplitl [Hus] <;> iassumption

/-- The launch on every device at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barC c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    Entails.of_eq (bigSep_map (s := Finset.univ) barEmb (Φ := fun g : GSem nD τ sig => (atPos ER g 0 ∅ 0 : sProp 𝕄)))
  have ho : bigSep scCells (fun g => (openTok ER g : sProp 𝕄)) ⊢ bigSep Finset.univ (fun c : Dev nD => (Opens c : sProp 𝕄)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barC c) 0 ∗ G c)) : sProp 𝕄) from bigSep_mono fun c _ => core m ρ c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells scCells talkToks)) from Entails.of_eq G_all) $$ HG
  imod (Rounds.fund_launch ER (Rd (lgs m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (lgs m) κ) (Φ := fun c => iprop(linear c ∗ bundle m c)) fun c _ => T₀_intro m κ c)
  isplitr
  · unfold records
    isplitr; · iexact Hinv
    iexact Hr
  iapply bigSep_pair
  isplitr [HB]
  · unfold linear
    iapply bigSep_pair; isplitl [Hat]; · iapply hat $$ Hat
    iapply bigSep_pair; isplitl [Hopen]; · iapply ho $$ Hopen
    iapply (toks_around (F := F))
    iapply (toks_mine (F := F)) $$ Htok
  · iexact HB

/-- The barrier's is the only semaphore outside the kernel. -/
theorem unscoped_eq : ∀ sm : SemLoc sig, sm.isScoped .tc = false → sm = .reg barS := by decide

set_option backward.isDefEq.respectTransparency.types false in
/-- The run: from any memory with the counters at zero every fair execution ends; then each device's arguments are as they
    were, its result is `outC` of the logits, and every counter is at zero. -/
theorem run_main : θ_run defs (onTc (τ := τ) (main (F := F))) ⟨m, fun _ => 0, ρ⟩
    (fun r => (∀ c : Dev nD, r.2.mem ((c : Thread nD τ).loc main_v3) = outC (lgs m) c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => (s.mem ((c : Thread nD τ).loc main_v3) = V₂ m c main_v3 ∧ s.mem ((c : Thread nD τ).loc main_arg0) = V₂ m c main_arg0
        ∧ s.mem ((c : Thread nD τ).loc main_arg1) = V₂ m c main_arg1) ∧ s.sem (barC c) = 0)
    (hfin := fun c s' => by
      dsimp only [Tₙ]; rw [bufs_eq]
      iintro ⟨⟨⟨H0, H1, H2, H3, H4⟩, Hb0⟩, HSI⟩
      icombine HSI H0 gives %h0
      icombine HSI H1 gives %h1
      icombine HSI H4 gives %h4
      icombine HSI Hb0 gives %hb
      imodintro
      isplitr
      · ipureintro
        exact ⟨⟨Buf.eq_of_forall_mem_univ h4, Buf.eq_of_forall_mem_univ h0, Buf.eq_of_forall_mem_univ h1⟩, by simpa using hb⟩
      iexact HSI)
    (hQ := fun s h hs => ⟨fun c => by
        obtain ⟨⟨h3, h0, h1⟩, -⟩ := h c
        rw [V₂_v3] at h3
        rw [V₂_ne m c _ (by decide)] at h0 h1
        exact ⟨h3, h0.trans (V_main_arg0 m c), h1.trans (V_main_arg1 m c)⟩,
      sem_eq_zero hs fun c sm hsm => by
        obtain rfl := unscoped_eq sm hsm
        exact (h c).2⟩)

end Cert.KernelIdeal.Talk

end
-- ==== Proof.Frames.lean ====
/- The frames: each program runs to its end, leaves its arguments as they were and every semaphore at zero. The two kernel
   programs are one text read at two kinds of float values, so both frames come from the one run. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Launch

@[expose] public section

noncomputable section

namespace Cert.Proof

open Idealize.ShloMosaic Idealize.SL.Sem

/-- The run with its result dropped, for any float values. -/
theorem run_frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (Cert.KernelIdeal.Talk.run_main m ρ)

/-- The two programs' body tables are the same text, case by case. -/
theorem bodies_eq : Cert.Kernel.defs₀ (F := Bits) = Cert.KernelIdeal.defs₀ := by
  unfold Cert.Kernel.defs₀ Cert.KernelIdeal.defs₀
  refine congrArg Defs.onTc ?_
  funext l a
  match l, a with
  | 0, a => rfl

/-- So their tables with the pipeline's labels are equal. -/
theorem defs_eq : Cert.Kernel.defs (F := Bits) = Cert.KernelIdeal.defs := congrArg (Pipeline.defs Cert.KernelIdeal.pcfgs) bodies_eq

/-- The kernel's frame: the run at the bit-exact float values. -/
theorem frame_kernel : Cert.quiescent_Kernel := by
  intro m ρ _
  have h := run_frame (F := Bits) m ρ
  rw [← defs_eq] at h
  exact h

/-- The idealized kernel's frame: the run at the extended reals. -/
theorem frame_ideal : Cert.quiescent_KernelIdeal := fun m ρ _ => run_frame (F := Ideal) m ρ

/-- The reference's frame. It declares no semaphore, so every counter is zero. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Online.lean ====
/- A softmax's denominator folded piece by piece: over the extended reals, with finite entries, the running maximum and the
   running sum that rescales at every new maximum are the maximum and the sum over all the entries folded so far. -/
module

public import Idealize.ShloMosaic.PureOps.Ideal
public import Idealize.ShloMosaic.Lib.IdealHost

@[expose] public section

noncomputable section

namespace Cert.Proof.Online

open Idealize.ShloMosaic
open scoped BigOperators

variable {ι κ : Type} [Fintype κ] [Nonempty κ] (L : ι → ℝ)

/-- `m` is the greatest of the entries `L` over `S`, and `s` the sum of the exponentials of what each lies below it. -/
def Folded (S : Finset ι) (m s : EReal) : Prop :=
  ∃ μ : ℝ, m = μ ∧ (∃ i ∈ S, L i = μ) ∧ (∀ i ∈ S, L i ≤ μ) ∧ s = ((∑ i ∈ S, Real.exp (L i - μ) : ℝ) : EReal)

variable {L}

/-- The exponential of a difference of reals. -/
theorem exp_sub (a b : ℝ) : Ideal.exp ((a : EReal) - (b : EReal)) = ((Real.exp (a - b) : ℝ) : EReal) := by
  rw [← EReal.coe_sub, Ideal.exp_coe]

/-- A sum of reals, read as extended reals. -/
theorem coe_sum (S : Finset ι) (f : ι → ℝ) : ((∑ i ∈ S, f i : ℝ) : EReal) = ∑ i ∈ S, ((f i : ℝ) : EReal) := by
  classical
  induction S using Finset.induction_on with
  | empty => simp
  | insert a S ha ih => rw [Finset.sum_insert ha, Finset.sum_insert ha, EReal.coe_add, ih]

/-- The greatest of a piece's entries is one of them. -/
theorem max_piece (e : κ ↪ ι) (g : κ → EReal) (hg : ∀ k, g k = L (e k)) :
    ∃ μ : ℝ, Finset.univ.fold max ⊥ g = (μ : EReal) ∧ (∃ k, L (e k) = μ) ∧ ∀ k, L (e k) ≤ μ := by
  obtain ⟨k, -, hk⟩ := Finset.exists_max_image Finset.univ (fun k => L (e k)) Finset.univ_nonempty
  refine ⟨L (e k), le_antisymm ?_ ?_, ⟨k, rfl⟩, fun k' => hk k' (Finset.mem_univ _)⟩
  · exact Finset.sup_le (f := g) fun k' _ => by rw [hg]; exact EReal.coe_le_coe_iff.mpr (hk k' (Finset.mem_univ _))
  · rw [← hg k]; exact Finset.le_sup (f := g) (Finset.mem_univ k)

/-- The sum over a piece. -/
theorem sum_piece (e : κ ↪ ι) (g : κ → EReal) (hg : ∀ k, g k = L (e k)) (μ : ℝ) :
    ∑ k, Ideal.exp (g k - (μ : EReal)) = ((∑ i ∈ Finset.univ.map e, Real.exp (L i - μ) : ℝ) : EReal) := by
  rw [coe_sum, Finset.sum_map]
  exact Finset.sum_congr rfl fun k _ => by rw [hg, exp_sub]

/-- The first piece. -/
theorem Folded.start (e : κ ↪ ι) (g : κ → EReal) (hg : ∀ k, g k = L (e k)) :
    Folded L (Finset.univ.map e) (Finset.univ.fold max ⊥ g) (∑ k, Ideal.exp (g k - Finset.univ.fold max ⊥ g)) := by
  obtain ⟨μ, hμ, ⟨k, hk⟩, hle⟩ := max_piece e g hg
  refine ⟨μ, hμ, ⟨e k, by simp, hk⟩, ?_, ?_⟩
  · intro i hi
    obtain ⟨k', -, rfl⟩ := Finset.mem_map.mp hi
    exact hle k'
  · rw [hμ, sum_piece e g hg]

/-- A further piece: the sum so far is rescaled to the new maximum, and the piece's exponentials are added. -/
theorem Folded.step [DecidableEq ι] {S : Finset ι} {m s : EReal} (h : Folded L S m s) (e : κ ↪ ι) (g : κ → EReal)
    (hg : ∀ k, g k = L (e k)) (hd : Disjoint S (Finset.univ.map e)) :
    Folded L (S ∪ Finset.univ.map e) (max m (Finset.univ.fold max ⊥ g))
      (s * Ideal.exp (m - max m (Finset.univ.fold max ⊥ g)) + ∑ k, Ideal.exp (g k - max m (Finset.univ.fold max ⊥ g))) := by
  obtain ⟨ν, rfl, ⟨i, hi, hiν⟩, hν, rfl⟩ := h
  obtain ⟨μ, hμ, ⟨k, hk⟩, hle⟩ := max_piece e g hg
  rw [hμ, show max (ν : EReal) (μ : EReal) = ((max ν μ : ℝ) : EReal) from (EReal.coe_strictMono.monotone.map_max).symm]
  refine ⟨max ν μ, rfl, ?_, ?_, ?_⟩
  · rcases le_total ν μ with hc | hc
    · exact ⟨e k, by simp, by rw [hk, max_eq_right hc]⟩
    · exact ⟨i, Finset.mem_union_left _ hi, by rw [hiν, max_eq_left hc]⟩
  · intro j hj
    rcases Finset.mem_union.mp hj with hj | hj
    · exact (hν j hj).trans (le_max_left _ _)
    · obtain ⟨k', -, rfl⟩ := Finset.mem_map.mp hj
      exact (hle k').trans (le_max_right _ _)
  · rw [exp_sub, sum_piece e g hg, ← EReal.coe_mul, ← EReal.coe_add, Finset.sum_union hd, Finset.sum_mul]
    refine congrArg _ (congrArg (· + _) (Finset.sum_congr rfl fun j _ => ?_))
    rw [← Real.exp_add]
    congr 1
    ring

/-- The entries determine both. -/
theorem Folded.unique {S : Finset ι} {m s m' s' : EReal} (h : Folded L S m s) (h' : Folded L S m' s') : m = m' ∧ s = s' := by
  obtain ⟨μ, rfl, ⟨i, hi, hiμ⟩, hμ, rfl⟩ := h
  obtain ⟨ν, rfl, ⟨j, hj, hjν⟩, hν, rfl⟩ := h'
  obtain rfl : μ = ν := le_antisymm (hiμ ▸ hν i hi) (hjν ▸ hμ j hj)
  exact ⟨rfl, rfl⟩

/-- The sum is not zero. -/
theorem Folded.ne_zero {S : Finset ι} {m s : EReal} (h : Folded L S m s) : s ≠ 0 := by
  obtain ⟨μ, rfl, ⟨i, hi, -⟩, -, rfl⟩ := h
  have : 0 < ∑ i ∈ S, Real.exp (L i - μ) := Finset.sum_pos (fun _ _ => Real.exp_pos _) ⟨i, hi⟩
  exact fun h => this.ne' (EReal.coe_eq_zero.mp h)

end Cert.Proof.Online

end
-- ==== Proof.Payloads.lean ====
/- What the kernel's stored values are at one row, over the extended reals: a row's greatest entry, the sum of the
   exponentials below it, one step of the running pair, and a row of the result. -/
module

public import proofs.«01_k».proof.Proof.Gen.KernelIdeal.Skeleton
public import Idealize.ShloMosaic.PureOps.Ideal
public import Idealize.ShloMosaic.Lib.IdealHost
public import Idealize.ShloMosaic.Lib.ValueLayout
public import Idealize.ShloMosaic.Lib.ValueLayoutCasts
public import Idealize.ShloMosaic.Lib.ValueIdxCoords
public import Idealize.ShloMosaic.Lib.Pipeline.Value

@[expose] public section

noncomputable section

namespace Cert.Proof.Payloads

open Idealize.ShloMosaic Idealize.ShloMosaic.ValueIdx
open Cert.KernelIdeal Cert.KernelIdeal.Gen
open scoped BigOperators

/-- The word of minus infinity is the least extended real. -/
theorem neg_inf : (FloatOps.ofBits (F := Ideal) .f32 0xFF800000#32 : EReal) = ⊥ := by
  show Ideal.ofBits .f32 0xFF800000#32 = ⊥
  simp [Ideal.ofBits, Ideal.ieee]

variable {a n : ℕ}

/-- A row's index with the reduced coordinate put back. -/
theorem lift_row (h : (⟨2, ![a, n]⟩ : Shape).Reduces [1] ⟨1, ![a]⟩) (i : Fin a) (k : Fin n) : h.lift (ix1 i) k = ix2 i k := by
  funext d
  match d with
  | ⟨0, _⟩ => rfl
  | ⟨1, _⟩ => rfl

/-- The greatest entry of each row. -/
theorem row_max (v : FVec Ideal ⟨2, ![a, n]⟩ .f32) (h : (⟨2, ![a, n]⟩ : Shape).Reduces [1] ⟨1, ![a]⟩) (i : Fin a) :
    multiReduction .maximumf [1] ⟨1, ![a]⟩ v 0xFF800000#32 h (.inl rfl) rfl (ix1 i)
      = Finset.univ.fold max ⊥ (fun k : Fin n => v (ix2 i k)) := by
  refine (Ideal.multiReduction_maximumf_single v _ h _ _ (ix1 i)).trans ?_
  rw [neg_inf]
  exact congrArg (fun f : Fin n → EReal => Finset.univ.fold max ⊥ f) (funext fun k => congrArg v (lift_row h i k))

/-- The sum of each row. -/
theorem row_sum (v : FVec Ideal ⟨2, ![a, n]⟩ .f32) (h : (⟨2, ![a, n]⟩ : Shape).Reduces [1] ⟨1, ![a]⟩) (i : Fin a) :
    multiReduction .add [1] ⟨1, ![a]⟩ v 0x00000000#32 h (.inl rfl) rfl (ix1 i) = ∑ k : Fin n, v (ix2 i k) := by
  exact (Ideal.multiReduction_add_single v _ h _ _ (ix1 i)).trans (Finset.sum_congr rfl fun k _ => congrArg v (lift_row h i k))

/-- A column spread over the columns of an array reads, at `(i, k)`, the column at `i`. -/
theorem spread (v : FVec Ideal ⟨2, ![a, 1]⟩ .f32) (h : (⟨2, ![a, 1]⟩ : Shape).Broadcasts ⟨2, ![a, n]⟩) (ha : a ≠ 1) (i : Fin a) (k : Fin n) :
    broadcastTo ⟨2, ![a, n]⟩ v h (ix2 i k) = v (ix2 i 0) :=
  broadcastTo_apply v h _ _ (fun d => by
    match d with
    | ⟨0, _⟩ => exact (if_neg ha).symm
    | ⟨1, _⟩ => exact (if_pos rfl).symm)

/-- The first maximum stored. -/
theorem pay3_at (v : Vec Ideal S128x8192 .bf16) (i : Fin 128) :
    k0_pay3 v (ix2 i 0) = Finset.univ.fold max ⊥ (fun k : Fin 8192 => v (ix2 i k)) := by
  unfold k0_pay3 k0_pay2
  simp only [shapeCast_self]
  refine (shapeCast_a_a1_apply _ _ _ _).trans ((row_max _ _ _).trans ?_)
  unfold k0_pay1
  simp only [shapeCast_self]
  rfl

/-- The greatest entry of a row of the device's own logits. -/
theorem pay2_at (v : Vec Ideal S128x8192 .bf16) (i : Fin 128) :
    k0_pay2 v (ix2 i 0) = Finset.univ.fold max ⊥ (fun k : Fin 8192 => v (ix2 i k)) := by
  rw [← pay3_at]; unfold k0_pay3; rw [shapeCast_self]

/-- The first sum stored. -/
theorem pay4_at (v : Vec Ideal S128x8192 .bf16) (i : Fin 128) :
    k0_pay4 v (ix2 i 0)
      = ∑ k : Fin 8192, Ideal.exp (v (ix2 i k) - Finset.univ.fold max ⊥ (fun k : Fin 8192 => v (ix2 i k))) := by
  unfold k0_pay4
  simp only [shapeCast_self]
  refine (shapeCast_a_a1_apply _ _ _ _).trans ((row_sum _ _ _).trans (Finset.sum_congr rfl fun k _ => ?_))
  show Ideal.exp (k0_pay1 v (ix2 i k) - broadcastTo S128x8192 (k0_pay2 v) _ (ix2 i k)) = _
  rw [spread _ _ (by decide), pay2_at]
  unfold k0_pay1
  rw [shapeCast_self]
  rfl

/-- A piece read as rows. -/
theorem pay5_at (v : Vec Ideal S1x128x4096 .bf16) (i : Fin 128) (k : Fin 4096) : k0_pay5 v (ix2 i k) = v (ix3 0 i k) := by
  unfold k0_pay5
  exact shapeCast_1ab_ab_apply _ _ _ _

/-- The running maximum after a piece, before it is stored. -/
theorem pay6_at (v : Vec Ideal S1x128x4096 .bf16) (m : Vec Ideal S128x1 .f32) (i : Fin 128) :
    k0_pay6 v m (ix2 i 0) = max (m (ix2 i 0)) (Finset.univ.fold max ⊥ (fun k : Fin 4096 => v (ix3 0 i k))) := by
  unfold k0_pay6
  refine congrArg (max (m (ix2 i 0))) ((shapeCast_a_a1_apply _ _ _ _).trans ((row_max _ _ _).trans ?_))
  exact congrArg (fun f : Fin 4096 → EReal => Finset.univ.fold max ⊥ f) (funext fun k => pay5_at v i k)

/-- The running maximum after a piece. -/
theorem pay8_at (v : Vec Ideal S1x128x4096 .bf16) (m : Vec Ideal S128x1 .f32) (i : Fin 128) :
    k0_pay8 v m (ix2 i 0) = max (m (ix2 i 0)) (Finset.univ.fold max ⊥ (fun k : Fin 4096 => v (ix3 0 i k))) := by
  rw [← pay6_at]; unfold k0_pay8; rw [shapeCast_self]

/-- The running sum after a piece. -/
theorem pay7_at (v : Vec Ideal S1x128x4096 .bf16) (m s : Vec Ideal S128x1 .f32) (i : Fin 128) :
    k0_pay7 v m s (ix2 i 0)
      = s (ix2 i 0) * Ideal.exp (m (ix2 i 0) - max (m (ix2 i 0)) (Finset.univ.fold max ⊥ (fun k : Fin 4096 => v (ix3 0 i k))))
        + ∑ k : Fin 4096, Ideal.exp (v (ix3 0 i k) - max (m (ix2 i 0)) (Finset.univ.fold max ⊥ (fun k : Fin 4096 => v (ix3 0 i k)))) := by
  rw [← pay6_at]
  unfold k0_pay7
  simp only [shapeCast_self]
  refine congrArg₂ (· + ·) rfl ((shapeCast_a_a1_apply _ _ _ _).trans ((row_sum _ _ _).trans (Finset.sum_congr rfl fun k _ => ?_)))
  show Ideal.exp (k0_pay5 v (ix2 i k) - broadcastTo S128x4096 (k0_pay6 v m) _ (ix2 i k)) = _
  rw [spread _ _ (by decide), pay5_at]

/-- A row of the result, from rows of the logits: the exponential below the maximum, times the sum's reciprocal. -/
theorem scaled (v : FVec Ideal S128x8192 .f32) (m s : Vec Ideal S128x1 .f32) (i : Fin 128) (y : Fin 8192)
    (h : (S128x1 : Shape).Broadcasts S128x8192) :
    mulf (exp (subf v (broadcastTo S128x8192 m h))) (broadcastTo S128x8192 (divf (broadcast S128x1 (Scalar.ofBits .f32 0x3F800000#32)) s) h) (ix2 i y)
      = Ideal.exp (v (ix2 i y) - m (ix2 i 0)) * Ideal.div 1 (s (ix2 i 0)) := by
  show Ideal.exp (v (ix2 i y) - broadcastTo S128x8192 m h (ix2 i y)) * broadcastTo S128x8192 (divf (F := Ideal) (broadcast S128x1 (Scalar.ofBits .f32 0x3F800000#32)) s) h (ix2 i y) = _
  rw [spread _ _ (by decide), spread _ _ (by decide)]
  show _ * Ideal.div (Ideal.ofBits .f32 0x3F800000#32) _ = _
  rw [Ideal.ofBits_one_f32]

/-- A row of the result, from a received chunk. -/
theorem pay56_at (v : Vec Ideal S1x128x8192 .bf16) (m s : Vec Ideal S128x1 .f32) (i : Fin 128) (y : Fin 8192) :
    k0_pay56 v m s (ix3 0 i y) = Ideal.exp (v (ix3 0 i y) - m (ix2 i 0)) * Ideal.div 1 (s (ix2 i 0)) := by
  unfold k0_pay56
  refine (shapeCast_ab_1ab_apply _ _ _ _ _).trans ((scaled _ m s i y _).trans ?_)
  exact congrArg (fun z : EReal => Ideal.exp (z - m (ix2 i 0)) * Ideal.div 1 (s (ix2 i 0))) (shapeCast_1ab_ab_apply v _ i y)

/-- A row of the result, from the device's own logits. -/
theorem pay74_at (v : Vec Ideal S128x8192 .bf16) (m s : Vec Ideal S128x1 .f32) (i : Fin 128) (y : Fin 8192) :
    k0_pay74 v m s (ix3 0 i y) = Ideal.exp (v (ix2 i y) - m (ix2 i 0)) * Ideal.div 1 (s (ix2 i 0)) := by
  unfold k0_pay74
  simp only [shapeCast_self]
  exact (shapeCast_ab_1ab_apply _ _ _ _ _).trans (scaled _ m s i y _)

end Cert.Proof.Payloads

end
-- ==== Proof.Values.lean ====
/- The values of the kernel's result over the extended reals: where every device's logits are its columns of one real
   array, the running maximum and sum reach that array's maximum and sum along each row, and the result is the softmax. -/
module

public import proofs.«01_k».proof.Proof.Blocks
public import proofs.«01_k».proof.Proof.Online
public import proofs.«01_k».proof.Proof.Payloads

@[expose] public section

noncomputable section

namespace Cert.Proof.Values

open Idealize.ShloMosaic Idealize.ShloMosaic.ValueIdx
open Cert.KernelIdeal Cert.KernelIdeal.Talk Cert.Proof.Online Cert.Proof.Payloads
open scoped BigOperators

variable (L : Fin 512 → Fin 32768 → ℝ) (A : Dev nD → Vec Ideal S512x8192 .bf16)

/-- Every device's logits are the column block of `L` that its z coordinate names. -/
def Holds : Prop :=
  ∀ (d : Dev nD) (r : Fin 512) (y : Fin 8192), A d (ix2 r y) = ((L r ⟨8192 * (d.val % 4) + y.val, by have := y.isLt; omega⟩ : ℝ) : EReal)

/-- Row `a` of row block `b`. -/
def row (b : Fin 4) (a : Fin 128) : Fin 512 := ⟨128 * b.val + a.val, by have := b.isLt; have := a.isLt; omega⟩

/-- The columns a device has folded after its own logits and `n` halves. -/
def cols (c : Dev nD) (n : ℕ) : Finset (Fin 32768) :=
  Finset.univ.filter fun x => x.val / 8192 = c.val % 4
    ∨ ∃ i, i < n ∧ x.val / 8192 = (c.val % 4 + 3 - i / 2) % 4 ∧ x.val % 8192 / 4096 = (foldHalf c i).val

/-- Which columns a device has folded. -/
theorem mem_cols {c : Dev nD} {n : ℕ} {x : Fin 32768} : x ∈ cols c n ↔ x.val / 8192 = c.val % 4
    ∨ ∃ i, i < n ∧ x.val / 8192 = (c.val % 4 + 3 - i / 2) % 4 ∧ x.val % 8192 / 4096 = (foldHalf c i).val := by
  simp [cols]

/-- The columns of the device of z coordinate `z`. -/
def own (z : Fin 4) : Fin 8192 ↪ Fin 32768 :=
  ⟨fun y => ⟨8192 * z.val + y.val, by have := z.isLt; have := y.isLt; omega⟩, fun x y h => Fin.ext (by have := congrArg Fin.val h; simp at this; omega)⟩
/-- Half `p` of them. -/
def half (z : Fin 4) (p : Fin 2) : Fin 4096 ↪ Fin 32768 :=
  ⟨fun y => ⟨8192 * z.val + (4096 * p.val + y.val), by have := z.isLt; have := p.isLt; have := y.isLt; omega⟩,
    fun x y h => Fin.ext (by have := congrArg Fin.val h; simp at this; omega)⟩

/-- Which columns the devices of a z coordinate own. -/
theorem mem_own {z : Fin 4} {x : Fin 32768} : x ∈ Finset.univ.map (own z) ↔ x.val / 8192 = z.val := by
  simp only [Finset.mem_map, Finset.mem_univ, true_and]
  constructor
  · rintro ⟨y, rfl⟩
    have := y.isLt
    show (8192 * z.val + y.val) / 8192 = z.val
    omega
  · intro h
    exact ⟨⟨x.val % 8192, Nat.mod_lt _ (by decide)⟩, Fin.ext (by show 8192 * z.val + x.val % 8192 = x.val; omega)⟩
/-- Which columns a half of them has. -/
theorem mem_half {z : Fin 4} {p : Fin 2} {x : Fin 32768} :
    x ∈ Finset.univ.map (half z p) ↔ x.val / 8192 = z.val ∧ x.val % 8192 / 4096 = p.val := by
  simp only [Finset.mem_map, Finset.mem_univ, true_and]
  have := p.isLt
  constructor
  · rintro ⟨y, rfl⟩
    have := y.isLt
    show (8192 * z.val + (4096 * p.val + y.val)) / 8192 = z.val ∧ (8192 * z.val + (4096 * p.val + y.val)) % 8192 / 4096 = p.val
    omega
  · intro h
    exact ⟨⟨x.val % 4096, Nat.mod_lt _ (by decide)⟩, Fin.ext (by show 8192 * z.val + (4096 * p.val + x.val % 4096) = x.val; omega)⟩

/-- The z coordinate of a device. -/
def zOf (c : Dev nD) : Fin 4 := ⟨c.val % 4, Nat.mod_lt _ (by decide)⟩

/-- At first a device has folded its own columns. -/
theorem cols_zero (c : Dev nD) : cols c 0 = Finset.univ.map (own (zOf c)) := by
  ext x
  rw [mem_cols, mem_own]
  simp [zOf]
/-- Each step adds one half of one chunk. -/
theorem cols_succ (c : Dev nD) (n : ℕ) (z : Fin 4) (hz : z.val = (c.val % 4 + 3 - n / 2) % 4) :
    cols c (n + 1) = cols c n ∪ Finset.univ.map (half z (foldHalf c n)) := by
  ext x
  rw [Finset.mem_union, mem_cols, mem_cols, mem_half, hz]
  constructor
  · rintro (h | ⟨i, hi, h⟩)
    · exact .inl (.inl h)
    · rcases Nat.lt_succ_iff_lt_or_eq.mp hi with hi | rfl
      · exact .inl (.inr ⟨i, hi, h⟩)
      · exact .inr h
  · rintro ((h | ⟨i, hi, h⟩) | h)
    · exact .inl h
    · exact .inr ⟨i, by omega, h⟩
    · exact .inr ⟨n, by omega, h⟩
/-- Two steps in a row fold different halves. -/
theorem foldHalf_ne (c : Dev nD) (i n : ℕ) (h : i / 2 = n / 2) (hi : i < n) : (foldHalf c i).val ≠ (foldHalf c n).val := by
  intro he
  have h0 : i % 2 = 0 := by omega
  have h1 : ¬ n % 2 = 0 := by omega
  have := Fin.ext he
  rw [foldHalf, foldHalf, if_pos h0, if_neg h1] at this
  exact xn_ne c this
/-- None of which was folded before. -/
theorem cols_disjoint (c : Dev nD) (n : ℕ) (hn : n < 6) (z : Fin 4) (hz : z.val = (c.val % 4 + 3 - n / 2) % 4) :
    Disjoint (cols c n) (Finset.univ.map (half z (foldHalf c n))) := by
  rw [Finset.disjoint_left]
  intro x hx hx'
  rw [mem_cols] at hx
  rw [mem_half, hz] at hx'
  obtain ⟨h1, h2⟩ := hx'
  rcases hx with h | ⟨i, hi, h3, h4⟩
  · omega
  · exact foldHalf_ne c i n (by omega) hi (by omega)
/-- A half is the device's own or the other. -/
theorem xo_or_xn : ∀ (c : Dev nD) (p : Fin 2), p = xo c ∨ p = xn c := by decide +kernel
/-- After the six halves of the three chunks every column is folded. -/
theorem cols_six (c : Dev nD) : cols c 6 = Finset.univ := by
  ext x
  rw [mem_cols]
  simp only [Finset.mem_univ, iff_true]
  have hx := x.isLt
  by_cases h : x.val / 8192 = c.val % 4
  · exact .inl h
  · right
    have he : ∀ j, (foldHalf c (2 * j)) = xo c := fun j => if_pos (by omega)
    have ho : ∀ j, (foldHalf c (2 * j + 1)) = xn c := fun j => if_neg (by omega)
    rcases xo_or_xn c ⟨x.val % 8192 / 4096, by omega⟩ with hp | hp
    · refine ⟨2 * ((c.val % 4 + 3 - x.val / 8192) % 4), by omega, by omega, ?_⟩
      rw [he, ← hp]
    · refine ⟨2 * ((c.val % 4 + 3 - x.val / 8192) % 4) + 1, by omega, by omega, ?_⟩
      rw [ho, ← hp]

variable {L A}

/-- A column of the device's own logits. -/
theorem lgRow_at (hA : Holds L A) (c : Dev nD) (b : Fin 4) (a : Fin 128) (y : Fin 8192) :
    lgRow (A c) b (ix2 a y) = ((L (row b a) (own (zOf c) y) : ℝ) : EReal) := hA c (row b a) y

/-- A column of a received chunk. -/
theorem chRow_at (hA : Holds L A) (c : Dev nD) (h : Fin 3) (b : Fin 4) (a : Fin 128) (y : Fin 8192) (z : Fin 4)
    (hz : z.val = (c.val % 4 + 3 - h.val) % 4) :
    chRow (chC A c) h b (ix3 0 a y) = ((L (row b a) (own z y) : ℝ) : EReal) := by
  refine (hA (src c h ⟨y.val / 4096, by have := y.isLt; omega⟩) (row b a) y).trans ?_
  refine congrArg (fun q => ((L (row b a) q : ℝ) : EReal)) (Fin.ext ?_)
  show 8192 * ((16 * (y.val / 4096) + 4 * (c.val / 4 % 4) + (c.val % 4 + 3 - h.val) % 4) % 4) + y.val = 8192 * z.val + y.val
  omega

/-- A column of half of one. -/
theorem chPiece_at (hA : Holds L A) (c : Dev nD) (h : Fin 3) (p : Fin 2) (b : Fin 4) (a : Fin 128) (y : Fin 4096) (z : Fin 4)
    (hz : z.val = (c.val % 4 + 3 - h.val) % 4) :
    chPiece (chC A c) h p b (ix3 0 a y) = ((L (row b a) (half z p y) : ℝ) : EReal) :=
  chRow_at hA c h b a ⟨4096 * p.val + y.val, by have := p.isLt; have := y.isLt; omega⟩ z hz

/-- The running maximum and sum after `n` halves are those over the columns folded. -/
theorem mxSt_folded (hA : Holds L A) (c : Dev nD) (b : Fin 4) (a : Fin 128) (n : ℕ) (hn : n ≤ 6) :
    Folded (L (row b a)) (cols c n) ((mxSt A c b n).1 (ix2 a 0)) ((mxSt A c b n).2 (ix2 a 0)) := by
  induction n with
  | zero =>
    simp only [mxSt]
    rw [pay3_at, pay4_at, cols_zero]
    exact Folded.start (own (zOf c)) _ fun y => lgRow_at hA c b a y
  | succ n ih =>
    have hz : (outCol c ⟨n / 2, by omega⟩).val = (c.val % 4 + 3 - n / 2) % 4 := rfl
    simp only [mxSt]
    rw [pay8_at, pay7_at, cols_succ c n _ hz]
    refine (ih (by omega)).step (half (outCol c ⟨n / 2, by omega⟩) (foldHalf c n)) _ (fun y => ?_) (cols_disjoint c n (by omega) _ hz)
    refine chPiece_at hA c _ _ b a y _ ?_
    show (c.val % 4 + 3 - n / 2) % 4 = (c.val % 4 + 3 - n / 2 % 3) % 4
    omega

/-- A block of the result: the exponential below the row's maximum, times the reciprocal of the row's sum. -/
theorem blkC_at (hA : Holds L A) (c : Dev nD) (j b : Fin 4) (a : Fin 128) (y : Fin 8192) :
    blkC A c j b (ix3 0 a y) = Ideal.exp (((L (row b a) (own (outCol c j) y) : ℝ) : EReal) - (mxSt A c b 6).1 (ix2 a 0))
      * Ideal.div 1 ((mxSt A c b 6).2 (ix2 a 0)) := by
  unfold blkC
  by_cases h : j.val < 3
  · rw [dif_pos h, pay56_at, chRow_at hA c ⟨j.val, h⟩ b a y (outCol c j) rfl]
  · rw [dif_neg h, pay74_at, lgRow_at hA]
    have : zOf c = outCol c j := Fin.ext (by show c.val % 4 = (c.val % 4 + 3 - j.val) % 4; have := j.isLt; omega)
    rw [this]

/-- The result is the softmax: at row `r` and column `q`, the exponential of the entry below the row's maximum `M`, divided
    by the row's sum `S`, for the maximum and the sum over all the columns. -/
theorem outC_at (hA : Holds L A) (c : Dev nD) (r : Fin 512) (q : Fin 32768) (M S : EReal) (hF : Folded (L r) Finset.univ M S) :
    outC A c (ix2 r q) = Ideal.div (Ideal.exp (((L r q : ℝ) : EReal) - M)) S := by
  have hr := r.isLt
  have hq := q.isLt
  have h1 : row ⟨r.val / 128, by omega⟩ ⟨r.val % 128, Nat.mod_lt _ (by decide)⟩ = r := Fin.ext (by show 128 * (r.val / 128) + r.val % 128 = r.val; omega)
  have h2 : own ⟨q.val / 8192, by omega⟩ ⟨q.val % 8192, Nat.mod_lt _ (by decide)⟩ = q := Fin.ext (by show 8192 * (q.val / 8192) + q.val % 8192 = q.val; omega)
  have hf := mxSt_folded hA c ⟨r.val / 128, by omega⟩ ⟨r.val % 128, Nat.mod_lt _ (by decide)⟩ 6 le_rfl
  rw [cols_six, h1] at hf
  obtain ⟨e1, e2⟩ := hf.unique hF
  show blkC A c (outCol c ⟨q.val / 8192, _⟩) ⟨r.val / 128, _⟩ (ix3 (0 : Fin 1) (⟨r.val % 128, _⟩ : Fin 128) (⟨q.val % 8192, _⟩ : Fin 8192)) = _
  rw [blkC_at hA, outCol_outCol, h1, h2, e1, e2, Ideal.mul_one_div hF.ne_zero]

end Cert.Proof.Values

end
-- ==== Proof.Softmax.lean ====
/- The reference's result over the extended reals, where its product is a real array: the softmax along each row. And the
   product of real matrices is real. -/
module

public import proofs.«01_k».proof.Proof.Gen.ReferenceIdeal
public import proofs.«01_k».proof.Proof.Online
public import proofs.«01_k».proof.Proof.Payloads
public import Idealize.ShloMosaic.Lib.KernelVsHost
public import Idealize.ShloMosaic.Lib.StackMember

@[expose] public section

noncomputable section

namespace Cert.Proof.Softmax

open Idealize.ShloMosaic Idealize.ShloMosaic.ValueIdx
open Cert.ReferenceIdeal Cert.ReferenceIdeal.Gen Cert.Proof.Online Cert.Proof.Payloads
open scoped BigOperators

/-- A column of row values spread over the columns. -/
def spreadRows (f : FVec Ideal S512 .f32) : FVec Ideal S512x32768 .f32 :=
  broadcastInDim S512x32768 ![0, 1] bcast_S512x1_S512x32768_0_1 (broadcastInDim S512x1 ![0] bcast_S512_S512x1_0 f)

/-- A spread column reads the row's value in every column. -/
theorem spreadRows_at (f : FVec Ideal S512 .f32) (r : Fin 512) (q : Fin 32768) : spreadRows f (ix2 r q) = f (ix1 r) := by
  unfold spreadRows
  refine (broadcastInDim_apply _ _ _ _ (ix2 r (0 : Fin 1)) (fun d => ?_)).trans (broadcastInDim_apply _ _ _ _ (ix1 r) (fun d => ?_))
  · match d with
    | ⟨0, _⟩ => exact (if_neg (show ¬ (512 : ℕ) = 1 by decide)).symm
    | ⟨1, _⟩ => exact (if_pos rfl).symm
  · match d with
    | ⟨0, _⟩ => exact (if_neg (show ¬ (512 : ℕ) = 1 by decide)).symm

/-- The greatest entry of each row. -/
def top (D : FVec Ideal S512x32768 .f32) : FVec Ideal S512 .f32 :=
  Host.reduce FloatOps.maximumf D (constant S_ .f32 0xFF800000#32) reducesTo_S512x32768_S512_d1 h_S_
/-- The exponentials of what each entry lies below its row's greatest. -/
def below (D : FVec Ideal S512x32768 .f32) : FVec Ideal S512x32768 .f32 := Host.exp (subf D (spreadRows (top D)))
/-- The sum of each row. -/
def total (D : FVec Ideal S512x32768 .f32) : FVec Ideal S512 .f32 :=
  Host.reduceAdd D (constant S_ .f32 0x00000000#32) reducesTo_S512x32768_S512_d1 h_S_
/-- The reference's result, from its product. -/
def softmax (D : FVec Ideal S512x32768 .f32) : FVec Ideal S512x32768 .f32 := Host.divf (below D) (spreadRows (total (below D)))

/-- The reduction drops the columns. -/
theorem reduces_rows : (S512x32768 : Shape).Reduces [1] S512 := by decide

/-- A row's greatest entry, as the greatest over its columns. -/
theorem top_at (D : FVec Ideal S512x32768 .f32) (r : Fin 512) :
    top D (ix1 r) = Finset.univ.fold max ⊥ (fun k : Fin 32768 => D (ix2 r k)) := by
  unfold top
  exact (congrFun (hostReduce_maximumf_eq_multiReduction D 0xFF800000#32 reducesTo_S512x32768_S512_d1 h_S_ reduces_rows (.inl rfl) rfl) (ix1 r)).trans
    (row_max D reduces_rows r)

/-- A row's sum, as a sum over its columns. -/
theorem total_at (D : FVec Ideal S512x32768 .f32) (r : Fin 512) : total D (ix1 r) = ∑ k : Fin 32768, D (ix2 r k) := by
  refine (Ideal.hostReduceAdd_single reducesTo_S512x32768_S512_d1 reduces_rows D _ (ix1 r)).trans ?_
  show Ideal.ofBits .f32 0x00000000#32 + _ = _
  rw [Ideal.ofBits_zero_f32, zero_add]
  exact Finset.sum_congr rfl fun k _ => congrArg D (lift_row reduces_rows r k)

/-- The exponential of an entry less the greatest of its row. -/
theorem below_at (D : FVec Ideal S512x32768 .f32) (r : Fin 512) (q : Fin 32768) :
    below D (ix2 r q) = Ideal.exp (D (ix2 r q) - Finset.univ.fold max ⊥ (fun k : Fin 32768 => D (ix2 r k))) := by
  show Ideal.exp (D (ix2 r q) - spreadRows (top D) (ix2 r q)) = _
  rw [spreadRows_at, top_at]

/-- The result is a quotient, entry by entry. -/
theorem softmax_div (D : FVec Ideal S512x32768 .f32) (i : S512x32768.Idx) :
    softmax D i = Ideal.div (below D i) (spreadRows (total (below D)) i) := by
  unfold softmax
  exact hostDivf_apply _ _ _

/-- Each entry of the result is the exponential of the entry below its row's maximum, divided by the row's sum of these. -/
theorem softmax_at (D : FVec Ideal S512x32768 .f32) (r : Fin 512) (q : Fin 32768) :
    softmax D (ix2 r q) = Ideal.div (Ideal.exp (D (ix2 r q) - Finset.univ.fold max ⊥ (fun k : Fin 32768 => D (ix2 r k))))
      (∑ k : Fin 32768, Ideal.exp (D (ix2 r k) - Finset.univ.fold max ⊥ (fun k : Fin 32768 => D (ix2 r k)))) := by
  rw [softmax_div, spreadRows_at, total_at, below_at]
  exact congrArg (Ideal.div _) (Finset.sum_congr rfl fun k _ => below_at D r k)

/-- Where a row is real, its maximum and its sum are those over all the columns. -/
theorem row_folded {n : ℕ} [NeZero n] (l : Fin n → ℝ) (g : Fin n → EReal) (hg : ∀ k, g k = ((l k : ℝ) : EReal)) :
    Folded l Finset.univ (Finset.univ.fold max ⊥ g) (∑ k, Ideal.exp (g k - Finset.univ.fold max ⊥ g)) := by
  have h := Folded.start (L := l) (Function.Embedding.refl _) g hg
  rwa [Finset.map_refl] at h

/-- The product of matrices of reals. -/
theorem product_real {M K N : ℕ} (x : FVec Ideal ⟨2, ![M, K]⟩ .bf16) (w : FVec Ideal ⟨2, ![K, N]⟩ .bf16) (X : Fin M → Fin K → ℝ) (W : Fin K → Fin N → ℝ)
    (hx : ∀ i k, x (ix2 i k) = ((X i k : ℝ) : EReal)) (hw : ∀ k j, w (ix2 k j) = ((W k j : ℝ) : EReal)) (i : Fin M) (j : Fin N) :
    (∑ k : Fin K, x (ix2 i k) * w (ix2 k j) : EReal) = ((∑ k : Fin K, X i k * W k j : ℝ) : EReal) := by
  rw [coe_sum]
  exact Finset.sum_congr rfl fun k _ => by rw [hx, hw, ← EReal.coe_mul]

end Cert.Proof.Softmax

end
-- ==== Proof.Algebraic.lean ====
/- The kernel against the reference, over the extended reals: from finite arguments every device's result is the reference's
   softmax of the whole product. -/
module

public import proofs.«01_k».proof.Defs
public import proofs.«01_k».proof.Proof.Frames
public import proofs.«01_k».proof.Proof.Values
public import proofs.«01_k».proof.Proof.Softmax

@[expose] public section

noncomputable section

namespace Cert.Proof

open Idealize.ShloMosaic Idealize.ShloMosaic.ValueIdx Idealize.SL.Sem
open Cert.Proof.Values Cert.Proof.Softmax
open scoped BigOperators

/-- The shape facts the precondition states, on a device's arguments. -/
theorem finite_kernel_facts : Cert.Pre_finite_KernelIdeal.Facts := ⟨by decide, by decide⟩
/-- The shape facts the precondition states, on the whole arguments. -/
theorem finite_reference_facts : Cert.Pre_finite_ReferenceIdeal.Facts := ⟨by decide, by decide⟩

/-- The idealized kernel's frame from finite arguments. -/
theorem frame_ideal_finite : Cert.quiescent_KernelIdeal_pre_finite_KernelIdeal (hPre_finite_KernelIdeal := finite_kernel_facts) :=
  fun m ρ _ => run_frame (F := Ideal) m ρ
/-- The reference's frame from finite arguments. -/
theorem frame_reference_finite : Cert.quiescent_ReferenceIdeal_pre_finite_ReferenceIdeal (hPre_finite_ReferenceIdeal := finite_reference_facts) :=
  fun m ρ _ => frame_reference m ρ trivial

/-! ## Finite arguments are real -/

/-- An extended real whose absolute value is below infinity is a real. -/
theorem real_of_abs_lt (a : EReal) (h : Ideal.cmp .olt (max a (-a)) (Ideal.ofBits .bf16 0x7F80#16) = 1#1) : a = ((a.toReal : ℝ) : EReal) := by
  have htop : Ideal.ofBits .bf16 0x7F80#16 = ⊤ := by simp [Ideal.ofBits, Ideal.ieee]
  rw [htop] at h
  have hlt : max a (-a) < ⊤ := by
    by_contra hn
    have : Ideal.cmp .olt (max a (-a)) ⊤ = 0#1 := by simp only [Ideal.cmp, decide_eq_false hn]; rfl
    rw [this] at h
    exact absurd h (by decide)
  have h1 := lt_of_le_of_lt (le_max_left a (-a)) hlt
  have h2 := lt_of_le_of_lt (le_max_right a (-a)) hlt
  refine (EReal.coe_toReal h1.ne ?_).symm
  rintro rfl
  exact h2.ne EReal.neg_bot

/-! ## The two programs' products -/

section
variable (m : (ℓ : Loc Cert.KernelIdeal.nD Cert.KernelIdeal.τ Cert.KernelIdeal.sig) → Buf (Elt Ideal) ℓ)

/-- A device's activations and weights, as launched. -/
abbrev xOf (c : Dev Cert.KernelIdeal.nD) : FVec Ideal ⟨2, ![512, 1024]⟩ .bf16 :=
  m ((c.tc : Thread Cert.KernelIdeal.nD Cert.KernelIdeal.τ).loc Cert.KernelIdeal.main_arg0)
abbrev wOf (c : Dev Cert.KernelIdeal.nD) : FVec Ideal ⟨2, ![1024, 8192]⟩ .bf16 :=
  m ((c.tc : Thread Cert.KernelIdeal.nD Cert.KernelIdeal.τ).loc Cert.KernelIdeal.main_arg1)

/-- A device's logits are its product. -/
theorem lgs_eq (c : Dev Cert.KernelIdeal.nD) :
    Cert.KernelIdeal.Talk.lgs m c = Host.dotGeneral (DotDims.plain 512 1024 8192) none (xOf m c) (wOf m c) := by
  unfold Cert.KernelIdeal.Talk.lgs
  after_results
  rfl

/-- An entry of a device's logits, as a sum over the 1024 inner coordinates. -/
theorem lgs_at (c : Dev Cert.KernelIdeal.nD) (r : Fin 512) (y : Fin 8192) :
    Cert.KernelIdeal.Talk.lgs m c (ix2 r y) = ∑ k : Fin 1024, xOf m c (ix2 r k) * wOf m c (ix2 k y) := by
  rw [lgs_eq]
  exact StackMember.dotGeneral_plain_apply none (xOf m c) (wOf m c) r y

/-- The column of the whole weights that column `y` of device `c`'s block is. -/
theorem block_at (c : Dev Cert.KernelIdeal.nD) (W : (⟨2, ![1024, 32768]⟩ : Shape).Idx → EReal) (k : Fin 1024) (y : Fin 8192) :
    (Layout.blockN ⟨2, ![1024, 8192]⟩ ⟨2, ![1024, 32768]⟩ (Layout.meshBlock [2, 4, 4] ![[], [2]] c) W :
        (⟨2, ![1024, 8192]⟩ : Shape).Idx → EReal) (ix2 k y)
      = W (ix2 k ⟨8192 * (c.val % 4) + y.val, by have := y.isLt; omega⟩) := by
  rw [Layout.blockN_apply]
  have h0 : Layout.meshLin [2, 4, 4] c.val [] = 0 := rfl
  have h1 : Layout.meshLin [2, 4, 4] c.val [2] = c.val % 4 :=
    (by decide +kernel : ∀ c : Fin 32, Layout.meshLin [2, 4, 4] c.val [2] = c.val % 4) c
  refine congrArg W (funext fun d => Fin.ext ((Layout.TilesN.idx_val _ _ _ _).trans ?_))
  rw [Layout.meshBlock_val]
  match d with
  | ⟨0, _⟩ =>
    refine (congrArg (fun n => n * 1024 + k.val) h0).trans ?_
    show 0 * 1024 + k.val = k.val
    omega
  | ⟨1, _⟩ =>
    refine (congrArg (fun n => n * 8192 + y.val) h1).trans ?_
    show c.val % 4 * 8192 + y.val = 8192 * (c.val % 4) + y.val
    omega

end

/-- The whole product of the reference's arguments. -/
def whole (X : FVec Ideal ⟨2, ![512, 1024]⟩ .bf16) (W : FVec Ideal ⟨2, ![1024, 32768]⟩ .bf16) : FVec Ideal ⟨2, ![512, 32768]⟩ .f32 :=
  Host.dotGeneral (DotDims.plain 512 1024 32768) none X W

/-- The real array the product is. -/
def logit (X : FVec Ideal ⟨2, ![512, 1024]⟩ .bf16) (W : FVec Ideal ⟨2, ![1024, 32768]⟩ .bf16) (r : Fin 512) (q : Fin 32768) : ℝ :=
  ∑ k : Fin 1024, (X (ix2 r k)).toReal * (W (ix2 k q)).toReal

/-- Where both arguments are real, the whole product is the real array `logit`. -/
theorem whole_at (X : FVec Ideal ⟨2, ![512, 1024]⟩ .bf16) (W : FVec Ideal ⟨2, ![1024, 32768]⟩ .bf16)
    (hX : ∀ r k, X (ix2 r k) = (((X (ix2 r k)).toReal : ℝ) : EReal)) (hW : ∀ k q, W (ix2 k q) = (((W (ix2 k q)).toReal : ℝ) : EReal))
    (r : Fin 512) (q : Fin 32768) : whole X W (ix2 r q) = ((logit X W r q : ℝ) : EReal) :=
  (StackMember.dotGeneral_plain_apply none X W r q).trans
    (product_real X W (fun r k => (X (ix2 r k)).toReal) (fun k q => (W (ix2 k q)).toReal) hX hW r q)

/-- From finite arguments, each device's result is the reference's softmax of the whole product. -/
theorem result_eq (m : (ℓ : Loc Cert.KernelIdeal.nD Cert.KernelIdeal.τ Cert.KernelIdeal.sig) → Buf (Elt Ideal) ℓ)
    (X : FVec Ideal ⟨2, ![512, 1024]⟩ .bf16) (W : FVec Ideal ⟨2, ![1024, 32768]⟩ .bf16)
    (hx : ∀ c, xOf m c = X) (hw : ∀ c, wOf m c = Layout.blockN ⟨2, ![1024, 8192]⟩ ⟨2, ![1024, 32768]⟩ (Layout.meshBlock [2, 4, 4] ![[], [2]] c) W)
    (fx : ∀ c r k, xOf m c (ix2 r k) = (((xOf m c (ix2 r k)).toReal : ℝ) : EReal))
    (fw : ∀ c k y, wOf m c (ix2 k y) = (((wOf m c (ix2 k y)).toReal : ℝ) : EReal)) (c : Dev Cert.KernelIdeal.nD) :
    Cert.KernelIdeal.Talk.outC (Cert.KernelIdeal.Talk.lgs m) c = softmax (whole X W) := by
  have hX : ∀ r k, X (ix2 r k) = (((X (ix2 r k)).toReal : ℝ) : EReal) := fun r k => hx c ▸ fx c r k
  have hwat : ∀ c k y, wOf m c (ix2 k y) = W (ix2 k ⟨8192 * (c.val % 4) + y.val, by have := y.isLt; omega⟩) :=
    fun c k y => (congrFun (hw c) _).trans (block_at c W k y)
  have hW : ∀ k q, W (ix2 k q) = (((W (ix2 k q)).toReal : ℝ) : EReal) := by
    intro k q
    have hq := q.isLt
    have h := fw ⟨q.val / 8192, by show _ < 32; omega⟩ k ⟨q.val % 8192, Nat.mod_lt _ (by decide)⟩
    rw [hwat] at h
    have e : (⟨8192 * (q.val / 8192 % 4) + q.val % 8192, by omega⟩ : Fin 32768) = q := Fin.ext (by show 8192 * (q.val / 8192 % 4) + q.val % 8192 = q.val; omega)
    exact e ▸ h
  have hA : Holds (logit X W) (Cert.KernelIdeal.Talk.lgs m) := by
    intro d r y
    rw [lgs_at, hx d]
    simp only [hwat]
    exact product_real X (fun i => W (ix2 (i 0) ⟨8192 * (d.val % 4) + (i 1).val, by have : (i 1).val < 8192 := (i 1).isLt; omega⟩)) (N := 8192)
      (fun r k => (X (ix2 r k)).toReal) (fun k y => (W (ix2 k ⟨8192 * (d.val % 4) + y.val, by have := y.isLt; omega⟩)).toReal) hX (fun k y => hW k _) r y
  funext i
  obtain ⟨r, q, rfl⟩ : ∃ (r : Fin 512) (q : Fin 32768), i = ix2 r q := ⟨_, _, eq_ix2 i⟩
  rw [softmax_at, whole_at X W hX hW r q]
  exact outC_at hA c r q _ _ (row_folded (logit X W r) (fun k => whole X W (ix2 r k)) fun k => whole_at X W hX hW r k)

/-- The kernel computes the reference. -/
theorem algebraic : Cert.algebraic_KernelIdeal_ReferenceIdeal_pre_finite_KernelIdeal (hPre_finite_KernelIdeal := finite_kernel_facts) := by
  intro m ρ m' ρ' hpre harg
  have hres := result_eq m _ _ (fun c => (harg c).1) (fun c => (harg c).2)
    (fun c r k => real_of_abs_lt _ (congrFun (hpre c).1 (ix2 r k))) (fun c k y => real_of_abs_lt _ (congrFun (hpre c).2 (ix2 k y)))
  refine ⟨_, (θ_run Cert.KernelIdeal.defs _ _).mono (fun r h c => ⟨(h.1 c).1.trans (hres c), (h.1 c).2⟩) (Cert.KernelIdeal.Talk.run_main (F := Ideal) m ρ),
    (θ_run Cert.ReferenceIdeal.defs _ _).mono (fun r h => h 0) (Cert.ReferenceIdeal.Value.run (F := Ideal) m' ρ')⟩

end Cert.Proof

end
-- ==== Proof.lean ====
/- The certificate's claim, assembled: the frames of the three programs, the idealization, and the kernel against the
   reference. -/
module

public import proofs.«01_k».proof.Defs
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, finite_kernel_facts, finite_reference_facts,
    frame_kernel, frame_ideal, frame_ideal_finite, frame_reference, frame_reference_finite, trivial, algebraic⟩

end Cert.Proof

end
